-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_log_one_hot [hPre_log_one_hot : Cert.Pre_log_one_hot.Facts] (m : (ℓ : Loc Cert.KernelIdeal.nD Cert.KernelIdeal.τ Cert.KernelIdeal.sig) → Buf (Elt Ideal) ℓ) : Prop :=
  ∀ c : Dev Cert.KernelIdeal.nD,
    (Cert.Pre_log_one_hot.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_log_one_hot [hPre_log_one_hot : Cert.Pre_log_one_hot.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_log_one_hot.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_log_one_hot [hKernelIdeal : Cert.KernelIdeal.Facts] [hPre_log_one_hot : Cert.Pre_log_one_hot.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_log_one_hot m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_log_one_hot [hReferenceIdeal : Cert.ReferenceIdeal.Facts] [hPre_log_one_hot : Cert.Pre_log_one_hot.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_log_one_hot m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log_eps" .f32 0xC28A27B5#32 ((Real.log (332307 / 332306998946228968225951765070086144) : ℝ) : EReal)

def algebraic_KernelIdeal_ReferenceIdeal_pre_log_one_hot [hKernelIdeal : Cert.KernelIdeal.Facts] [hReferenceIdeal : Cert.ReferenceIdeal.Facts] [hPre_log_one_hot : Cert.Pre_log_one_hot.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_log_one_hot m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_log_one_hot : Cert.Pre_log_one_hot.Facts),
    quiescent_Kernel (hKernel := hKernel)
    ∧ quiescent_KernelIdeal (hKernelIdeal := hKernelIdeal)
    ∧ quiescent_KernelIdeal_pre_log_one_hot (hKernelIdeal := hKernelIdeal) (hPre_log_one_hot := hPre_log_one_hot)
    ∧ quiescent_ReferenceIdeal (hReferenceIdeal := hReferenceIdeal)
    ∧ quiescent_ReferenceIdeal_pre_log_one_hot (hReferenceIdeal := hReferenceIdeal) (hPre_log_one_hot := hPre_log_one_hot)
    ∧ preserves_Kernel_KernelIdeal
    ∧ algebraic_KernelIdeal_ReferenceIdeal_pre_log_one_hot (hKernelIdeal := hKernelIdeal) (hReferenceIdeal := hReferenceIdeal) (hPre_log_one_hot := hPre_log_one_hot)
-- ==== Pre_log_one_hot.lean ====
abbrev S16x256x1x64x64 : Shape := ⟨5, ![16, 256, 1, 64, 64]⟩
abbrev S16 : Shape := ⟨1, ![16]⟩
abbrev S256x1x3x3 : Shape := ⟨4, ![256, 1, 3, 3]⟩
abbrev S256 : Shape := ⟨1, ![256]⟩
abbrev S_ : Shape := ⟨0, ![]⟩
abbrev S16x1x64x64 : Shape := ⟨4, ![16, 1, 64, 64]⟩

class Facts : Prop where
  bcast_S_S16x256x1x64x64 : S_.BroadcastsInDim S16x256x1x64x64 (![] : Fin 0 → Fin S16x256x1x64x64.rank)
  natLt_1_32 : 1 < 32
  reducesTo_S16x256x1x64x64_S16x1x64x64_d1 : S16x256x1x64x64.ReducesTo [1] S16x1x64x64
  h_S_ : 0 < S_.numel
  bcast_S_S16x1x64x64 : S_.BroadcastsInDim S16x1x64x64 (![] : Fin 0 → Fin S16x1x64x64.rank)
  reducesTo_S16x256x1x64x64_S_d0_1_2_3_4 : S16x256x1x64x64.ReducesTo [0, 1, 2, 3, 4] S_
  reducesTo_S16x1x64x64_S_d0_1_2_3 : S16x1x64x64.ReducesTo [0, 1, 2, 3] S_

variable [Facts]

def fn {F : FTy → Type} [FloatOps F] (main_arg0 : FVec F S16x256x1x64x64 .f32) (main_arg1 : IVec S16 32) (main_arg2 : FVec F S256x1x3x3 .f32) (main_arg3 : FVec F S256 .f32) : IVec S_ 1 :=
  let main_cst : FVec F S_ .f32 := constant S_ .f32 0x00000000#32
  let main_v0 : FVec F S16x256x1x64x64 .f32 := broadcastInDim S16x256x1x64x64 ![] bcast_S_S16x256x1x64x64 main_cst
  let main_v1 : IVec S16x256x1x64x64 1 := cmpf .oeq main_arg0 main_v0
  let main_cst_0 : FVec F S_ .f32 := constant S_ .f32 0xC28A27B5#32
  let main_v2 : FVec F S16x256x1x64x64 .f32 := broadcastInDim S16x256x1x64x64 ![] bcast_S_S16x256x1x64x64 main_cst_0
  let main_v3 : IVec S16x256x1x64x64 1 := cmpf .oeq main_arg0 main_v2
  let main_v4 : IVec S16x256x1x64x64 32 := (extui 32 · natLt_1_32) main_v1
  let main_c : IVec S_ 32 := constantI S_ 32 0#32
  let main_v5 : IVec S16x1x64x64 32 := (fun x v => Host.reduce IntOp.addi x v reducesTo_S16x256x1x64x64_S16x1x64x64_d1 h_S_) main_v4 main_c
  let main_c_1 : IVec S_ 32 := constantI S_ 32 1#32
  let main_v6 : IVec S16x1x64x64 32 := broadcastInDim S16x1x64x64 ![] bcast_S_S16x1x64x64 main_c_1
  let main_v7 : IVec S16x1x64x64 1 := cmpi .eq main_v5 main_v6
  let main_v8 : IVec S16x256x1x64x64 1 := ori main_v1 main_v3
  let main_c_2 : IVec S_ 1 := constantI S_ 1 1#1
  let main_v9 : IVec S_ 1 := (fun x v => Host.reduce IntOp.andi x v reducesTo_S16x256x1x64x64_S_d0_1_2_3_4 h_S_) main_v8 main_c_2
  let main_c_3 : IVec S_ 1 := constantI S_ 1 1#1
  let main_v10 : IVec S_ 1 := (fun x v => Host.reduce IntOp.andi x v reducesTo_S16x1x64x64_S_d0_1_2_3 h_S_) main_v7 main_c_3
  let main_v11 : IVec S_ 1 := andi main_v9 main_v10
  main_v11
-- ==== Kernel.lean ====
abbrev S16x256x1x64x64 : Shape := ⟨5, ![16, 256, 1, 64, 64]⟩
abbrev S16 : Shape := ⟨1, ![16]⟩
abbrev S256x1x3x3 : Shape := ⟨4, ![256, 1, 3, 3]⟩
abbrev S256 : Shape := ⟨1, ![256]⟩
abbrev S4000 : Shape := ⟨1, ![4000]⟩
abbrev S16x256x4096 : Shape := ⟨3, ![16, 256, 4096]⟩
abbrev S16x1x4096 : Shape := ⟨3, ![16, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S4096 : Shape := ⟨1, ![4096]⟩
abbrev S1x4096 : Shape := ⟨2, ![1, 4096]⟩
abbrev S16x64x64 : Shape := ⟨3, ![16, 64, 64]⟩
abbrev S_ : Shape := ⟨0, ![]⟩
abbrev S16x66x66 : Shape := ⟨3, ![16, 66, 66]⟩
abbrev S16x1x64x64 : Shape := ⟨4, ![16, 1, 64, 64]⟩
abbrev S16x9x64x64 : Shape := ⟨4, ![16, 9, 64, 64]⟩
abbrev S16x9x4096 : Shape := ⟨3, ![16, 9, 4096]⟩
abbrev S16x16x4096 : Shape := ⟨3, ![16, 16, 4096]⟩
abbrev S2x8x16x4096 : Shape := ⟨4, ![2, 8, 16, 4096]⟩
abbrev S256x9 : Shape := ⟨2, ![256, 9]⟩
abbrev S256x16 : Shape := ⟨2, ![256, 16]⟩
abbrev S1x256 : Shape := ⟨2, ![1, 256]⟩
abbrev S16x1 : Shape := ⟨2, ![16, 1]⟩
abbrev S16x256 : Shape := ⟨2, ![16, 256]⟩
abbrev S2x8x256x1 : Shape := ⟨4, ![2, 8, 256, 1]⟩
abbrev S1 : Shape := ⟨1, ![1]⟩
abbrev S1x1 : Shape := ⟨2, ![1, 1]⟩
abbrev S16x5 : Shape := ⟨2, ![16, 5]⟩
abbrev S16x128 : Shape := ⟨2, ![16, 128]⟩
abbrev S2x8x1x128 : Shape := ⟨4, ![2, 8, 1, 128]⟩
abbrev S2x8x1x4096 : Shape := ⟨4, ![2, 8, 1, 4096]⟩
abbrev S2x8x256x4096 : Shape := ⟨4, ![2, 8, 256, 4096]⟩
abbrev S2x1x16x2048 : Shape := ⟨4, ![2, 1, 16, 2048]⟩
abbrev S2x1x1x2048 : Shape := ⟨4, ![2, 1, 1, 2048]⟩
abbrev S2x1x256x1 : Shape := ⟨4, ![2, 1, 256, 1]⟩
abbrev S2x1x1x128 : Shape := ⟨4, ![2, 1, 1, 128]⟩
abbrev S2x1x256x2048 : Shape := ⟨4, ![2, 1, 256, 2048]⟩
abbrev S1x1x16x2048 : Shape := ⟨4, ![1, 1, 16, 2048]⟩
abbrev S16x2048 : Shape := ⟨2, ![16, 2048]⟩
abbrev S256x2048 : Shape := ⟨2, ![256, 2048]⟩
abbrev S1x1x1x2048 : Shape := ⟨4, ![1, 1, 1, 2048]⟩
abbrev S1x2048 : Shape := ⟨2, ![1, 2048]⟩
abbrev S1x1x256x1 : Shape := ⟨4, ![1, 1, 256, 1]⟩
abbrev S256x1 : Shape := ⟨2, ![256, 1]⟩
abbrev S2048 : Shape := ⟨1, ![2048]⟩
abbrev S1x1x1x128 : Shape := ⟨4, ![1, 1, 1, 128]⟩
abbrev S1x128 : Shape := ⟨2, ![1, 128]⟩
abbrev S1x1x256x2048 : Shape := ⟨4, ![1, 1, 256, 2048]⟩

abbrev nBuf : Space → Nat
  | .hbm => 192
  | .vmem => 15
  | .smem => 0
  | _ => 0

abbrev hbmTy0_0 (i : Nat) : BufTy := match i % 128 with
  | 0 => ⟨S16x256x1x64x64, .f32⟩
  | 1 => ⟨S16, .i32⟩
  | 2 => ⟨S256x1x3x3, .f32⟩
  | 3 => ⟨S256, .f32⟩
  | 4 => ⟨S4000, .f32⟩
  | 5 => ⟨S4000, .f32⟩
  | 6 => ⟨S4000, .f32⟩
  | 7 => ⟨S4000, .f32⟩
  | 8 => ⟨S16x256x4096, .f32⟩
  | 9 => ⟨S16x1x4096, .i32⟩
  | 10 => ⟨S16x64x64, .i32⟩
  | 11 => ⟨S16x64x64, .f32⟩
  | 12 => ⟨S_, .f32⟩
  | 13 => ⟨S16x64x64, .f32⟩
  | 14 => ⟨S16x64x64, .f32⟩
  | 15 => ⟨S_, .i32⟩
  | 16 => ⟨S_, .f32⟩
  | 17 => ⟨S16x66x66, .f32⟩
  | 18 => ⟨S16x64x64, .f32⟩
  | 19 => ⟨S16x64x64, .f32⟩
  | 20 => ⟨S16x64x64, .f32⟩
  | 21 => ⟨S16x64x64, .f32⟩
  | 22 => ⟨S16x64x64, .f32⟩
  | 23 => ⟨S16x64x64, .f32⟩
  | 24 => ⟨S16x64x64, .f32⟩
  | 25 => ⟨S16x64x64, .f32⟩
  | 26 => ⟨S16x64x64, .f32⟩
  | 27 => ⟨S16x1x64x64, .f32⟩
  | 28 => ⟨S16x1x64x64, .f32⟩
  | 29 => ⟨S16x1x64x64, .f32⟩
  | 30 => ⟨S16x1x64x64, .f32⟩
  | 31 => ⟨S16x1x64x64, .f32⟩
  | 32 => ⟨S16x1x64x64, .f32⟩
  | 33 => ⟨S16x1x64x64, .f32⟩
  | 34 => ⟨S16x1x64x64, .f32⟩
  | 35 => ⟨S16x1x64x64, .f32⟩
  | 36 => ⟨S16x9x64x64, .f32⟩
  | 37 => ⟨S16x9x4096, .f32⟩
  | 38 => ⟨S_, .i32⟩
  | 39 => ⟨S_, .f32⟩
  | 40 => ⟨S16x16x4096, .f32⟩
  | 41 => ⟨S2x8x16x4096, .f32⟩
  | 42 => ⟨S256x9, .f32⟩
  | 43 => ⟨S_, .i32⟩
  | 44 => ⟨S_, .f32⟩
  | 45 => ⟨S256x16, .f32⟩
  | 46 => ⟨S16, .f32⟩
  | 47 => ⟨S1x256, .f32⟩
  | 48 => ⟨S_, .f32⟩
  | 49 => ⟨S16, .f32⟩
  | 50 => ⟨S16, .f32⟩
  | 51 => ⟨S16x1, .f32⟩
  | 52 => ⟨S16x256, .f32⟩
  | 53 => ⟨S16x256, .f32⟩
  | 54 => ⟨S16x256, .f32⟩
  | 55 => ⟨S2x8x256x1, .f32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i1⟩
  | 65 => ⟨S_, .i32⟩
  | 66 => ⟨S16, .i32⟩
  | 67 => ⟨S16, .i32⟩
  | 68 => ⟨S16, .i32⟩
  | 69 => ⟨S16x1, .i32⟩
  | 70 => ⟨S1, .i32⟩
  | 71 => ⟨S_, .i32⟩
  | 72 => ⟨S16x1, .i32⟩
  | 73 => ⟨S16x1, .i1⟩
  | 74 => ⟨S1x1, .i32⟩
  | 75 => ⟨S16x1, .i32⟩
  | 76 => ⟨S16x1, .i1⟩
  | 77 => ⟨S16x1, .i1⟩
  | 78 => ⟨S_, .i1⟩
  | 79 => ⟨S16, .i1⟩
  | 80 => ⟨S16, .f32⟩
  | 81 => ⟨S_, .f32⟩
  | 82 => ⟨S16, .f32⟩
  | 83 => ⟨S16, .f32⟩
  | 84 => ⟨S_, .i32⟩
  | 85 => ⟨S16, .i32⟩
  | 86 => ⟨S16, .i1⟩
  | 87 => ⟨S_, .i32⟩
  | 88 => ⟨S16, .i32⟩
  | 89 => ⟨S16, .i32⟩
  | 90 => ⟨S16, .i32⟩
  | 91 => ⟨S16x1, .i32⟩
  | 92 => ⟨S1, .i32⟩
  | 93 => ⟨S_, .i32⟩
  | 94 => ⟨S16x1, .i32⟩
  | 95 => ⟨S16x1, .i1⟩
  | 96 => ⟨S1x1, .i32⟩
  | 97 => ⟨S16x1, .i32⟩
  | 98 => ⟨S16x1, .i1⟩
  | 99 => ⟨S16x1, .i1⟩
  | 100 => ⟨S_, .i1⟩
  | 101 => ⟨S16, .i1⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .i32⟩
  | 110 => ⟨S16, .i32⟩
  | 111 => ⟨S16, .i1⟩
  | 112 => ⟨S_, .i32⟩
  | 113 => ⟨S16, .i32⟩
  | 114 => ⟨S16, .i32⟩
  | 115 => ⟨S16, .i32⟩
  | 116 => ⟨S16x1, .i32⟩
  | 117 => ⟨S1, .i32⟩
  | 118 => ⟨S_, .i32⟩
  | 119 => ⟨S16x1, .i32⟩
  | 120 => ⟨S16x1, .i1⟩
  | 121 => ⟨S1x1, .i32⟩
  | 122 => ⟨S16x1, .i32⟩
  | 123 => ⟨S16x1, .i1⟩
  | 124 => ⟨S16x1, .i1⟩
  | 125 => ⟨S_, .i1⟩
  | 126 => ⟨S16, .i1⟩
  | 127 => ⟨S16, .f32⟩
  | _ => ⟨S16x256x1x64x64, .f32⟩

abbrev hbmTy0_1 (i : Nat) : BufTy := match i % 128 with
  | 0 => ⟨S_, .f32⟩
  | 1 => ⟨S16, .f32⟩
  | 2 => ⟨S16, .f32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S1, .i32⟩
  | 12 => ⟨S_, .i32⟩
  | 13 => ⟨S16x1, .i32⟩
  | 14 => ⟨S16x1, .i1⟩
  | 15 => ⟨S1x1, .i32⟩
  | 16 => ⟨S16x1, .i32⟩
  | 17 => ⟨S16x1, .i1⟩
  | 18 => ⟨S16x1, .i1⟩
  | 19 => ⟨S_, .i1⟩
  | 20 => ⟨S16, .i1⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16, .f32⟩
  | 29 => ⟨S16, .f32⟩
  | 30 => ⟨S16, .f32⟩
  | 31 => ⟨S16, .f32⟩
  | 32 => ⟨S16, .f32⟩
  | 33 => ⟨S16, .f32⟩
  | 34 => ⟨S16, .f32⟩
  | 35 => ⟨S16, .f32⟩
  | 36 => ⟨S_, .f32⟩
  | 37 => ⟨S16, .f32⟩
  | 38 => ⟨S16, .f32⟩
  | 39 => ⟨S16, .f32⟩
  | 40 => ⟨S16, .f32⟩
  | 41 => ⟨S16, .f32⟩
  | 42 => ⟨S16, .f32⟩
  | 43 => ⟨S16, .f32⟩
  | 44 => ⟨S16, .f32⟩
  | 45 => ⟨S16, .f32⟩
  | 46 => ⟨S16, .f32⟩
  | 47 => ⟨S_, .i32⟩
  | 48 => ⟨S16, .i32⟩
  | 49 => ⟨S16, .i1⟩
  | 50 => ⟨S16, .f32⟩
  | 51 => ⟨S16x1, .f32⟩
  | 52 => ⟨S16x1, .f32⟩
  | 53 => ⟨S16x1, .f32⟩
  | 54 => ⟨S16x1, .f32⟩
  | 55 => ⟨S16x1, .f32⟩
  | 56 => ⟨S16x5, .f32⟩
  | 57 => ⟨S_, .i32⟩
  | 58 => ⟨S_, .f32⟩
  | 59 => ⟨S16x128, .f32⟩
  | 60 => ⟨S2x8x1x128, .f32⟩
  | 61 => ⟨S2x8x1x4096, .i32⟩
  | 62 => ⟨S2x8x256x4096, .f32⟩
  | 63 => ⟨S16x256x1x64x64, .f32⟩
  | _ => ⟨S16x256x1x64x64, .f32⟩

abbrev hbmTy (i : Nat) : BufTy := match i / 128 with
  | 0 => hbmTy0_0 i
  | 1 => hbmTy0_1 i
  | _ => ⟨S16x256x1x64x64, .f32⟩

abbrev bufTy : (tb : Table) → Fin (tcTables nBuf tb) → BufTy
  | .hbm, ⟨i, _⟩ => hbmTy i
  | .local _ .vmem, ⟨0, _⟩ => ⟨S1x256x4096, .f32⟩
  | .local _ .vmem, ⟨1, _⟩ => ⟨S1x256x4096, .f32⟩
  | .local _ .vmem, ⟨2, _⟩ => ⟨S1x1x4096, .i32⟩
  | .local _ .vmem, ⟨3, _⟩ => ⟨S1x1x4096, .i32⟩
  | .local _ .vmem, ⟨4, _⟩ => ⟨S2x1x16x2048, .f32⟩
  | .local _ .vmem, ⟨5, _⟩ => ⟨S2x1x16x2048, .f32⟩
  | .local _ .vmem, ⟨6, _⟩ => ⟨S2x1x1x2048, .i32⟩
  | .local _ .vmem, ⟨7, _⟩ => ⟨S2x1x1x2048, .i32⟩
  | .local _ .vmem, ⟨8, _⟩ => ⟨S2x1x256x1, .f32⟩
  | .local _ .vmem, ⟨9, _⟩ => ⟨S2x1x256x1, .f32⟩
  | .local _ .vmem, ⟨10, _⟩ => ⟨S2x1x1x128, .f32⟩
  | .local _ .vmem, ⟨11, _⟩ => ⟨S2x1x1x128, .f32⟩
  | .local _ .vmem, ⟨12, _⟩ => ⟨S256x16, .f32⟩
  | .local _ .vmem, ⟨13, _⟩ => ⟨S2x1x256x2048, .f32⟩
  | .local _ .vmem, ⟨14, _⟩ => ⟨S2x1x256x2048, .f32⟩
  | _, _ => ⟨S16x256x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_call1_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_call2_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_cst : Ref sig .tc := ⟨.hbm, 81, rfl⟩
abbrev main_call3_v14 : Ref sig .tc := ⟨.hbm, 82, rfl⟩
abbrev main_v44 : Ref sig .tc := ⟨.hbm, 83, rfl⟩
abbrev main_call4_c : Ref sig .tc := ⟨.hbm, 84, rfl⟩
abbrev main_call4_v0 : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_v5 : Ref sig .tc := ⟨.hbm, 91, rfl⟩
abbrev main_call4_c_1 : Ref sig .tc := ⟨.hbm, 92, rfl⟩
abbrev main_call4_c_2 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_c_3 : Ref sig .tc := ⟨.hbm, 100, rfl⟩
abbrev main_call4_v12 : Ref sig .tc := ⟨.hbm, 101, rfl⟩
abbrev main_call4_v13 : Ref sig .tc := ⟨.hbm, 102, rfl⟩
abbrev main_call4_cst : Ref sig .tc := ⟨.hbm, 103, rfl⟩
abbrev main_call4_v14 : Ref sig .tc := ⟨.hbm, 104, rfl⟩
abbrev main_v45 : Ref sig .tc := ⟨.hbm, 105, rfl⟩
abbrev main_cst_9 : Ref sig .tc := ⟨.hbm, 106, rfl⟩
abbrev main_v46 : Ref sig .tc := ⟨.hbm, 107, rfl⟩
abbrev main_v47 : Ref sig .tc := ⟨.hbm, 108, rfl⟩
abbrev main_call5_c : Ref sig .tc := ⟨.hbm, 109, rfl⟩
abbrev main_call5_v0 : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_c_1 : Ref sig .tc := ⟨.hbm, 117, rfl⟩
abbrev main_call5_c_2 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_c_3 : Ref sig .tc := ⟨.hbm, 125, rfl⟩
abbrev main_call5_v12 : Ref sig .tc := ⟨.hbm, 126, rfl⟩
abbrev main_call5_v13 : Ref sig .tc := ⟨.hbm, 127, rfl⟩
abbrev main_call5_cst : Ref sig .tc := ⟨.hbm, 128, rfl⟩
abbrev main_call5_v14 : Ref sig .tc := ⟨.hbm, 129, rfl⟩
abbrev main_v48 : Ref sig .tc := ⟨.hbm, 130, rfl⟩
abbrev main_call6_c : Ref sig .tc := ⟨.hbm, 131, rfl⟩
abbrev main_call6_v0 : Ref sig .tc := ⟨.hbm, 132, rfl⟩
abbrev main_call6_v1 : Ref sig .tc := ⟨.hbm, 133, rfl⟩
abbrev main_call6_c_0 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_c_1 : Ref sig .tc := ⟨.hbm, 139, rfl⟩
abbrev main_call6_c_2 : Ref sig .tc := ⟨.hbm, 140, rfl⟩
abbrev main_call6_v6 : Ref sig .tc := ⟨.hbm, 141, rfl⟩
abbrev main_call6_v7 : Ref sig .tc := ⟨.hbm, 142, rfl⟩
abbrev main_call6_v8 : Ref sig .tc := ⟨.hbm, 143, rfl⟩
abbrev main_call6_v9 : Ref sig .tc := ⟨.hbm, 144, rfl⟩
abbrev main_call6_v10 : Ref sig .tc := ⟨.hbm, 145, rfl⟩
abbrev main_call6_v11 : Ref sig .tc := ⟨.hbm, 146, rfl⟩
abbrev main_call6_c_3 : Ref sig .tc := ⟨.hbm, 147, rfl⟩
abbrev main_call6_v12 : Ref sig .tc := ⟨.hbm, 148, rfl⟩
abbrev main_call6_v13 : Ref sig .tc := ⟨.hbm, 149, rfl⟩
abbrev main_call6_cst : Ref sig .tc := ⟨.hbm, 150, rfl⟩
abbrev main_call6_v14 : Ref sig .tc := ⟨.hbm, 151, rfl⟩
abbrev main_v49 : Ref sig .tc := ⟨.hbm, 152, rfl⟩
abbrev main_cst_10 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_cst_11 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_c_12 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_c_13 : Ref sig .tc := ⟨.hbm, 185, rfl⟩
abbrev main_call7_v0 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage1_0 : Fin 2 → Memref sig .tc .vmem S2x1x16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2x1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "log_eps" => some ((Real.log (332307 / 332306998946228968225951765070086144) : ℝ) : EReal)
  | _ => none
-- ==== ReferenceIdeal.lean ====
abbrev S16x256x1x64x64 : Shape := ⟨5, ![16, 256, 1, 64, 64]⟩
abbrev S16 : Shape := ⟨1, ![16]⟩
abbrev S256x1x3x3 : Shape := ⟨4, ![256, 1, 3, 3]⟩
abbrev S256 : Shape := ⟨1, ![256]⟩
abbrev S4000 : Shape := ⟨1, ![4000]⟩
abbrev S_ : Shape := ⟨0, ![]⟩
abbrev S16x1x64x64 : Shape := ⟨4, ![16, 1, 64, 64]⟩
abbrev S16x1x66x66 : Shape := ⟨4, ![16, 1, 66, 66]⟩
abbrev S256x1x1x1 : Shape := ⟨4, ![256, 1, 1, 1]⟩
abbrev S1x256x1x1 : Shape := ⟨4, ![1, 256, 1, 1]⟩
abbrev S16x256x64x64 : Shape := ⟨4, ![16, 256, 64, 64]⟩
abbrev S16x1x1x1 : Shape := ⟨4, ![16, 1, 1, 1]⟩
abbrev S16x1x64x64x1 : Shape := ⟨5, ![16, 1, 64, 64, 1]⟩
abbrev S1x1x1x1x256 : Shape := ⟨5, ![1, 1, 1, 1, 256]⟩
abbrev S16x1x64x64x256 : Shape := ⟨5, ![16, 1, 64, 64, 256]⟩
abbrev S16x1x1x64x64 : Shape := ⟨5, ![16, 1, 1, 64, 64]⟩
abbrev S16x1 : Shape := ⟨2, ![16, 1]⟩
abbrev S1 : Shape := ⟨1, ![1]⟩
abbrev S1x1 : Shape := ⟨2, ![1, 1]⟩
abbrev S16x1x1x1x1 : Shape := ⟨5, ![16, 1, 1, 1, 1]⟩
abbrev S2 : Shape := ⟨1, ![2]⟩
abbrev S1x1x1x1x1 : Shape := ⟨5, ![1, 1, 1, 1, 1]⟩

abbrev nBuf : Space → Nat
  | .hbm => 615
  | .vmem => 0
  | .smem => 0
  | _ => 0

abbrev hbmTy0_0 (i : Nat) : BufTy := match i % 128 with
  | 0 => ⟨S16x256x1x64x64, .f32⟩
  | 1 => ⟨S16, .i32⟩
  | 2 => ⟨S256x1x3x3, .f32⟩
  | 3 => ⟨S256, .f32⟩
  | 4 => ⟨S4000, .f32⟩
  | 5 => ⟨S4000, .f32⟩
  | 6 => ⟨S4000, .f32⟩
  | 7 => ⟨S4000, .f32⟩
  | 8 => ⟨S16x256x1x64x64, .i32⟩
  | 9 => ⟨S_, .f32⟩
  | 10 => ⟨S_, .i32⟩
  | 11 => ⟨S16x1x64x64, .f32⟩
  | 12 => ⟨S16x1x64x64, .i32⟩
  | 13 => ⟨S16x1x64x64, .f32⟩
  | 14 => ⟨S_, .f32⟩
  | 15 => ⟨S16x1x64x64, .f32⟩
  | 16 => ⟨S16x1x64x64, .f32⟩
  | 17 => ⟨S_, .i32⟩
  | 18 => ⟨S_, .f32⟩
  | 19 => ⟨S16x1x66x66, .f32⟩
  | 20 => ⟨S256x1x1x1, .f32⟩
  | 21 => ⟨S256, .f32⟩
  | 22 => ⟨S1x256x1x1, .f32⟩
  | 23 => ⟨S16x1x64x64, .f32⟩
  | 24 => ⟨S16x256x64x64, .f32⟩
  | 25 => ⟨S16x256x64x64, .f32⟩
  | 26 => ⟨S16x256x64x64, .f32⟩
  | 27 => ⟨S_, .f32⟩
  | 28 => ⟨S16x256x64x64, .f32⟩
  | 29 => ⟨S16x256x64x64, .f32⟩
  | 30 => ⟨S256x1x1x1, .f32⟩
  | 31 => ⟨S256, .f32⟩
  | 32 => ⟨S1x256x1x1, .f32⟩
  | 33 => ⟨S16x1x64x64, .f32⟩
  | 34 => ⟨S16x256x64x64, .f32⟩
  | 35 => ⟨S16x256x64x64, .f32⟩
  | 36 => ⟨S16x256x64x64, .f32⟩
  | 37 => ⟨S16x256x64x64, .f32⟩
  | 38 => ⟨S256x1x1x1, .f32⟩
  | 39 => ⟨S256, .f32⟩
  | 40 => ⟨S1x256x1x1, .f32⟩
  | 41 => ⟨S16x1x64x64, .f32⟩
  | 42 => ⟨S16x256x64x64, .f32⟩
  | 43 => ⟨S16x256x64x64, .f32⟩
  | 44 => ⟨S16x256x64x64, .f32⟩
  | 45 => ⟨S16x256x64x64, .f32⟩
  | 46 => ⟨S256x1x1x1, .f32⟩
  | 47 => ⟨S256, .f32⟩
  | 48 => ⟨S1x256x1x1, .f32⟩
  | 49 => ⟨S16x1x64x64, .f32⟩
  | 50 => ⟨S16x256x64x64, .f32⟩
  | 51 => ⟨S16x256x64x64, .f32⟩
  | 52 => ⟨S16x256x64x64, .f32⟩
  | 53 => ⟨S16x256x64x64, .f32⟩
  | 54 => ⟨S256x1x1x1, .f32⟩
  | 55 => ⟨S256, .f32⟩
  | 56 => ⟨S1x256x1x1, .f32⟩
  | 57 => ⟨S16x1x64x64, .f32⟩
  | 58 => ⟨S16x256x64x64, .f32⟩
  | 59 => ⟨S16x256x64x64, .f32⟩
  | 60 => ⟨S16x256x64x64, .f32⟩
  | 61 => ⟨S16x256x64x64, .f32⟩
  | 62 => ⟨S256x1x1x1, .f32⟩
  | 63 => ⟨S256, .f32⟩
  | 64 => ⟨S1x256x1x1, .f32⟩
  | 65 => ⟨S16x1x64x64, .f32⟩
  | 66 => ⟨S16x256x64x64, .f32⟩
  | 67 => ⟨S16x256x64x64, .f32⟩
  | 68 => ⟨S16x256x64x64, .f32⟩
  | 69 => ⟨S16x256x64x64, .f32⟩
  | 70 => ⟨S256x1x1x1, .f32⟩
  | 71 => ⟨S256, .f32⟩
  | 72 => ⟨S1x256x1x1, .f32⟩
  | 73 => ⟨S16x1x64x64, .f32⟩
  | 74 => ⟨S16x256x64x64, .f32⟩
  | 75 => ⟨S16x256x64x64, .f32⟩
  | 76 => ⟨S16x256x64x64, .f32⟩
  | 77 => ⟨S16x256x64x64, .f32⟩
  | 78 => ⟨S256x1x1x1, .f32⟩
  | 79 => ⟨S256, .f32⟩
  | 80 => ⟨S1x256x1x1, .f32⟩
  | 81 => ⟨S16x1x64x64, .f32⟩
  | 82 => ⟨S16x256x64x64, .f32⟩
  | 83 => ⟨S16x256x64x64, .f32⟩
  | 84 => ⟨S16x256x64x64, .f32⟩
  | 85 => ⟨S16x256x64x64, .f32⟩
  | 86 => ⟨S256x1x1x1, .f32⟩
  | 87 => ⟨S256, .f32⟩
  | 88 => ⟨S1x256x1x1, .f32⟩
  | 89 => ⟨S16x1x64x64, .f32⟩
  | 90 => ⟨S16x256x64x64, .f32⟩
  | 91 => ⟨S16x256x64x64, .f32⟩
  | 92 => ⟨S16x256x64x64, .f32⟩
  | 93 => ⟨S16x256x64x64, .f32⟩
  | 94 => ⟨S1x256x1x1, .f32⟩
  | 95 => ⟨S16x256x64x64, .f32⟩
  | 96 => ⟨S16x256x64x64, .f32⟩
  | 97 => ⟨S16, .f32⟩
  | 98 => ⟨S_, .f32⟩
  | 99 => ⟨S16, .f32⟩
  | 100 => ⟨S16, .f32⟩
  | 101 => ⟨S16x1x1x1, .f32⟩
  | 102 => ⟨S16x256x64x64, .f32⟩
  | 103 => ⟨S16x256x64x64, .f32⟩
  | 104 => ⟨S16x256x1x64x64, .f32⟩
  | 105 => ⟨S16x1x64x64x1, .i32⟩
  | 106 => ⟨S1x1x1x1x256, .i32⟩
  | 107 => ⟨S16x1x64x64x256, .i32⟩
  | 108 => ⟨S16x1x64x64x256, .i32⟩
  | 109 => ⟨S16x1x64x64x256, .i1⟩
  | 110 => ⟨S16x1x64x64x256, .f32⟩
  | 111 => ⟨S16x256x1x64x64, .f32⟩
  | 112 => ⟨S16x256x1x64x64, .f32⟩
  | 113 => ⟨S_, .f32⟩
  | 114 => ⟨S16x1x64x64, .f32⟩
  | 115 => ⟨S_, .f32⟩
  | 116 => ⟨S16x1x64x64, .f32⟩
  | 117 => ⟨S16x1x64x64, .f32⟩
  | 118 => ⟨S16x1x1x64x64, .f32⟩
  | 119 => ⟨S16x256x1x64x64, .f32⟩
  | 120 => ⟨S16x256x1x64x64, .f32⟩
  | 121 => ⟨S16x256x1x64x64, .f32⟩
  | 122 => ⟨S_, .f32⟩
  | 123 => ⟨S16x1x64x64, .f32⟩
  | 124 => ⟨S16x1x1x64x64, .f32⟩
  | 125 => ⟨S16x1x1x64x64, .f32⟩
  | 126 => ⟨S16x256x1x64x64, .f32⟩
  | 127 => ⟨S16x256x1x64x64, .f32⟩
  | _ => ⟨S16x256x1x64x64, .f32⟩

abbrev hbmTy0_1 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i1⟩
  | 6 => ⟨S_, .i32⟩
  | 7 => ⟨S16, .i32⟩
  | 8 => ⟨S_, .i32⟩
  | 9 => ⟨S16, .i32⟩
  | 10 => ⟨S16, .i32⟩
  | 11 => ⟨S16, .i32⟩
  | 12 => ⟨S_, .i32⟩
  | 13 => ⟨S16, .i32⟩
  | 14 => ⟨S16, .i1⟩
  | 15 => ⟨S_, .i32⟩
  | 16 => ⟨S16, .i32⟩
  | 17 => ⟨S16, .i32⟩
  | 18 => ⟨S16, .i32⟩
  | 19 => ⟨S16x1, .i32⟩
  | 20 => ⟨S1, .i32⟩
  | 21 => ⟨S_, .i32⟩
  | 22 => ⟨S16x1, .i32⟩
  | 23 => ⟨S16x1, .i1⟩
  | 24 => ⟨S1x1, .i32⟩
  | 25 => ⟨S16x1, .i32⟩
  | 26 => ⟨S16x1, .i1⟩
  | 27 => ⟨S16x1, .i1⟩
  | 28 => ⟨S_, .i1⟩
  | 29 => ⟨S16, .i1⟩
  | 30 => ⟨S16, .f32⟩
  | 31 => ⟨S_, .f32⟩
  | 32 => ⟨S16, .f32⟩
  | 33 => ⟨S16, .f32⟩
  | 34 => ⟨S16x1x1x1x1, .f32⟩
  | 35 => ⟨S_, .i32⟩
  | 36 => ⟨S16, .i32⟩
  | 37 => ⟨S16, .i1⟩
  | 38 => ⟨S_, .i32⟩
  | 39 => ⟨S16, .i32⟩
  | 40 => ⟨S16, .i32⟩
  | 41 => ⟨S16, .i32⟩
  | 42 => ⟨S16x1, .i32⟩
  | 43 => ⟨S1, .i32⟩
  | 44 => ⟨S_, .i32⟩
  | 45 => ⟨S16x1, .i32⟩
  | 46 => ⟨S16x1, .i1⟩
  | 47 => ⟨S1x1, .i32⟩
  | 48 => ⟨S16x1, .i32⟩
  | 49 => ⟨S16x1, .i1⟩
  | 50 => ⟨S16x1, .i1⟩
  | 51 => ⟨S_, .i1⟩
  | 52 => ⟨S16, .i1⟩
  | 53 => ⟨S16, .f32⟩
  | 54 => ⟨S_, .f32⟩
  | 55 => ⟨S16, .f32⟩
  | 56 => ⟨S16, .f32⟩
  | 57 => ⟨S16x1x1x1x1, .f32⟩
  | 58 => ⟨S16x256x1x64x64, .f32⟩
  | 59 => ⟨S16x256x1x64x64, .f32⟩
  | 60 => ⟨S_, .f32⟩
  | 61 => ⟨S16x1x1x1x1, .f32⟩
  | 62 => ⟨S16x1x1x1x1, .f32⟩
  | 63 => ⟨S16x256x1x64x64, .f32⟩
  | 64 => ⟨S16x256x1x64x64, .f32⟩
  | 65 => ⟨S16x256x1x64x64, .f32⟩
  | 66 => ⟨S16x256x1x64x64, .f32⟩
  | 67 => ⟨S16x256x1x64x64, .f32⟩
  | 68 => ⟨S16x256x1x64x64, .f32⟩
  | 69 => ⟨S16x256x1x64x64, .f32⟩
  | 70 => ⟨S16x256x1x64x64, .f32⟩
  | 71 => ⟨S16x256x1x64x64, .f32⟩
  | 72 => ⟨S16x256x1x64x64, .f32⟩
  | 73 => ⟨S16x1x1x1x1, .i32⟩
  | 74 => ⟨S_, .f32⟩
  | 75 => ⟨S16x256x1x64x64, .f32⟩
  | 76 => ⟨S16x1x1x1x1, .f32⟩
  | 77 => ⟨S16x256x1x64x64, .f32⟩
  | 78 => ⟨S16x256x1x64x64, .f32⟩
  | 79 => ⟨S_, .f32⟩
  | 80 => ⟨S16x256x1x64x64, .f32⟩
  | 81 => ⟨S16x256x1x64x64, .i1⟩
  | 82 => ⟨S16x256x1x64x64, .f32⟩
  | 83 => ⟨S_, .i32⟩
  | 84 => ⟨S16, .i32⟩
  | 85 => ⟨S16, .i1⟩
  | 86 => ⟨S_, .i32⟩
  | 87 => ⟨S16, .i32⟩
  | 88 => ⟨S16, .i32⟩
  | 89 => ⟨S16, .i32⟩
  | 90 => ⟨S16x1, .i32⟩
  | 91 => ⟨S1, .i32⟩
  | 92 => ⟨S_, .i32⟩
  | 93 => ⟨S16x1, .i32⟩
  | 94 => ⟨S16x1, .i1⟩
  | 95 => ⟨S1x1, .i32⟩
  | 96 => ⟨S16x1, .i32⟩
  | 97 => ⟨S16x1, .i1⟩
  | 98 => ⟨S16x1, .i1⟩
  | 99 => ⟨S_, .i1⟩
  | 100 => ⟨S16, .i1⟩
  | 101 => ⟨S16, .f32⟩
  | 102 => ⟨S_, .f32⟩
  | 103 => ⟨S16, .f32⟩
  | 104 => ⟨S16, .f32⟩
  | 105 => ⟨S16x1x1x1x1, .f32⟩
  | 106 => ⟨S_, .i32⟩
  | 107 => ⟨S16, .i32⟩
  | 108 => ⟨S16, .i1⟩
  | 109 => ⟨S_, .i32⟩
  | 110 => ⟨S16, .i32⟩
  | 111 => ⟨S16, .i32⟩
  | 112 => ⟨S16, .i32⟩
  | 113 => ⟨S16x1, .i32⟩
  | 114 => ⟨S1, .i32⟩
  | 115 => ⟨S_, .i32⟩
  | 116 => ⟨S16x1, .i32⟩
  | 117 => ⟨S16x1, .i1⟩
  | 118 => ⟨S1x1, .i32⟩
  | 119 => ⟨S16x1, .i32⟩
  | 120 => ⟨S16x1, .i1⟩
  | 121 => ⟨S16x1, .i1⟩
  | 122 => ⟨S_, .i1⟩
  | 123 => ⟨S16, .i1⟩
  | 124 => ⟨S16, .f32⟩
  | 125 => ⟨S_, .f32⟩
  | 126 => ⟨S16, .f32⟩
  | 127 => ⟨S16, .f32⟩
  | _ => ⟨S16x256x1x64x64, .f32⟩

abbrev hbmTy0_2 (i : Nat) : BufTy := match i % 128 with
  | 0 => ⟨S16x1x1x1x1, .f32⟩
  | 1 => ⟨S16x256x1x64x64, .f32⟩
  | 2 => ⟨S16x256x1x64x64, .f32⟩
  | 3 => ⟨S_, .f32⟩
  | 4 => ⟨S16x1x1x1x1, .f32⟩
  | 5 => ⟨S16x1x1x1x1, .f32⟩
  | 6 => ⟨S16x256x1x64x64, .f32⟩
  | 7 => ⟨S16x256x1x64x64, .f32⟩
  | 8 => ⟨S16x256x1x64x64, .f32⟩
  | 9 => ⟨S16x256x1x64x64, .f32⟩
  | 10 => ⟨S16x256x1x64x64, .f32⟩
  | 11 => ⟨S16x256x1x64x64, .f32⟩
  | 12 => ⟨S16x256x1x64x64, .f32⟩
  | 13 => ⟨S16x256x1x64x64, .f32⟩
  | 14 => ⟨S16x256x1x64x64, .f32⟩
  | 15 => ⟨S16x256x1x64x64, .f32⟩
  | 16 => ⟨S16x256x1x64x64, .f32⟩
  | 17 => ⟨S_, .f32⟩
  | 18 => ⟨S16x1x64x64, .f32⟩
  | 19 => ⟨S16x1x1x64x64, .f32⟩
  | 20 => ⟨S16x1x1x64x64, .f32⟩
  | 21 => ⟨S_, .f32⟩
  | 22 => ⟨S16x1x1x64x64, .f32⟩
  | 23 => ⟨S16x1x1x64x64, .i1⟩
  | 24 => ⟨S_, .f32⟩
  | 25 => ⟨S_, .f32⟩
  | 26 => ⟨S16x1x1x64x64, .f32⟩
  | 27 => ⟨S16x1x1x64x64, .f32⟩
  | 28 => ⟨S16x256x1x64x64, .f32⟩
  | 29 => ⟨S16x256x1x64x64, .f32⟩
  | 30 => ⟨S16x256x1x64x64, .f32⟩
  | 31 => ⟨S_, .f32⟩
  | 32 => ⟨S16x1x64x64, .f32⟩
  | 33 => ⟨S16x1x1x64x64, .f32⟩
  | 34 => ⟨S16x1x1x64x64, .f32⟩
  | 35 => ⟨S16x1x1x64x64, .f32⟩
  | 36 => ⟨S16x256x1x64x64, .f32⟩
  | 37 => ⟨S16x256x1x64x64, .f32⟩
  | 38 => ⟨S_, .i32⟩
  | 39 => ⟨S_, .i32⟩
  | 40 => ⟨S_, .i32⟩
  | 41 => ⟨S_, .i32⟩
  | 42 => ⟨S1, .i32⟩
  | 43 => ⟨S_, .i32⟩
  | 44 => ⟨S_, .i32⟩
  | 45 => ⟨S_, .i32⟩
  | 46 => ⟨S1, .i32⟩
  | 47 => ⟨S2, .i32⟩
  | 48 => ⟨S_, .f32⟩
  | 49 => ⟨S_, .f32⟩
  | 50 => ⟨S_, .f32⟩
  | 51 => ⟨S_, .f32⟩
  | 52 => ⟨S1x1x1x1x1, .f32⟩
  | 53 => ⟨S1x1x1x1x1, .f32⟩
  | 54 => ⟨S1, .i32⟩
  | 55 => ⟨S_, .i32⟩
  | 56 => ⟨S1, .i32⟩
  | 57 => ⟨S_, .i32⟩
  | 58 => ⟨S16x256x1x64x64, .i64⟩
  | 59 => ⟨S16x256x1x64x64, .i64⟩
  | 60 => ⟨S16x256x1x64x64, .i64⟩
  | 61 => ⟨S16x256x1x64x64, .i64⟩
  | 62 => ⟨S16x256x1x64x64, .i64⟩
  | 63 => ⟨S_, .i64⟩
  | 64 => ⟨S16x256x1x64x64, .i64⟩
  | 65 => ⟨S16x256x1x64x64, .i64⟩
  | 66 => ⟨S_, .i64⟩
  | 67 => ⟨S16x256x1x64x64, .i64⟩
  | 68 => ⟨S16x256x1x64x64, .i64⟩
  | 69 => ⟨S_, .i64⟩
  | 70 => ⟨S16x256x1x64x64, .i64⟩
  | 71 => ⟨S16x256x1x64x64, .i64⟩
  | 72 => ⟨S_, .i64⟩
  | 73 => ⟨S16x256x1x64x64, .i64⟩
  | 74 => ⟨S16x256x1x64x64, .i64⟩
  | 75 => ⟨S_, .i64⟩
  | 76 => ⟨S16x256x1x64x64, .i64⟩
  | 77 => ⟨S16x256x1x64x64, .i64⟩
  | 78 => ⟨S16x256x1x64x64, .i64⟩
  | 79 => ⟨S16x256x1x64x64, .i64⟩
  | 80 => ⟨S16x256x1x64x64, .i64⟩
  | 81 => ⟨S16x256x1x64x64, .i64⟩
  | 82 => ⟨S_, .i64⟩
  | 83 => ⟨S16x256x1x64x64, .i64⟩
  | 84 => ⟨S16x256x1x64x64, .i64⟩
  | 85 => ⟨S16x256x1x64x64, .i32⟩
  | 86 => ⟨S16x256x1x64x64, .i32⟩
  | 87 => ⟨S_, .i32⟩
  | 88 => ⟨S_, .i32⟩
  | 89 => ⟨S_, .i32⟩
  | 90 => ⟨S16x256x1x64x64, .i32⟩
  | 91 => ⟨S16x256x1x64x64, .i32⟩
  | 92 => ⟨S16x256x1x64x64, .i32⟩
  | 93 => ⟨S16x256x1x64x64, .i32⟩
  | 94 => ⟨S16x256x1x64x64, .i32⟩
  | 95 => ⟨S_, .i32⟩
  | 96 => ⟨S16x256x1x64x64, .i32⟩
  | 97 => ⟨S16x256x1x64x64, .i32⟩
  | 98 => ⟨S_, .i32⟩
  | 99 => ⟨S16x256x1x64x64, .i32⟩
  | 100 => ⟨S16x256x1x64x64, .i32⟩
  | 101 => ⟨S16x256x1x64x64, .i32⟩
  | 102 => ⟨S16x256x1x64x64, .i32⟩
  | 103 => ⟨S16x256x1x64x64, .i32⟩
  | 104 => ⟨S_, .i32⟩
  | 105 => ⟨S16x256x1x64x64, .i32⟩
  | 106 => ⟨S16x256x1x64x64, .i32⟩
  | 107 => ⟨S_, .i32⟩
  | 108 => ⟨S16x256x1x64x64, .i32⟩
  | 109 => ⟨S16x256x1x64x64, .i32⟩
  | 110 => ⟨S16x256x1x64x64, .i32⟩
  | 111 => ⟨S16x256x1x64x64, .i32⟩
  | 112 => ⟨S16x256x1x64x64, .i32⟩
  | 113 => ⟨S_, .i32⟩
  | 114 => ⟨S16x256x1x64x64, .i32⟩
  | 115 => ⟨S16x256x1x64x64, .i32⟩
  | 116 => ⟨S_, .i32⟩
  | 117 => ⟨S16x256x1x64x64, .i32⟩
  | 118 => ⟨S16x256x1x64x64, .i32⟩
  | 119 => ⟨S16x256x1x64x64, .i32⟩
  | 120 => ⟨S16x256x1x64x64, .i32⟩
  | 121 => ⟨S16x256x1x64x64, .i32⟩
  | 122 => ⟨S_, .i32⟩
  | 123 => ⟨S16x256x1x64x64, .i32⟩
  | 124 => ⟨S16x256x1x64x64, .i32⟩
  | 125 => ⟨S_, .i32⟩
  | 126 => ⟨S16x256x1x64x64, .i32⟩
  | 127 => ⟨S16x256x1x64x64, .i32⟩
  | _ => ⟨S16x256x1x64x64, .f32⟩

abbrev hbmTy0_3 (i : Nat) : BufTy := match i % 128 with
  | 0 => ⟨S16x256x1x64x64, .i32⟩
  | 1 => ⟨S16x256x1x64x64, .i32⟩
  | 2 => ⟨S16x256x1x64x64, .i32⟩
  | 3 => ⟨S16x256x1x64x64, .i32⟩
  | 4 => ⟨S16x256x1x64x64, .i32⟩
  | 5 => ⟨S16x256x1x64x64, .i32⟩
  | 6 => ⟨S_, .i32⟩
  | 7 => ⟨S16x256x1x64x64, .i32⟩
  | 8 => ⟨S16x256x1x64x64, .i32⟩
  | 9 => ⟨S16x256x1x64x64, .i32⟩
  | 10 => ⟨S_, .i32⟩
  | 11 => ⟨S16x256x1x64x64, .i32⟩
  | 12 => ⟨S16x256x1x64x64, .i32⟩
  | 13 => ⟨S_, .i32⟩
  | 14 => ⟨S16x256x1x64x64, .i32⟩
  | 15 => ⟨S16x256x1x64x64, .i32⟩
  | 16 => ⟨S16x256x1x64x64, .i32⟩
  | 17 => ⟨S16x256x1x64x64, .i32⟩
  | 18 => ⟨S16x256x1x64x64, .i32⟩
  | 19 => ⟨S_, .i32⟩
  | 20 => ⟨S16x256x1x64x64, .i32⟩
  | 21 => ⟨S16x256x1x64x64, .i32⟩
  | 22 => ⟨S_, .i32⟩
  | 23 => ⟨S16x256x1x64x64, .i32⟩
  | 24 => ⟨S16x256x1x64x64, .i32⟩
  | 25 => ⟨S16x256x1x64x64, .i32⟩
  | 26 => ⟨S16x256x1x64x64, .i32⟩
  | 27 => ⟨S16x256x1x64x64, .i32⟩
  | 28 => ⟨S_, .i32⟩
  | 29 => ⟨S16x256x1x64x64, .i32⟩
  | 30 => ⟨S16x256x1x64x64, .i32⟩
  | 31 => ⟨S_, .i32⟩
  | 32 => ⟨S16x256x1x64x64, .i32⟩
  | 33 => ⟨S16x256x1x64x64, .i32⟩
  | 34 => ⟨S16x256x1x64x64, .i32⟩
  | 35 => ⟨S16x256x1x64x64, .i32⟩
  | 36 => ⟨S16x256x1x64x64, .i32⟩
  | 37 => ⟨S_, .i32⟩
  | 38 => ⟨S16x256x1x64x64, .i32⟩
  | 39 => ⟨S16x256x1x64x64, .i32⟩
  | 40 => ⟨S_, .i32⟩
  | 41 => ⟨S16x256x1x64x64, .i32⟩
  | 42 => ⟨S16x256x1x64x64, .i32⟩
  | 43 => ⟨S16x256x1x64x64, .i32⟩
  | 44 => ⟨S16x256x1x64x64, .i32⟩
  | 45 => ⟨S16x256x1x64x64, .i32⟩
  | 46 => ⟨S16x256x1x64x64, .i32⟩
  | 47 => ⟨S16x256x1x64x64, .i32⟩
  | 48 => ⟨S16x256x1x64x64, .i32⟩
  | 49 => ⟨S_, .i32⟩
  | 50 => ⟨S16x256x1x64x64, .i32⟩
  | 51 => ⟨S16x256x1x64x64, .i32⟩
  | 52 => ⟨S16x256x1x64x64, .i32⟩
  | 53 => ⟨S_, .i32⟩
  | 54 => ⟨S16x256x1x64x64, .i32⟩
  | 55 => ⟨S16x256x1x64x64, .i32⟩
  | 56 => ⟨S_, .i32⟩
  | 57 => ⟨S16x256x1x64x64, .i32⟩
  | 58 => ⟨S16x256x1x64x64, .i32⟩
  | 59 => ⟨S16x256x1x64x64, .i32⟩
  | 60 => ⟨S16x256x1x64x64, .i32⟩
  | 61 => ⟨S16x256x1x64x64, .i32⟩
  | 62 => ⟨S_, .i32⟩
  | 63 => ⟨S16x256x1x64x64, .i32⟩
  | 64 => ⟨S16x256x1x64x64, .i32⟩
  | 65 => ⟨S_, .i32⟩
  | 66 => ⟨S16x256x1x64x64, .i32⟩
  | 67 => ⟨S16x256x1x64x64, .i32⟩
  | 68 => ⟨S16x256x1x64x64, .i32⟩
  | 69 => ⟨S16x256x1x64x64, .i32⟩
  | 70 => ⟨S16x256x1x64x64, .i32⟩
  | 71 => ⟨S_, .i32⟩
  | 72 => ⟨S16x256x1x64x64, .i32⟩
  | 73 => ⟨S16x256x1x64x64, .i32⟩
  | 74 => ⟨S_, .i32⟩
  | 75 => ⟨S16x256x1x64x64, .i32⟩
  | 76 => ⟨S16x256x1x64x64, .i32⟩
  | 77 => ⟨S16x256x1x64x64, .i32⟩
  | 78 => ⟨S16x256x1x64x64, .i32⟩
  | 79 => ⟨S16x256x1x64x64, .i32⟩
  | 80 => ⟨S_, .i32⟩
  | 81 => ⟨S16x256x1x64x64, .i32⟩
  | 82 => ⟨S16x256x1x64x64, .i32⟩
  | 83 => ⟨S_, .i32⟩
  | 84 => ⟨S16x256x1x64x64, .i32⟩
  | 85 => ⟨S16x256x1x64x64, .i32⟩
  | 86 => ⟨S16x256x1x64x64, .i32⟩
  | 87 => ⟨S16x256x1x64x64, .i32⟩
  | 88 => ⟨S16x256x1x64x64, .i32⟩
  | 89 => ⟨S16x256x1x64x64, .i32⟩
  | 90 => ⟨S16x256x1x64x64, .i32⟩
  | 91 => ⟨S16x256x1x64x64, .i32⟩
  | 92 => ⟨S_, .i32⟩
  | 93 => ⟨S16x256x1x64x64, .i32⟩
  | 94 => ⟨S16x256x1x64x64, .i32⟩
  | 95 => ⟨S16x256x1x64x64, .i32⟩
  | 96 => ⟨S_, .i32⟩
  | 97 => ⟨S16x256x1x64x64, .i32⟩
  | 98 => ⟨S16x256x1x64x64, .i32⟩
  | 99 => ⟨S_, .i32⟩
  | 100 => ⟨S16x256x1x64x64, .i32⟩
  | 101 => ⟨S16x256x1x64x64, .i32⟩
  | 102 => ⟨S16x256x1x64x64, .i32⟩
  | 103 => ⟨S16x256x1x64x64, .i32⟩
  | 104 => ⟨S16x256x1x64x64, .i32⟩
  | 105 => ⟨S_, .i32⟩
  | 106 => ⟨S16x256x1x64x64, .i32⟩
  | 107 => ⟨S16x256x1x64x64, .i32⟩
  | 108 => ⟨S_, .i32⟩
  | 109 => ⟨S16x256x1x64x64, .i32⟩
  | 110 => ⟨S16x256x1x64x64, .i32⟩
  | 111 => ⟨S16x256x1x64x64, .i32⟩
  | 112 => ⟨S16x256x1x64x64, .i32⟩
  | 113 => ⟨S16x256x1x64x64, .i32⟩
  | 114 => ⟨S_, .i32⟩
  | 115 => ⟨S16x256x1x64x64, .i32⟩
  | 116 => ⟨S16x256x1x64x64, .i32⟩
  | 117 => ⟨S_, .i32⟩
  | 118 => ⟨S16x256x1x64x64, .i32⟩
  | 119 => ⟨S16x256x1x64x64, .i32⟩
  | 120 => ⟨S16x256x1x64x64, .i32⟩
  | 121 => ⟨S16x256x1x64x64, .i32⟩
  | 122 => ⟨S16x256x1x64x64, .i32⟩
  | 123 => ⟨S_, .i32⟩
  | 124 => ⟨S16x256x1x64x64, .i32⟩
  | 125 => ⟨S16x256x1x64x64, .i32⟩
  | 126 => ⟨S_, .i32⟩
  | 127 => ⟨S16x256x1x64x64, .i32⟩
  | _ => ⟨S16x256x1x64x64, .f32⟩

abbrev hbmTy0_4 (i : Nat) : BufTy := match i % 128 with
  | 0 => ⟨S16x256x1x64x64, .i32⟩
  | 1 => ⟨S16x256x1x64x64, .i32⟩
  | 2 => ⟨S16x256x1x64x64, .i32⟩
  | 3 => ⟨S16x256x1x64x64, .i32⟩
  | 4 => ⟨S16x256x1x64x64, .i32⟩
  | 5 => ⟨S16x256x1x64x64, .i32⟩
  | 6 => ⟨S16x256x1x64x64, .i32⟩
  | 7 => ⟨S_, .i32⟩
  | 8 => ⟨S16x256x1x64x64, .i32⟩
  | 9 => ⟨S16x256x1x64x64, .i32⟩
  | 10 => ⟨S16x256x1x64x64, .i32⟩
  | 11 => ⟨S_, .i32⟩
  | 12 => ⟨S16x256x1x64x64, .i32⟩
  | 13 => ⟨S16x256x1x64x64, .i32⟩
  | 14 => ⟨S_, .i32⟩
  | 15 => ⟨S16x256x1x64x64, .i32⟩
  | 16 => ⟨S16x256x1x64x64, .i32⟩
  | 17 => ⟨S16x256x1x64x64, .i32⟩
  | 18 => ⟨S16x256x1x64x64, .i32⟩
  | 19 => ⟨S16x256x1x64x64, .i32⟩
  | 20 => ⟨S_, .i32⟩
  | 21 => ⟨S16x256x1x64x64, .i32⟩
  | 22 => ⟨S16x256x1x64x64, .i32⟩
  | 23 => ⟨S_, .i32⟩
  | 24 => ⟨S16x256x1x64x64, .i32⟩
  | 25 => ⟨S16x256x1x64x64, .i32⟩
  | 26 => ⟨S16x256x1x64x64, .i32⟩
  | 27 => ⟨S16x256x1x64x64, .i32⟩
  | 28 => ⟨S16x256x1x64x64, .i32⟩
  | 29 => ⟨S_, .i32⟩
  | 30 => ⟨S16x256x1x64x64, .i32⟩
  | 31 => ⟨S16x256x1x64x64, .i32⟩
  | 32 => ⟨S_, .i32⟩
  | 33 => ⟨S16x256x1x64x64, .i32⟩
  | 34 => ⟨S16x256x1x64x64, .i32⟩
  | 35 => ⟨S16x256x1x64x64, .i32⟩
  | 36 => ⟨S16x256x1x64x64, .i32⟩
  | 37 => ⟨S16x256x1x64x64, .i32⟩
  | 38 => ⟨S_, .i32⟩
  | 39 => ⟨S16x256x1x64x64, .i32⟩
  | 40 => ⟨S16x256x1x64x64, .i32⟩
  | 41 => ⟨S_, .i32⟩
  | 42 => ⟨S16x256x1x64x64, .i32⟩
  | 43 => ⟨S16x256x1x64x64, .i32⟩
  | 44 => ⟨S16x256x1x64x64, .i32⟩
  | 45 => ⟨S16x256x1x64x64, .i32⟩
  | 46 => ⟨S16x256x1x64x64, .i32⟩
  | 47 => ⟨S16x256x1x64x64, .i32⟩
  | 48 => ⟨S16x256x1x64x64, .i32⟩
  | 49 => ⟨S16x256x1x64x64, .i32⟩
  | 50 => ⟨S_, .i32⟩
  | 51 => ⟨S16x256x1x64x64, .i32⟩
  | 52 => ⟨S16x256x1x64x64, .i32⟩
  | 53 => ⟨S16x256x1x64x64, .i32⟩
  | 54 => ⟨S_, .i32⟩
  | 55 => ⟨S16x256x1x64x64, .i32⟩
  | 56 => ⟨S16x256x1x64x64, .i32⟩
  | 57 => ⟨S_, .i32⟩
  | 58 => ⟨S16x256x1x64x64, .i32⟩
  | 59 => ⟨S16x256x1x64x64, .i32⟩
  | 60 => ⟨S16x256x1x64x64, .f32⟩
  | 61 => ⟨S_, .f32⟩
  | 62 => ⟨S16x256x1x64x64, .f32⟩
  | 63 => ⟨S16x256x1x64x64, .f32⟩
  | 64 => ⟨S1x1x1x1x1, .f32⟩
  | 65 => ⟨S16x256x1x64x64, .f32⟩
  | 66 => ⟨S16x256x1x64x64, .f32⟩
  | 67 => ⟨S16x256x1x64x64, .f32⟩
  | 68 => ⟨S16x256x1x64x64, .f32⟩
  | 69 => ⟨S16x256x1x64x64, .f32⟩
  | 70 => ⟨S16x256x1x64x64, .f32⟩
  | 71 => ⟨S_, .f32⟩
  | 72 => ⟨S16x256x1x64x64, .f32⟩
  | 73 => ⟨S16x256x1x64x64, .f32⟩
  | 74 => ⟨S16x256x1x64x64, .f32⟩
  | 75 => ⟨S16x256x1x64x64, .f32⟩
  | 76 => ⟨S_, .f32⟩
  | 77 => ⟨S16x256x1x64x64, .f32⟩
  | 78 => ⟨S16x256x1x64x64, .f32⟩
  | 79 => ⟨S16x256x1x64x64, .f32⟩
  | 80 => ⟨S16x256x1x64x64, .f32⟩
  | 81 => ⟨S16x256x1x64x64, .f32⟩
  | 82 => ⟨S16x256x1x64x64, .i32⟩
  | 83 => ⟨S_, .f32⟩
  | 84 => ⟨S_, .i32⟩
  | 85 => ⟨S16x1x64x64, .f32⟩
  | 86 => ⟨S16x1x64x64, .i32⟩
  | 87 => ⟨S16x1x64x64x1, .i32⟩
  | 88 => ⟨S1x1x1x1x256, .i32⟩
  | 89 => ⟨S16x1x64x64x256, .i32⟩
  | 90 => ⟨S16x1x64x64x256, .i32⟩
  | 91 => ⟨S16x1x64x64x256, .i1⟩
  | 92 => ⟨S16x1x64x64x256, .f32⟩
  | 93 => ⟨S16x256x1x64x64, .f32⟩
  | 94 => ⟨S_, .f32⟩
  | 95 => ⟨S_, .f32⟩
  | 96 => ⟨S_, .f32⟩
  | 97 => ⟨S16x256x1x64x64, .f32⟩
  | 98 => ⟨S16x256x1x64x64, .f32⟩
  | 99 => ⟨S_, .f32⟩
  | 100 => ⟨S16x256x1x64x64, .f32⟩
  | 101 => ⟨S16x256x1x64x64, .f32⟩
  | 102 => ⟨S16x256x1x64x64, .f32⟩
  | _ => ⟨S16x256x1x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x256x1x64x64, .f32⟩

abbrev bufTy : (tb : Table) → Fin (tcTables nBuf tb) → BufTy
  | .hbm, ⟨i, _⟩ => hbmTy i
  | _, _ => ⟨S16x256x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v0 : Ref sig .tc := ⟨.hbm, 12, rfl⟩
abbrev main_v1 : Ref sig .tc := ⟨.hbm, 13, rfl⟩
abbrev main_cst_3 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_5 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_call3_cst : Ref sig .tc := ⟨.hbm, 113, rfl⟩
abbrev main_call3_v0 : Ref sig .tc := ⟨.hbm, 114, rfl⟩
abbrev main_call3_cst_0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_v6 : Ref sig .tc := ⟨.hbm, 121, rfl⟩
abbrev main_call3_cst_1 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_v91 : Ref sig .tc := ⟨.hbm, 127, rfl⟩
abbrev main_c_6 : Ref sig .tc := ⟨.hbm, 128, rfl⟩
abbrev main_v92 : Ref sig .tc := ⟨.hbm, 129, rfl⟩
abbrev main_v93 : Ref sig .tc := ⟨.hbm, 130, rfl⟩
abbrev main_c_7 : Ref sig .tc := ⟨.hbm, 131, rfl⟩
abbrev main_v94 : Ref sig .tc := ⟨.hbm, 132, rfl⟩
abbrev main_v95 : Ref sig .tc := ⟨.hbm, 133, rfl⟩
abbrev main_c_8 : Ref sig .tc := ⟨.hbm, 134, rfl⟩
abbrev main_v96 : Ref sig .tc := ⟨.hbm, 135, rfl⟩
abbrev main_c_9 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_cst : Ref sig .tc := ⟨.hbm, 159, rfl⟩
abbrev main_call5_v14 : Ref sig .tc := ⟨.hbm, 160, rfl⟩
abbrev main_v100 : Ref sig .tc := ⟨.hbm, 161, rfl⟩
abbrev main_v101 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_cst : Ref sig .tc := ⟨.hbm, 182, rfl⟩
abbrev main_call6_v14 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_cst_10 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_cst_11 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_cst_12 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_call8_c : Ref sig .tc := ⟨.hbm, 211, rfl⟩
abbrev main_call8_v0 : Ref sig .tc := ⟨.hbm, 212, rfl⟩
abbrev main_call8_v1 : Ref sig .tc := ⟨.hbm, 213, rfl⟩
abbrev main_call8_c_0 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_call8_v5 : Ref sig .tc := ⟨.hbm, 218, rfl⟩
abbrev main_call8_c_1 : Ref sig .tc := ⟨.hbm, 219, rfl⟩
abbrev main_call8_c_2 : Ref sig .tc := ⟨.hbm, 220, rfl⟩
abbrev main_call8_v6 : Ref sig .tc := ⟨.hbm, 221, rfl⟩
abbrev main_call8_v7 : Ref sig .tc := ⟨.hbm, 222, rfl⟩
abbrev main_call8_v8 : Ref sig .tc := ⟨.hbm, 223, rfl⟩
abbrev main_call8_v9 : Ref sig .tc := ⟨.hbm, 224, rfl⟩
abbrev main_call8_v10 : Ref sig .tc := ⟨.hbm, 225, rfl⟩
abbrev main_call8_v11 : Ref sig .tc := ⟨.hbm, 226, rfl⟩
abbrev main_call8_c_3 : Ref sig .tc := ⟨.hbm, 227, rfl⟩
abbrev main_call8_v12 : Ref sig .tc := ⟨.hbm, 228, rfl⟩
abbrev main_call8_v13 : Ref sig .tc := ⟨.hbm, 229, rfl⟩
abbrev main_call8_cst : Ref sig .tc := ⟨.hbm, 230, rfl⟩
abbrev main_call8_v14 : Ref sig .tc := ⟨.hbm, 231, rfl⟩
abbrev main_v126 : Ref sig .tc := ⟨.hbm, 232, rfl⟩
abbrev main_v127 : Ref sig .tc := ⟨.hbm, 233, rfl⟩
abbrev main_call9_c : Ref sig .tc := ⟨.hbm, 234, rfl⟩
abbrev main_call9_v0 : Ref sig .tc := ⟨.hbm, 235, rfl⟩
abbrev main_call9_v1 : Ref sig .tc := ⟨.hbm, 236, rfl⟩
abbrev main_call9_c_0 : Ref sig .tc := ⟨.hbm, 237, rfl⟩
abbrev main_call9_v2 : Ref sig .tc := ⟨.hbm, 238, rfl⟩
abbrev main_call9_v3 : Ref sig .tc := ⟨.hbm, 239, rfl⟩
abbrev main_call9_v4 : Ref sig .tc := ⟨.hbm, 240, rfl⟩
abbrev main_call9_v5 : Ref sig .tc := ⟨.hbm, 241, rfl⟩
abbrev main_call9_c_1 : Ref sig .tc := ⟨.hbm, 242, rfl⟩
abbrev main_call9_c_2 : Ref sig .tc := ⟨.hbm, 243, rfl⟩
abbrev main_call9_v6 : Ref sig .tc := ⟨.hbm, 244, rfl⟩
abbrev main_call9_v7 : Ref sig .tc := ⟨.hbm, 245, rfl⟩
abbrev main_call9_v8 : Ref sig .tc := ⟨.hbm, 246, rfl⟩
abbrev main_call9_v9 : Ref sig .tc := ⟨.hbm, 247, rfl⟩
abbrev main_call9_v10 : Ref sig .tc := ⟨.hbm, 248, rfl⟩
abbrev main_call9_v11 : Ref sig .tc := ⟨.hbm, 249, rfl⟩
abbrev main_call9_c_3 : Ref sig .tc := ⟨.hbm, 250, rfl⟩
abbrev main_call9_v12 : Ref sig .tc := ⟨.hbm, 251, rfl⟩
abbrev main_call9_v13 : Ref sig .tc := ⟨.hbm, 252, rfl⟩
abbrev main_call9_cst : Ref sig .tc := ⟨.hbm, 253, rfl⟩
abbrev main_call9_v14 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_cst_13 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_cst_14 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_cst_15 : Ref sig .tc := ⟨.hbm, 277, rfl⟩
abbrev main_v148 : Ref sig .tc := ⟨.hbm, 278, rfl⟩
abbrev main_v149 : Ref sig .tc := ⟨.hbm, 279, rfl⟩
abbrev main_cst_16 : Ref sig .tc := ⟨.hbm, 280, rfl⟩
abbrev main_call10_v0 : Ref sig .tc := ⟨.hbm, 281, rfl⟩
abbrev main_call10_v1 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_cst_17 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_c_18 : Ref sig .tc := ⟨.hbm, 294, rfl⟩
abbrev main_c_19 : Ref sig .tc := ⟨.hbm, 295, rfl⟩
abbrev main_v160 : Ref sig .tc := ⟨.hbm, 296, rfl⟩
abbrev main_v161 : Ref sig .tc := ⟨.hbm, 297, rfl⟩
abbrev main_v162 : Ref sig .tc := ⟨.hbm, 298, rfl⟩
abbrev main_c_20 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_cst_21 : Ref sig .tc := ⟨.hbm, 304, rfl⟩
abbrev main_cst_22 : Ref sig .tc := ⟨.hbm, 305, rfl⟩
abbrev main_call11_v0 : Ref sig .tc := ⟨.hbm, 306, rfl⟩
abbrev main_call11_v1 : Ref sig .tc := ⟨.hbm, 307, rfl⟩
abbrev main_call11_v2 : Ref sig .tc := ⟨.hbm, 308, rfl⟩
abbrev main_call11_v3 : Ref sig .tc := ⟨.hbm, 309, rfl⟩
abbrev main_call11_v4 : Ref sig .tc := ⟨.hbm, 310, rfl⟩
abbrev main_call11_v5 : Ref sig .tc := ⟨.hbm, 311, rfl⟩
abbrev main_call11_v6 : Ref sig .tc := ⟨.hbm, 312, rfl⟩
abbrev main_call11_v7 : Ref sig .tc := ⟨.hbm, 313, rfl⟩
abbrev main_call11_v8 : Ref sig .tc := ⟨.hbm, 314, rfl⟩
abbrev main_call11_v9 : Ref sig .tc := ⟨.hbm, 315, rfl⟩
abbrev main_call11_v10 : Ref sig .tc := ⟨.hbm, 316, rfl⟩
abbrev main_call11_v11 : Ref sig .tc := ⟨.hbm, 317, rfl⟩
abbrev main_call11_v12 : Ref sig .tc := ⟨.hbm, 318, rfl⟩
abbrev main_call11_c : Ref sig .tc := ⟨.hbm, 319, rfl⟩
abbrev main_call11_v13 : Ref sig .tc := ⟨.hbm, 320, rfl⟩
abbrev main_call11_v14 : Ref sig .tc := ⟨.hbm, 321, rfl⟩
abbrev main_call11_c_0 : Ref sig .tc := ⟨.hbm, 322, rfl⟩
abbrev main_call11_v15 : Ref sig .tc := ⟨.hbm, 323, rfl⟩
abbrev main_call11_v16 : Ref sig .tc := ⟨.hbm, 324, rfl⟩
abbrev main_call11_c_1 : Ref sig .tc := ⟨.hbm, 325, rfl⟩
abbrev main_call11_v17 : Ref sig .tc := ⟨.hbm, 326, rfl⟩
abbrev main_call11_v18 : Ref sig .tc := ⟨.hbm, 327, rfl⟩
abbrev main_call11_c_2 : Ref sig .tc := ⟨.hbm, 328, rfl⟩
abbrev main_call11_v19 : Ref sig .tc := ⟨.hbm, 329, rfl⟩
abbrev main_call11_v20 : Ref sig .tc := ⟨.hbm, 330, rfl⟩
abbrev main_call11_c_3 : Ref sig .tc := ⟨.hbm, 331, rfl⟩
abbrev main_call11_v21 : Ref sig .tc := ⟨.hbm, 332, rfl⟩
abbrev main_call11_v22 : Ref sig .tc := ⟨.hbm, 333, rfl⟩
abbrev main_call11_v23 : Ref sig .tc := ⟨.hbm, 334, rfl⟩
abbrev main_call11_v24 : Ref sig .tc := ⟨.hbm, 335, rfl⟩
abbrev main_call11_v25 : Ref sig .tc := ⟨.hbm, 336, rfl⟩
abbrev main_call11_v26 : Ref sig .tc := ⟨.hbm, 337, rfl⟩
abbrev main_call11_c_4 : Ref sig .tc := ⟨.hbm, 338, rfl⟩
abbrev main_call11_v27 : Ref sig .tc := ⟨.hbm, 339, rfl⟩
abbrev main_call11_v28 : Ref sig .tc := ⟨.hbm, 340, rfl⟩
abbrev main_call11_v29 : Ref sig .tc := ⟨.hbm, 341, rfl⟩
abbrev main_call11_v30 : Ref sig .tc := ⟨.hbm, 342, rfl⟩
abbrev main_call11_call0_v0 : Ref sig .tc := ⟨.hbm, 343, rfl⟩
abbrev main_call11_call0_c : Ref sig .tc := ⟨.hbm, 344, rfl⟩
abbrev main_call11_call0_v1 : Ref sig .tc := ⟨.hbm, 345, rfl⟩
abbrev main_call11_call0_v2 : Ref sig .tc := ⟨.hbm, 346, rfl⟩
abbrev main_call11_call0_v3 : Ref sig .tc := ⟨.hbm, 347, rfl⟩
abbrev main_call11_call0_v4 : Ref sig .tc := ⟨.hbm, 348, rfl⟩
abbrev main_call11_call0_v5 : Ref sig .tc := ⟨.hbm, 349, rfl⟩
abbrev main_call11_call0_v6 : Ref sig .tc := ⟨.hbm, 350, rfl⟩
abbrev main_call11_call0_c_0 : Ref sig .tc := ⟨.hbm, 351, rfl⟩
abbrev main_call11_call0_v7 : Ref sig .tc := ⟨.hbm, 352, rfl⟩
abbrev main_call11_call0_v8 : Ref sig .tc := ⟨.hbm, 353, rfl⟩
abbrev main_call11_call0_c_1 : Ref sig .tc := ⟨.hbm, 354, rfl⟩
abbrev main_call11_call0_v9 : Ref sig .tc := ⟨.hbm, 355, rfl⟩
abbrev main_call11_call0_v10 : Ref sig .tc := ⟨.hbm, 356, rfl⟩
abbrev main_call11_call0_v11 : Ref sig .tc := ⟨.hbm, 357, rfl⟩
abbrev main_call11_call0_v12 : Ref sig .tc := ⟨.hbm, 358, rfl⟩
abbrev main_call11_call0_v13 : Ref sig .tc := ⟨.hbm, 359, rfl⟩
abbrev main_call11_call0_c_2 : Ref sig .tc := ⟨.hbm, 360, rfl⟩
abbrev main_call11_call0_v14 : Ref sig .tc := ⟨.hbm, 361, rfl⟩
abbrev main_call11_call0_v15 : Ref sig .tc := ⟨.hbm, 362, rfl⟩
abbrev main_call11_call0_c_3 : Ref sig .tc := ⟨.hbm, 363, rfl⟩
abbrev main_call11_call0_v16 : Ref sig .tc := ⟨.hbm, 364, rfl⟩
abbrev main_call11_call0_v17 : Ref sig .tc := ⟨.hbm, 365, rfl⟩
abbrev main_call11_call0_v18 : Ref sig .tc := ⟨.hbm, 366, rfl⟩
abbrev main_call11_call0_v19 : Ref sig .tc := ⟨.hbm, 367, rfl⟩
abbrev main_call11_call0_v20 : Ref sig .tc := ⟨.hbm, 368, rfl⟩
abbrev main_call11_call0_c_4 : Ref sig .tc := ⟨.hbm, 369, rfl⟩
abbrev main_call11_call0_v21 : Ref sig .tc := ⟨.hbm, 370, rfl⟩
abbrev main_call11_call0_v22 : Ref sig .tc := ⟨.hbm, 371, rfl⟩
abbrev main_call11_call0_c_5 : Ref sig .tc := ⟨.hbm, 372, rfl⟩
abbrev main_call11_call0_v23 : Ref sig .tc := ⟨.hbm, 373, rfl⟩
abbrev main_call11_call0_v24 : Ref sig .tc := ⟨.hbm, 374, rfl⟩
abbrev main_call11_call0_v25 : Ref sig .tc := ⟨.hbm, 375, rfl⟩
abbrev main_call11_call0_v26 : Ref sig .tc := ⟨.hbm, 376, rfl⟩
abbrev main_call11_call0_v27 : Ref sig .tc := ⟨.hbm, 377, rfl⟩
abbrev main_call11_call0_c_6 : Ref sig .tc := ⟨.hbm, 378, rfl⟩
abbrev main_call11_call0_v28 : Ref sig .tc := ⟨.hbm, 379, rfl⟩
abbrev main_call11_call0_v29 : Ref sig .tc := ⟨.hbm, 380, rfl⟩
abbrev main_call11_call0_c_7 : Ref sig .tc := ⟨.hbm, 381, rfl⟩
abbrev main_call11_call0_v30 : Ref sig .tc := ⟨.hbm, 382, rfl⟩
abbrev main_call11_call0_v31 : Ref sig .tc := ⟨.hbm, 383, rfl⟩
abbrev main_call11_call0_v32 : Ref sig .tc := ⟨.hbm, 384, rfl⟩
abbrev main_call11_call0_v33 : Ref sig .tc := ⟨.hbm, 385, rfl⟩
abbrev main_call11_call0_v34 : Ref sig .tc := ⟨.hbm, 386, rfl⟩
abbrev main_call11_call0_v35 : Ref sig .tc := ⟨.hbm, 387, rfl⟩
abbrev main_call11_call0_v36 : Ref sig .tc := ⟨.hbm, 388, rfl⟩
abbrev main_call11_call0_v37 : Ref sig .tc := ⟨.hbm, 389, rfl⟩
abbrev main_call11_call0_c_8 : Ref sig .tc := ⟨.hbm, 390, rfl⟩
abbrev main_call11_call0_v38 : Ref sig .tc := ⟨.hbm, 391, rfl⟩
abbrev main_call11_call0_v39 : Ref sig .tc := ⟨.hbm, 392, rfl⟩
abbrev main_call11_call0_v40 : Ref sig .tc := ⟨.hbm, 393, rfl⟩
abbrev main_call11_call0_c_9 : Ref sig .tc := ⟨.hbm, 394, rfl⟩
abbrev main_call11_call0_v41 : Ref sig .tc := ⟨.hbm, 395, rfl⟩
abbrev main_call11_call0_v42 : Ref sig .tc := ⟨.hbm, 396, rfl⟩
abbrev main_call11_call0_c_10 : Ref sig .tc := ⟨.hbm, 397, rfl⟩
abbrev main_call11_call0_v43 : Ref sig .tc := ⟨.hbm, 398, rfl⟩
abbrev main_call11_call0_v44 : Ref sig .tc := ⟨.hbm, 399, rfl⟩
abbrev main_call11_call0_v45 : Ref sig .tc := ⟨.hbm, 400, rfl⟩
abbrev main_call11_call0_v46 : Ref sig .tc := ⟨.hbm, 401, rfl⟩
abbrev main_call11_call0_v47 : Ref sig .tc := ⟨.hbm, 402, rfl⟩
abbrev main_call11_call0_c_11 : Ref sig .tc := ⟨.hbm, 403, rfl⟩
abbrev main_call11_call0_v48 : Ref sig .tc := ⟨.hbm, 404, rfl⟩
abbrev main_call11_call0_v49 : Ref sig .tc := ⟨.hbm, 405, rfl⟩
abbrev main_call11_call0_c_12 : Ref sig .tc := ⟨.hbm, 406, rfl⟩
abbrev main_call11_call0_v50 : Ref sig .tc := ⟨.hbm, 407, rfl⟩
abbrev main_call11_call0_v51 : Ref sig .tc := ⟨.hbm, 408, rfl⟩
abbrev main_call11_call0_v52 : Ref sig .tc := ⟨.hbm, 409, rfl⟩
abbrev main_call11_call0_v53 : Ref sig .tc := ⟨.hbm, 410, rfl⟩
abbrev main_call11_call0_v54 : Ref sig .tc := ⟨.hbm, 411, rfl⟩
abbrev main_call11_call0_c_13 : Ref sig .tc := ⟨.hbm, 412, rfl⟩
abbrev main_call11_call0_v55 : Ref sig .tc := ⟨.hbm, 413, rfl⟩
abbrev main_call11_call0_v56 : Ref sig .tc := ⟨.hbm, 414, rfl⟩
abbrev main_call11_call0_c_14 : Ref sig .tc := ⟨.hbm, 415, rfl⟩
abbrev main_call11_call0_v57 : Ref sig .tc := ⟨.hbm, 416, rfl⟩
abbrev main_call11_call0_v58 : Ref sig .tc := ⟨.hbm, 417, rfl⟩
abbrev main_call11_call0_v59 : Ref sig .tc := ⟨.hbm, 418, rfl⟩
abbrev main_call11_call0_v60 : Ref sig .tc := ⟨.hbm, 419, rfl⟩
abbrev main_call11_call0_v61 : Ref sig .tc := ⟨.hbm, 420, rfl⟩
abbrev main_call11_call0_c_15 : Ref sig .tc := ⟨.hbm, 421, rfl⟩
abbrev main_call11_call0_v62 : Ref sig .tc := ⟨.hbm, 422, rfl⟩
abbrev main_call11_call0_v63 : Ref sig .tc := ⟨.hbm, 423, rfl⟩
abbrev main_call11_call0_c_16 : Ref sig .tc := ⟨.hbm, 424, rfl⟩
abbrev main_call11_call0_v64 : Ref sig .tc := ⟨.hbm, 425, rfl⟩
abbrev main_call11_call0_v65 : Ref sig .tc := ⟨.hbm, 426, rfl⟩
abbrev main_call11_call0_v66 : Ref sig .tc := ⟨.hbm, 427, rfl⟩
abbrev main_call11_call0_v67 : Ref sig .tc := ⟨.hbm, 428, rfl⟩
abbrev main_call11_call0_v68 : Ref sig .tc := ⟨.hbm, 429, rfl⟩
abbrev main_call11_call0_v69 : Ref sig .tc := ⟨.hbm, 430, rfl⟩
abbrev main_call11_call0_v70 : Ref sig .tc := ⟨.hbm, 431, rfl⟩
abbrev main_call11_call0_v71 : Ref sig .tc := ⟨.hbm, 432, rfl⟩
abbrev main_call11_call0_c_17 : Ref sig .tc := ⟨.hbm, 433, rfl⟩
abbrev main_call11_call0_v72 : Ref sig .tc := ⟨.hbm, 434, rfl⟩
abbrev main_call11_call0_v73 : Ref sig .tc := ⟨.hbm, 435, rfl⟩
abbrev main_call11_call0_v74 : Ref sig .tc := ⟨.hbm, 436, rfl⟩
abbrev main_call11_call0_c_18 : Ref sig .tc := ⟨.hbm, 437, rfl⟩
abbrev main_call11_call0_v75 : Ref sig .tc := ⟨.hbm, 438, rfl⟩
abbrev main_call11_call0_v76 : Ref sig .tc := ⟨.hbm, 439, rfl⟩
abbrev main_call11_call0_c_19 : Ref sig .tc := ⟨.hbm, 440, rfl⟩
abbrev main_call11_call0_v77 : Ref sig .tc := ⟨.hbm, 441, rfl⟩
abbrev main_call11_call0_v78 : Ref sig .tc := ⟨.hbm, 442, rfl⟩
abbrev main_call11_call0_v79 : Ref sig .tc := ⟨.hbm, 443, rfl⟩
abbrev main_call11_call0_v80 : Ref sig .tc := ⟨.hbm, 444, rfl⟩
abbrev main_call11_call0_v81 : Ref sig .tc := ⟨.hbm, 445, rfl⟩
abbrev main_call11_call0_c_20 : Ref sig .tc := ⟨.hbm, 446, rfl⟩
abbrev main_call11_call0_v82 : Ref sig .tc := ⟨.hbm, 447, rfl⟩
abbrev main_call11_call0_v83 : Ref sig .tc := ⟨.hbm, 448, rfl⟩
abbrev main_call11_call0_c_21 : Ref sig .tc := ⟨.hbm, 449, rfl⟩
abbrev main_call11_call0_v84 : Ref sig .tc := ⟨.hbm, 450, rfl⟩
abbrev main_call11_call0_v85 : Ref sig .tc := ⟨.hbm, 451, rfl⟩
abbrev main_call11_call0_v86 : Ref sig .tc := ⟨.hbm, 452, rfl⟩
abbrev main_call11_call0_v87 : Ref sig .tc := ⟨.hbm, 453, rfl⟩
abbrev main_call11_call0_v88 : Ref sig .tc := ⟨.hbm, 454, rfl⟩
abbrev main_call11_call0_c_22 : Ref sig .tc := ⟨.hbm, 455, rfl⟩
abbrev main_call11_call0_v89 : Ref sig .tc := ⟨.hbm, 456, rfl⟩
abbrev main_call11_call0_v90 : Ref sig .tc := ⟨.hbm, 457, rfl⟩
abbrev main_call11_call0_c_23 : Ref sig .tc := ⟨.hbm, 458, rfl⟩
abbrev main_call11_call0_v91 : Ref sig .tc := ⟨.hbm, 459, rfl⟩
abbrev main_call11_call0_v92 : Ref sig .tc := ⟨.hbm, 460, rfl⟩
abbrev main_call11_call0_v93 : Ref sig .tc := ⟨.hbm, 461, rfl⟩
abbrev main_call11_call0_v94 : Ref sig .tc := ⟨.hbm, 462, rfl⟩
abbrev main_call11_call0_v95 : Ref sig .tc := ⟨.hbm, 463, rfl⟩
abbrev main_call11_call0_c_24 : Ref sig .tc := ⟨.hbm, 464, rfl⟩
abbrev main_call11_call0_v96 : Ref sig .tc := ⟨.hbm, 465, rfl⟩
abbrev main_call11_call0_v97 : Ref sig .tc := ⟨.hbm, 466, rfl⟩
abbrev main_call11_call0_c_25 : Ref sig .tc := ⟨.hbm, 467, rfl⟩
abbrev main_call11_call0_v98 : Ref sig .tc := ⟨.hbm, 468, rfl⟩
abbrev main_call11_call0_v99 : Ref sig .tc := ⟨.hbm, 469, rfl⟩
abbrev main_call11_call0_v100 : Ref sig .tc := ⟨.hbm, 470, rfl⟩
abbrev main_call11_call0_v101 : Ref sig .tc := ⟨.hbm, 471, rfl⟩
abbrev main_call11_call0_v102 : Ref sig .tc := ⟨.hbm, 472, rfl⟩
abbrev main_call11_call0_v103 : Ref sig .tc := ⟨.hbm, 473, rfl⟩
abbrev main_call11_call0_v104 : Ref sig .tc := ⟨.hbm, 474, rfl⟩
abbrev main_call11_call0_v105 : Ref sig .tc := ⟨.hbm, 475, rfl⟩
abbrev main_call11_call0_c_26 : Ref sig .tc := ⟨.hbm, 476, rfl⟩
abbrev main_call11_call0_v106 : Ref sig .tc := ⟨.hbm, 477, rfl⟩
abbrev main_call11_call0_v107 : Ref sig .tc := ⟨.hbm, 478, rfl⟩
abbrev main_call11_call0_v108 : Ref sig .tc := ⟨.hbm, 479, rfl⟩
abbrev main_call11_call0_c_27 : Ref sig .tc := ⟨.hbm, 480, rfl⟩
abbrev main_call11_call0_v109 : Ref sig .tc := ⟨.hbm, 481, rfl⟩
abbrev main_call11_call0_v110 : Ref sig .tc := ⟨.hbm, 482, rfl⟩
abbrev main_call11_call0_c_28 : Ref sig .tc := ⟨.hbm, 483, rfl⟩
abbrev main_call11_call0_v111 : Ref sig .tc := ⟨.hbm, 484, rfl⟩
abbrev main_call11_call0_v112 : Ref sig .tc := ⟨.hbm, 485, rfl⟩
abbrev main_call11_call0_v113 : Ref sig .tc := ⟨.hbm, 486, rfl⟩
abbrev main_call11_call0_v114 : Ref sig .tc := ⟨.hbm, 487, rfl⟩
abbrev main_call11_call0_v115 : Ref sig .tc := ⟨.hbm, 488, rfl⟩
abbrev main_call11_call0_c_29 : Ref sig .tc := ⟨.hbm, 489, rfl⟩
abbrev main_call11_call0_v116 : Ref sig .tc := ⟨.hbm, 490, rfl⟩
abbrev main_call11_call0_v117 : Ref sig .tc := ⟨.hbm, 491, rfl⟩
abbrev main_call11_call0_c_30 : Ref sig .tc := ⟨.hbm, 492, rfl⟩
abbrev main_call11_call0_v118 : Ref sig .tc := ⟨.hbm, 493, rfl⟩
abbrev main_call11_call0_v119 : Ref sig .tc := ⟨.hbm, 494, rfl⟩
abbrev main_call11_call0_v120 : Ref sig .tc := ⟨.hbm, 495, rfl⟩
abbrev main_call11_call0_v121 : Ref sig .tc := ⟨.hbm, 496, rfl⟩
abbrev main_call11_call0_v122 : Ref sig .tc := ⟨.hbm, 497, rfl⟩
abbrev main_call11_call0_c_31 : Ref sig .tc := ⟨.hbm, 498, rfl⟩
abbrev main_call11_call0_v123 : Ref sig .tc := ⟨.hbm, 499, rfl⟩
abbrev main_call11_call0_v124 : Ref sig .tc := ⟨.hbm, 500, rfl⟩
abbrev main_call11_call0_c_32 : Ref sig .tc := ⟨.hbm, 501, rfl⟩
abbrev main_call11_call0_v125 : Ref sig .tc := ⟨.hbm, 502, rfl⟩
abbrev main_call11_call0_v126 : Ref sig .tc := ⟨.hbm, 503, rfl⟩
abbrev main_call11_call0_v127 : Ref sig .tc := ⟨.hbm, 504, rfl⟩
abbrev main_call11_call0_v128 : Ref sig .tc := ⟨.hbm, 505, rfl⟩
abbrev main_call11_call0_v129 : Ref sig .tc := ⟨.hbm, 506, rfl⟩
abbrev main_call11_call0_c_33 : Ref sig .tc := ⟨.hbm, 507, rfl⟩
abbrev main_call11_call0_v130 : Ref sig .tc := ⟨.hbm, 508, rfl⟩
abbrev main_call11_call0_v131 : Ref sig .tc := ⟨.hbm, 509, rfl⟩
abbrev main_call11_call0_c_34 : Ref sig .tc := ⟨.hbm, 510, rfl⟩
abbrev main_call11_call0_v132 : Ref sig .tc := ⟨.hbm, 511, rfl⟩
abbrev main_call11_call0_v133 : Ref sig .tc := ⟨.hbm, 512, rfl⟩
abbrev main_call11_call0_v134 : Ref sig .tc := ⟨.hbm, 513, rfl⟩
abbrev main_call11_call0_v135 : Ref sig .tc := ⟨.hbm, 514, rfl⟩
abbrev main_call11_call0_v136 : Ref sig .tc := ⟨.hbm, 515, rfl⟩
abbrev main_call11_call0_v137 : Ref sig .tc := ⟨.hbm, 516, rfl⟩
abbrev main_call11_call0_v138 : Ref sig .tc := ⟨.hbm, 517, rfl⟩
abbrev main_call11_call0_v139 : Ref sig .tc := ⟨.hbm, 518, rfl⟩
abbrev main_call11_call0_c_35 : Ref sig .tc := ⟨.hbm, 519, rfl⟩
abbrev main_call11_call0_v140 : Ref sig .tc := ⟨.hbm, 520, rfl⟩
abbrev main_call11_call0_v141 : Ref sig .tc := ⟨.hbm, 521, rfl⟩
abbrev main_call11_call0_v142 : Ref sig .tc := ⟨.hbm, 522, rfl⟩
abbrev main_call11_call0_c_36 : Ref sig .tc := ⟨.hbm, 523, rfl⟩
abbrev main_call11_call0_v143 : Ref sig .tc := ⟨.hbm, 524, rfl⟩
abbrev main_call11_call0_v144 : Ref sig .tc := ⟨.hbm, 525, rfl⟩
abbrev main_call11_call0_c_37 : Ref sig .tc := ⟨.hbm, 526, rfl⟩
abbrev main_call11_call0_v145 : Ref sig .tc := ⟨.hbm, 527, rfl⟩
abbrev main_call11_call0_v146 : Ref sig .tc := ⟨.hbm, 528, rfl⟩
abbrev main_call11_call0_v147 : Ref sig .tc := ⟨.hbm, 529, rfl⟩
abbrev main_call11_call0_v148 : Ref sig .tc := ⟨.hbm, 530, rfl⟩
abbrev main_call11_call0_v149 : Ref sig .tc := ⟨.hbm, 531, rfl⟩
abbrev main_call11_call0_c_38 : Ref sig .tc := ⟨.hbm, 532, rfl⟩
abbrev main_call11_call0_v150 : Ref sig .tc := ⟨.hbm, 533, rfl⟩
abbrev main_call11_call0_v151 : Ref sig .tc := ⟨.hbm, 534, rfl⟩
abbrev main_call11_call0_c_39 : Ref sig .tc := ⟨.hbm, 535, rfl⟩
abbrev main_call11_call0_v152 : Ref sig .tc := ⟨.hbm, 536, rfl⟩
abbrev main_call11_call0_v153 : Ref sig .tc := ⟨.hbm, 537, rfl⟩
abbrev main_call11_call0_v154 : Ref sig .tc := ⟨.hbm, 538, rfl⟩
abbrev main_call11_call0_v155 : Ref sig .tc := ⟨.hbm, 539, rfl⟩
abbrev main_call11_call0_v156 : Ref sig .tc := ⟨.hbm, 540, rfl⟩
abbrev main_call11_call0_c_40 : Ref sig .tc := ⟨.hbm, 541, rfl⟩
abbrev main_call11_call0_v157 : Ref sig .tc := ⟨.hbm, 542, rfl⟩
abbrev main_call11_call0_v158 : Ref sig .tc := ⟨.hbm, 543, rfl⟩
abbrev main_call11_call0_c_41 : Ref sig .tc := ⟨.hbm, 544, rfl⟩
abbrev main_call11_call0_v159 : Ref sig .tc := ⟨.hbm, 545, rfl⟩
abbrev main_call11_call0_v160 : Ref sig .tc := ⟨.hbm, 546, rfl⟩
abbrev main_call11_call0_v161 : Ref sig .tc := ⟨.hbm, 547, rfl⟩
abbrev main_call11_call0_v162 : Ref sig .tc := ⟨.hbm, 548, rfl⟩
abbrev main_call11_call0_v163 : Ref sig .tc := ⟨.hbm, 549, rfl⟩
abbrev main_call11_call0_c_42 : Ref sig .tc := ⟨.hbm, 550, rfl⟩
abbrev main_call11_call0_v164 : Ref sig .tc := ⟨.hbm, 551, rfl⟩
abbrev main_call11_call0_v165 : Ref sig .tc := ⟨.hbm, 552, rfl⟩
abbrev main_call11_call0_c_43 : Ref sig .tc := ⟨.hbm, 553, rfl⟩
abbrev main_call11_call0_v166 : Ref sig .tc := ⟨.hbm, 554, rfl⟩
abbrev main_call11_call0_v167 : Ref sig .tc := ⟨.hbm, 555, rfl⟩
abbrev main_call11_call0_v168 : Ref sig .tc := ⟨.hbm, 556, rfl⟩
abbrev main_call11_call0_v169 : Ref sig .tc := ⟨.hbm, 557, rfl⟩
abbrev main_call11_call0_v170 : Ref sig .tc := ⟨.hbm, 558, rfl⟩
abbrev main_call11_v31_0 : Ref sig .tc := ⟨.hbm, 559, rfl⟩
abbrev main_call11_call0_v172 : Ref sig .tc := ⟨.hbm, 560, rfl⟩
abbrev main_call11_call0_v173 : Ref sig .tc := ⟨.hbm, 561, rfl⟩
abbrev main_call11_call0_c_44 : Ref sig .tc := ⟨.hbm, 562, rfl⟩
abbrev main_call11_call0_v174 : Ref sig .tc := ⟨.hbm, 563, rfl⟩
abbrev main_call11_v31_1 : Ref sig .tc := ⟨.hbm, 564, rfl⟩
abbrev main_call11_v32 : Ref sig .tc := ⟨.hbm, 565, rfl⟩
abbrev main_call11_c_5 : Ref sig .tc := ⟨.hbm, 566, rfl⟩
abbrev main_call11_v33 : Ref sig .tc := ⟨.hbm, 567, rfl⟩
abbrev main_call11_v34 : Ref sig .tc := ⟨.hbm, 568, rfl⟩
abbrev main_call11_c_6 : Ref sig .tc := ⟨.hbm, 569, rfl⟩
abbrev main_call11_v35 : Ref sig .tc := ⟨.hbm, 570, rfl⟩
abbrev main_call11_v36 : Ref sig .tc := ⟨.hbm, 571, rfl⟩
abbrev main_call11_v37 : Ref sig .tc := ⟨.hbm, 572, rfl⟩
abbrev main_call11_cst : Ref sig .tc := ⟨.hbm, 573, rfl⟩
abbrev main_call11_v38 : Ref sig .tc := ⟨.hbm, 574, rfl⟩
abbrev main_call11_v39 : Ref sig .tc := ⟨.hbm, 575, rfl⟩
abbrev main_call11_v40 : Ref sig .tc := ⟨.hbm, 576, rfl⟩
abbrev main_call11_v41 : Ref sig .tc := ⟨.hbm, 577, rfl⟩
abbrev main_call11_v42 : Ref sig .tc := ⟨.hbm, 578, rfl⟩
abbrev main_call11_v43 : Ref sig .tc := ⟨.hbm, 579, rfl⟩
abbrev main_call11_v44 : Ref sig .tc := ⟨.hbm, 580, rfl⟩
abbrev main_call11_v45 : Ref sig .tc := ⟨.hbm, 581, rfl⟩
abbrev main_v167 : Ref sig .tc := ⟨.hbm, 582, rfl⟩
abbrev main_cst_23 : Ref sig .tc := ⟨.hbm, 583, rfl⟩
abbrev main_v168 : Ref sig .tc := ⟨.hbm, 584, rfl⟩
abbrev main_v169 : Ref sig .tc := ⟨.hbm, 585, rfl⟩
abbrev main_v170 : Ref sig .tc := ⟨.hbm, 586, rfl⟩
abbrev main_v171 : Ref sig .tc := ⟨.hbm, 587, rfl⟩
abbrev main_cst_24 : Ref sig .tc := ⟨.hbm, 588, rfl⟩
abbrev main_v172 : Ref sig .tc := ⟨.hbm, 589, rfl⟩
abbrev main_v173 : Ref sig .tc := ⟨.hbm, 590, rfl⟩
abbrev main_v174 : Ref sig .tc := ⟨.hbm, 591, rfl⟩
abbrev main_v175 : Ref sig .tc := ⟨.hbm, 592, rfl⟩
abbrev main_v176 : Ref sig .tc := ⟨.hbm, 593, rfl⟩
abbrev main_call12_v0 : Ref sig .tc := ⟨.hbm, 594, rfl⟩
abbrev main_call12_cst : Ref sig .tc := ⟨.hbm, 595, rfl⟩
abbrev main_call12_c : Ref sig .tc := ⟨.hbm, 596, rfl⟩
abbrev main_call12_v1_0 : Ref sig .tc := ⟨.hbm, 597, rfl⟩
abbrev main_v177 : Ref sig .tc := ⟨.hbm, 598, rfl⟩
abbrev main_call13_v0 : Ref sig .tc := ⟨.hbm, 599, rfl⟩
abbrev main_call13_v1 : Ref sig .tc := ⟨.hbm, 600, rfl⟩
abbrev main_call13_v2 : Ref sig .tc := ⟨.hbm, 601, rfl⟩
abbrev main_call13_v3 : Ref sig .tc := ⟨.hbm, 602, rfl⟩
abbrev main_call13_v4 : Ref sig .tc := ⟨.hbm, 603, rfl⟩
abbrev main_v178 : Ref sig .tc := ⟨.hbm, 604, rfl⟩
abbrev main_v179 : Ref sig .tc := ⟨.hbm, 605, rfl⟩
abbrev main_cst_25 : Ref sig .tc := ⟨.hbm, 606, rfl⟩
abbrev main_cst_26 : Ref sig .tc := ⟨.hbm, 607, rfl⟩
abbrev main_call14_v0 : Ref sig .tc := ⟨.hbm, 608, rfl⟩
abbrev main_call14_v1 : Ref sig .tc := ⟨.hbm, 609, rfl⟩
abbrev main_call14_v2 : Ref sig .tc := ⟨.hbm, 610, rfl⟩
abbrev main_call14_v3 : Ref sig .tc := ⟨.hbm, 611, rfl⟩
abbrev main_call14_v4 : Ref sig .tc := ⟨.hbm, 612, rfl⟩
abbrev main_v180 : Ref sig .tc := ⟨.hbm, 613, rfl⟩
abbrev main_v181 : Ref sig .tc := ⟨.hbm, 614, rfl⟩

abbrev nD : Nat := 1
abbrev τ : Topo := Topo.v7x

variable {F : FTy → Type} [FloatOps F]
-- ==== Proof.RefOps.lean ====
/- The reference program's operations, in the order it runs them, in two halves: up to the log-sum-exp. -/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents of an array of shape `s` with entries of type `e`. -/
abbrev Ar (F : FTy → Type) (s : Shape) (e : EltTy) : Type := (⟨s, e⟩ : BufTy).Contents (Elt F)

/-- The logarithm of the cumulative retention, as float32 words. -/
def tab0 : Ar F S4000 .f32 := fun i => FloatOps.ofBits .f32 (lit0 (S4000.rowMajor i))
/-- The logarithm of its complement. -/
def tab1 : Ar F S4000 .f32 := fun i => FloatOps.ofBits .f32 (lit1 (S4000.rowMajor i))
/-- The logarithm of the one-step retention. -/
def tab2 : Ar F S4000 .f32 := fun i => FloatOps.ofBits .f32 (lit2 (S4000.rowMajor i))
/-- The logarithm of its complement. -/
def tab3 : Ar F S4000 .f32 := fun i => FloatOps.ofBits .f32 (lit3 (S4000.rowMajor i))

/-- The two words of the key side by side. -/
def keyPair (a b : Ar F S1 .i32) : Ar F S2 .i32 :=
  concatenate S2 0 [⟨S1, a⟩, ⟨S1, b⟩] concatenates_S1_S1_S2_d0

/-- The four schedule tables. -/
abbrev opsTables : List (HloOp τ sig (Elt F)) :=
  [ nullary main_cst tab0,
    nullary main_cst_0 tab1,
    nullary main_cst_1 tab2,
    nullary main_cst_2 tab3 ]

/-- The stage's operations use the program's buffers. -/
theorem opsTables_sub : (opsTables : List (HloOp τ sig (Elt F))).Forall fun op => op.bufs ⊆ tcRefs τ sig :=
  ⟨nullary_bufs_sub .., nullary_bufs_sub .., nullary_bufs_sub .., nullary_bufs_sub ..⟩

/-- The stage's operations take no new buffer. -/
theorem opsTables_fresh : (opsTables : List (HloOp τ sig (Elt F))).Forall fun op => op.fresh = ∅ :=
  ⟨rfl, rfl, rfl, rfl⟩

/-- The class of every pixel. -/
abbrev opsArgmax : List (HloOp τ sig (Elt F)) :=
  [ TRef.nullary (TRef.of (T := ⟨S16x256x1x64x64, .i32⟩) main_call0_v0) (iotaInDim S16x256x1x64x64 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16x256x1x64x64, .f32⟩) main_arg0) (TRef.of (T := ⟨S16x256x1x64x64, .i32⟩) main_call0_v0) (TRef.of (T := ⟨S_, .f32⟩) main_call0_cst) (TRef.of (T := ⟨S_, .i32⟩) main_call0_c) (TRef.of (T := ⟨S16x1x64x64, .f32⟩) main_call0_v1_0) (fun x y u v => fun j => (Host.argReduce reducer_argmax_f32_i32 x y u v reducesTo_S16x256x1x64x64_S16x1x64x64_d1 h_S_ j).1),
    TRef.quaternary (TRef.of (T := ⟨S16x256x1x64x64, .f32⟩) main_arg0) (TRef.of (T := ⟨S16x256x1x64x64, .i32⟩) main_call0_v0) (TRef.of (T := ⟨S_, .f32⟩) main_call0_cst) (TRef.of (T := ⟨S_, .i32⟩) main_call0_c) (TRef.of (T := ⟨S16x1x64x64, .i32⟩) main_v0) (fun x y u v => fun j => (Host.argReduce reducer_argmax_f32_i32 x y u v reducesTo_S16x256x1x64x64_S16x1x64x64_d1 h_S_ j).2) ]

/-- The stage's operations use the program's buffers. -/
theorem opsArgmax_sub : (opsArgmax : List (HloOp τ sig (Elt F))).Forall fun op => op.bufs ⊆ tcRefs τ sig :=
  ⟨nullary_bufs_sub .., nullary_bufs_sub .., nullary_bufs_sub .., quaternary_bufs_sub .., quaternary_bufs_sub ..⟩

/-- The stage's operations take no new buffer. -/
theorem opsArgmax_fresh : (opsArgmax : List (HloOp τ sig (Elt F))).Forall fun op => op.fresh = ∅ :=
  ⟨rfl, rfl, rfl, rfl, rfl⟩

/-- The class over 255, with a border of zeros. -/
abbrev opsPad : List (HloOp τ sig (Elt F)) :=
  [ unary main_v0 main_v1 (sitofp .f32 : Ar F S16x1x64x64 .i32 → Ar F S16x1x64x64 .f32),
    nullary main_cst_3 (constant S_ .f32 0x437F0000#32),
    unary main_cst_3 main_v2 (broadcastInDim S16x1x64x64 ![] bcast_S_S16x1x64x64 : Ar F S_ .f32 → Ar F S16x1x64x64 .f32),
    binary main_v1 main_v2 main_v3 (Host.divf : Ar F S16x1x64x64 .f32 → Ar F S16x1x64x64 .f32 → Ar F S16x1x64x64 .f32),
    nullary main_c (constantI S_ 32 0#32),
    TRef.unary (TRef.of (T := ⟨S_, .i32⟩) main_c) (TRef.of (T := ⟨S_, .f32⟩) main_call1_v0) (sitofp .f32) ]

/-- The stage's operations use the program's buffers. -/
theorem opsPad_sub : (opsPad : List (HloOp τ sig (Elt F))).Forall fun op => op.bufs ⊆ tcRefs τ sig :=
  ⟨unary_bufs_sub .., nullary_bufs_sub .., unary_bufs_sub .., binary_bufs_sub .., nullary_bufs_sub .., unary_bufs_sub ..⟩

/-- The stage's operations take no new buffer. -/
theorem opsPad_fresh : (opsPad : List (HloOp τ sig (Elt F))).Forall fun op => op.fresh = ∅ :=
  ⟨rfl, rfl, rfl, rfl, rfl, rfl⟩

/-- The nine shifted products and their sum. -/
abbrev opsConv : List (HloOp τ sig (Elt F)) :=
  [ TRef.binary (TRef.of (T := ⟨S16x1x64x64, .f32⟩) main_v3) (TRef.of (T := ⟨S_, .f32⟩) main_call1_v0) (TRef.of (T := ⟨S16x1x66x66, .f32⟩) main_v4) (fun x v => pad S16x1x66x66 ![0, 0, 1, 1] ![0, 0, 1, 1] ![0, 0, 0, 0] x v pads_S16x1x64x64_S16x1x66x66_000_000_110_110 h_S_),
    unary main_arg2 main_v5 ((extractStridedSlice S256x1x1x1 ![0, 0, 0, 0] · slices_S256x1x3x3_S256x1x1x1_0_0_0_0) : Ar F S256x1x3x3 .f32 → Ar F S256x1x1x1 .f32),
    reshape main_v5 main_v6 (rfl : (.f32 : EltTy) = .f32) shapeCasts_S256x1x1x1_S256,
    reshape main_v6 main_v7 (rfl : (.f32 : EltTy) = .f32) shapeCasts_S256_S1x256x1x1,
    unary main_v4 main_v8 ((extractStridedSlice S16x1x64x64 ![0, 0, 0, 0] · slices_S16x1x66x66_S16x1x64x64_0_0_0_0) : Ar F S16x1x66x66 .f32 → Ar F S16x1x64x64 .f32),
    unary main_v7 main_v9 (broadcastInDim S16x256x64x64 ![0, 1, 2, 3] bcast_S1x256x1x1_S16x256x64x64_0_1_2_3 : Ar F S1x256x1x1 .f32 → Ar F S16x256x64x64 .f32),
    unary main_v8 main_v10 (broadcastInDim S16x256x64x64 ![0, 1, 2, 3] bcast_S16x1x64x64_S16x256x64x64_0_1_2_3 : Ar F S16x1x64x64 .f32 → Ar F S16x256x64x64 .f32),
    binary main_v9 main_v10 main_v11 (mulf : Ar F S16x256x64x64 .f32 → Ar F S16x256x64x64 .f32 → Ar F S16x256x64x64 .f32),
    nullary main_cst_4 (constant S_ .f32 0x00000000#32),
    unary main_cst_4 main_v12 (broadcastInDim S16x256x64x64 ![] bcast_S_S16x256x64x64 : Ar F S_ .f32 → Ar F S16x256x64x64 .f32),
    binary main_v12 main_v11 main_v13 (addf : Ar F S16x256x64x64 .f32 → Ar F S16x256x64x64 .f32 → Ar F S16x256x64x64 .f32),
    unary main_arg2 main_v14 ((extractStridedSlice S256x1x1x1 ![0, 0, 0, 1] · slices_S256x1x3x3_S256x1x1x1_0_0_0_1) : Ar F S256x1x3x3 .f32 → Ar F S256x1x1x1 .f32),
    reshape main_v14 main_v15 (rfl : (.f32 : EltTy) = .f32) shapeCasts_S256x1x1x1_S256,
    reshape main_v15 main_v16 (rfl : (.f32 : EltTy) = .f32) shapeCasts_S256_S1x256x1x1,
    unary main_v4 main_v17 ((extractStridedSlice S16x1x64x64 ![0, 0, 0, 1] · slices_S16x1x66x66_S16x1x64x64_0_0_0_1) : Ar F S16x1x66x66 .f32 → Ar F S16x1x64x64 .f32),
    unary main_v16 main_v18 (broadcastInDim S16x256x64x64 ![0, 1, 2, 3] bcast_S1x256x1x1_S16x256x64x64_0_1_2_3 : Ar F S1x256x1x1 .f32 → Ar F S16x256x64x64 .f32),
    unary main_v17 main_v19 (broadcastInDim S16x256x64x64 ![0, 1, 2, 3] bcast_S16x1x64x64_S16x256x64x64_0_1_2_3 : Ar F S16x1x64x64 .f32 → Ar F S16x256x64x64 .f32),
    binary main_v18 main_v19 main_v20 (mulf : Ar F S16x256x64x64 .f32 → Ar F S16x256x64x64 .f32 → Ar F S16x256x64x64 .f32),
    binary main_v13 main_v20 main_v21 (addf : Ar F S16x256x64x64 .f32 → Ar F S16x256x64x64 .f32 → Ar F S16x256x64x64 .f32),
    unary main_arg2 main_v22 ((extractStridedSlice S256x1x1x1 ![0, 0, 0, 2] · slices_S256x1x3x3_S256x1x1x1_0_0_0_2) : Ar F S256x1x3x3 .f32 → Ar F S256x1x1x1 .f32),
    reshape main_v22 main_v23 (rfl : (.f32 : EltTy) = .f32) shapeCasts_S256x1x1x1_S256,
    reshape main_v23 main_v24 (rfl : (.f32 : EltTy) = .f32) shapeCasts_S256_S1x256x1x1,
    unary main_v4 main_v25 ((extractStridedSlice S16x1x64x64 ![0, 0, 0, 2] · slices_S16x1x66x66_S16x1x64x64_0_0_0_2) : Ar F S16x1x66x66 .f32 → Ar F S16x1x64x64 .f32),
    unary main_v24 main_v26 (broadcastInDim S16x256x64x64 ![0, 1, 2, 3] bcast_S1x256x1x1_S16x256x64x64_0_1_2_3 : Ar F S1x256x1x1 .f32 → Ar F S16x256x64x64 .f32),
    unary main_v25 main_v27 (broadcastInDim S16x256x64x64 ![0, 1, 2, 3] bcast_S16x1x64x64_S16x256x64x64_0_1_2_3 : Ar F S16x1x64x64 .f32 → Ar F S16x256x64x64 .f32),
    binary main_v26 main_v27 main_v28 (mulf : Ar F S16x256x64x64 .f32 → Ar F S16x256x64x64 .f32 → Ar F S16x256x64x64 .f32),
    binary main_v21 main_v28 main_v29 (addf : Ar F S16x256x64x64 .f32 → Ar F S16x256x64x64 .f32 → Ar F S16x256x64x64 .f32),
    unary main_arg2 main_v30 ((extractStridedSlice S256x1x1x1 ![0, 0, 1, 0] · slices_S256x1x3x3_S256x1x1x1_0_0_1_0) : Ar F S256x1x3x3 .f32 → Ar F S256x1x1x1 .f32),
    reshape main_v30 main_v31 (rfl : (.f32 : EltTy) = .f32) shapeCasts_S256x1x1x1_S256,
    reshape main_v31 main_v32 (rfl : (.f32 : EltTy) = .f32) shapeCasts_S256_S1x256x1x1,
    unary main_v4 main_v33 ((extractStridedSlice S16x1x64x64 ![0, 0, 1, 0] · slices_S16x1x66x66_S16x1x64x64_0_0_1_0) : Ar F S16x1x66x66 .f32 → Ar F S16x1x64x64 .f32),
    unary main_v32 main_v34 (broadcastInDim S16x256x64x64 ![0, 1, 2, 3] bcast_S1x256x1x1_S16x256x64x64_0_1_2_3 : Ar F S1x256x1x1 .f32 → Ar F S16x256x64x64 .f32),
    unary main_v33 main_v35 (broadcastInDim S16x256x64x64 ![0, 1, 2, 3] bcast_S16x1x64x64_S16x256x64x64_0_1_2_3 : Ar F S16x1x64x64 .f32 → Ar F S16x256x64x64 .f32),
    binary main_v34 main_v35 main_v36 (mulf : Ar F S16x256x64x64 .f32 → Ar F S16x256x64x64 .f32 → Ar F S16x256x64x64 .f32),
    binary main_v29 main_v36 main_v37 (addf : Ar F S16x256x64x64 .f32 → Ar F S16x256x64x64 .f32 → Ar F S16x256x64x64 .f32),
    unary main_arg2 main_v38 ((extractStridedSlice S256x1x1x1 ![0, 0, 1, 1] · slices_S256x1x3x3_S256x1x1x1_0_0_1_1) : Ar F S256x1x3x3 .f32 → Ar F S256x1x1x1 .f32),
    reshape main_v38 main_v39 (rfl : (.f32 : EltTy) = .f32) shapeCasts_S256x1x1x1_S256,
    reshape main_v39 main_v40 (rfl : (.f32 : EltTy) = .f32) shapeCasts_S256_S1x256x1x1,
    unary main_v4 main_v41 ((extractStridedSlice S16x1x64x64 ![0, 0, 1, 1] · slices_S16x1x66x66_S16x1x64x64_0_0_1_1) : Ar F S16x1x66x66 .f32 → Ar F S16x1x64x64 .f32),
    unary main_v40 main_v42 (broadcastInDim S16x256x64x64 ![0, 1, 2, 3] bcast_S1x256x1x1_S16x256x64x64_0_1_2_3 : Ar F S1x256x1x1 .f32 → Ar F S16x256x64x64 .f32),
    unary main_v41 main_v43 (broadcastInDim S16x256x64x64 ![0, 1, 2, 3] bcast_S16x1x64x64_S16x256x64x64_0_1_2_3 : Ar F S16x1x64x64 .f32 → Ar F S16x256x64x64 .f32),
    binary main_v42 main_v43 main_v44 (mulf : Ar F S16x256x64x64 .f32 → Ar F S16x256x64x64 .f32 → Ar F S16x256x64x64 .f32),
    binary main_v37 main_v44 main_v45 (addf : Ar F S16x256x64x64 .f32 → Ar F S16x256x64x64 .f32 → Ar F S16x256x64x64 .f32),
    unary main_arg2 main_v46 ((extractStridedSlice S256x1x1x1 ![0, 0, 1, 2] · slices_S256x1x3x3_S256x1x1x1_0_0_1_2) : Ar F S256x1x3x3 .f32 → Ar F S256x1x1x1 .f32),
    reshape main_v46 main_v47 (rfl : (.f32 : EltTy) = .f32) shapeCasts_S256x1x1x1_S256,
    reshape main_v47 main_v48 (rfl : (.f32 : EltTy) = .f32) shapeCasts_S256_S1x256x1x1,
    unary main_v4 main_v49 ((extractStridedSlice S16x1x64x64 ![0, 0, 1, 2] · slices_S16x1x66x66_S16x1x64x64_0_0_1_2) : Ar F S16x1x66x66 .f32 → Ar F S16x1x64x64 .f32),
    unary main_v48 main_v50 (broadcastInDim S16x256x64x64 ![0, 1, 2, 3] bcast_S1x256x1x1_S16x256x64x64_0_1_2_3 : Ar F S1x256x1x1 .f32 → Ar F S16x256x64x64 .f32),
    unary main_v49 main_v51 (broadcastInDim S16x256x64x64 ![0, 1, 2, 3] bcast_S16x1x64x64_S16x256x64x64_0_1_2_3 : Ar F S16x1x64x64 .f32 → Ar F S16x256x64x64 .f32),
    binary main_v50 main_v51 main_v52 (mulf : Ar F S16x256x64x64 .f32 → Ar F S16x256x64x64 .f32 → Ar F S16x256x64x64 .f32) ]

/-- The stage's operations use the program's buffers. -/
theorem opsConv_sub : (opsConv : List (HloOp τ sig (Elt F))).Forall fun op => op.bufs ⊆ tcRefs τ sig :=
  ⟨binary_bufs_sub .., unary_bufs_sub .., reshape_bufs_sub .., reshape_bufs_sub .., unary_bufs_sub .., unary_bufs_sub .., unary_bufs_sub .., binary_bufs_sub .., nullary_bufs_sub .., unary_bufs_sub .., binary_bufs_sub .., unary_bufs_sub .., reshape_bufs_sub .., reshape_bufs_sub .., unary_bufs_sub .., unary_bufs_sub .., unary_bufs_sub .., binary_bufs_sub .., binary_bufs_sub .., unary_bufs_sub .., reshape_bufs_sub .., reshape_bufs_sub .., unary_bufs_sub .., unary_bufs_sub .., unary_bufs_sub .., binary_bufs_sub .., binary_bufs_sub .., unary_bufs_sub .., reshape_bufs_sub .., reshape_bufs_sub .., unary_bufs_sub .., unary_bufs_sub .., unary_bufs_sub .., binary_bufs_sub .., binary_bufs_sub .., unary_bufs_sub .., reshape_bufs_sub .., reshape_bufs_sub .., unary_bufs_sub .., unary_bufs_sub .., unary_bufs_sub .., binary_bufs_sub .., binary_bufs_sub .., unary_bufs_sub .., reshape_bufs_sub .., reshape_bufs_sub .., unary_bufs_sub .., unary_bufs_sub .., unary_bufs_sub .., binary_bufs_sub ..⟩

/-- The stage's operations take no new buffer. -/
theorem opsConv_fresh : (opsConv : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The nine shifted products and their sum. -/
abbrev opsConv' : List (HloOp τ sig (Elt F)) :=
  [ binary main_v45 main_v52 main_v53 (addf : Ar F S16x256x64x64 .f32 → Ar F S16x256x64x64 .f32 → Ar F S16x256x64x64 .f32),
    unary main_arg2 main_v54 ((extractStridedSlice S256x1x1x1 ![0, 0, 2, 0] · slices_S256x1x3x3_S256x1x1x1_0_0_2_0) : Ar F S256x1x3x3 .f32 → Ar F S256x1x1x1 .f32),
    reshape main_v54 main_v55 (rfl : (.f32 : EltTy) = .f32) shapeCasts_S256x1x1x1_S256,
    reshape main_v55 main_v56 (rfl : (.f32 : EltTy) = .f32) shapeCasts_S256_S1x256x1x1,
    unary main_v4 main_v57 ((extractStridedSlice S16x1x64x64 ![0, 0, 2, 0] · slices_S16x1x66x66_S16x1x64x64_0_0_2_0) : Ar F S16x1x66x66 .f32 → Ar F S16x1x64x64 .f32),
    unary main_v56 main_v58 (broadcastInDim S16x256x64x64 ![0, 1, 2, 3] bcast_S1x256x1x1_S16x256x64x64_0_1_2_3 : Ar F S1x256x1x1 .f32 → Ar F S16x256x64x64 .f32),
    unary main_v57 main_v59 (broadcastInDim S16x256x64x64 ![0, 1, 2, 3] bcast_S16x1x64x64_S16x256x64x64_0_1_2_3 : Ar F S16x1x64x64 .f32 → Ar F S16x256x64x64 .f32),
    binary main_v58 main_v59 main_v60 (mulf : Ar F S16x256x64x64 .f32 → Ar F S16x256x64x64 .f32 → Ar F S16x256x64x64 .f32),
    binary main_v53 main_v60 main_v61 (addf : Ar F S16x256x64x64 .f32 → Ar F S16x256x64x64 .f32 → Ar F S16x256x64x64 .f32),
    unary main_arg2 main_v62 ((extractStridedSlice S256x1x1x1 ![0, 0, 2, 1] · slices_S256x1x3x3_S256x1x1x1_0_0_2_1) : Ar F S256x1x3x3 .f32 → Ar F S256x1x1x1 .f32),
    reshape main_v62 main_v63 (rfl : (.f32 : EltTy) = .f32) shapeCasts_S256x1x1x1_S256,
    reshape main_v63 main_v64 (rfl : (.f32 : EltTy) = .f32) shapeCasts_S256_S1x256x1x1,
    unary main_v4 main_v65 ((extractStridedSlice S16x1x64x64 ![0, 0, 2, 1] · slices_S16x1x66x66_S16x1x64x64_0_0_2_1) : Ar F S16x1x66x66 .f32 → Ar F S16x1x64x64 .f32),
    unary main_v64 main_v66 (broadcastInDim S16x256x64x64 ![0, 1, 2, 3] bcast_S1x256x1x1_S16x256x64x64_0_1_2_3 : Ar F S1x256x1x1 .f32 → Ar F S16x256x64x64 .f32),
    unary main_v65 main_v67 (broadcastInDim S16x256x64x64 ![0, 1, 2, 3] bcast_S16x1x64x64_S16x256x64x64_0_1_2_3 : Ar F S16x1x64x64 .f32 → Ar F S16x256x64x64 .f32),
    binary main_v66 main_v67 main_v68 (mulf : Ar F S16x256x64x64 .f32 → Ar F S16x256x64x64 .f32 → Ar F S16x256x64x64 .f32),
    binary main_v61 main_v68 main_v69 (addf : Ar F S16x256x64x64 .f32 → Ar F S16x256x64x64 .f32 → Ar F S16x256x64x64 .f32),
    unary main_arg2 main_v70 ((extractStridedSlice S256x1x1x1 ![0, 0, 2, 2] · slices_S256x1x3x3_S256x1x1x1_0_0_2_2) : Ar F S256x1x3x3 .f32 → Ar F S256x1x1x1 .f32),
    reshape main_v70 main_v71 (rfl : (.f32 : EltTy) = .f32) shapeCasts_S256x1x1x1_S256,
    reshape main_v71 main_v72 (rfl : (.f32 : EltTy) = .f32) shapeCasts_S256_S1x256x1x1,
    unary main_v4 main_v73 ((extractStridedSlice S16x1x64x64 ![0, 0, 2, 2] · slices_S16x1x66x66_S16x1x64x64_0_0_2_2) : Ar F S16x1x66x66 .f32 → Ar F S16x1x64x64 .f32),
    unary main_v72 main_v74 (broadcastInDim S16x256x64x64 ![0, 1, 2, 3] bcast_S1x256x1x1_S16x256x64x64_0_1_2_3 : Ar F S1x256x1x1 .f32 → Ar F S16x256x64x64 .f32),
    unary main_v73 main_v75 (broadcastInDim S16x256x64x64 ![0, 1, 2, 3] bcast_S16x1x64x64_S16x256x64x64_0_1_2_3 : Ar F S16x1x64x64 .f32 → Ar F S16x256x64x64 .f32),
    binary main_v74 main_v75 main_v76 (mulf : Ar F S16x256x64x64 .f32 → Ar F S16x256x64x64 .f32 → Ar F S16x256x64x64 .f32),
    binary main_v69 main_v76 main_v77 (addf : Ar F S16x256x64x64 .f32 → Ar F S16x256x64x64 .f32 → Ar F S16x256x64x64 .f32) ]

/-- The stage's operations use the program's buffers. -/
theorem opsConv'_sub : (opsConv' : List (HloOp τ sig (Elt F))).Forall fun op => op.bufs ⊆ tcRefs τ sig :=
  ⟨binary_bufs_sub .., unary_bufs_sub .., reshape_bufs_sub .., reshape_bufs_sub .., unary_bufs_sub .., unary_bufs_sub .., unary_bufs_sub .., binary_bufs_sub .., binary_bufs_sub .., unary_bufs_sub .., reshape_bufs_sub .., reshape_bufs_sub .., unary_bufs_sub .., unary_bufs_sub .., unary_bufs_sub .., binary_bufs_sub .., binary_bufs_sub .., unary_bufs_sub .., reshape_bufs_sub .., reshape_bufs_sub .., unary_bufs_sub .., unary_bufs_sub .., unary_bufs_sub .., binary_bufs_sub .., binary_bufs_sub ..⟩

/-- The stage's operations take no new buffer. -/
theorem opsConv'_fresh : (opsConv' : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The bias, the time, and the one-hot term. -/
abbrev opsLogits : List (HloOp τ sig (Elt F)) :=
  [ reshape main_arg3 main_v78 (rfl : (.f32 : EltTy) = .f32) shapeCasts_S256_S1x256x1x1,
    unary main_v78 main_v79 (broadcastInDim S16x256x64x64 ![0, 1, 2, 3] bcast_S1x256x1x1_S16x256x64x64_0_1_2_3 : Ar F S1x256x1x1 .f32 → Ar F S16x256x64x64 .f32),
    binary main_v77 main_v79 main_v80 (addf : Ar F S16x256x64x64 .f32 → Ar F S16x256x64x64 .f32 → Ar F S16x256x64x64 .f32),
    unary main_arg1 main_v81 (sitofp .f32 : Ar F S16 .i32 → Ar F S16 .f32),
    nullary main_cst_5 (constant S_ .f32 0x457A0000#32),
    unary main_cst_5 main_v82 (broadcastInDim S16 ![] bcast_S_S16 : Ar F S_ .f32 → Ar F S16 .f32),
    binary main_v81 main_v82 main_v83 (Host.divf : Ar F S16 .f32 → Ar F S16 .f32 → Ar F S16 .f32),
    reshape main_v83 main_v84 (rfl : (.f32 : EltTy) = .f32) shapeCasts_S16_S16x1x1x1,
    unary main_v84 main_v85 (broadcastInDim S16x256x64x64 ![0, 1, 2, 3] bcast_S16x1x1x1_S16x256x64x64_0_1_2_3 : Ar F S16x1x1x1 .f32 → Ar F S16x256x64x64 .f32),
    binary main_v80 main_v85 main_v86 (addf : Ar F S16x256x64x64 .f32 → Ar F S16x256x64x64 .f32 → Ar F S16x256x64x64 .f32),
    unary main_v86 main_v87 (broadcastInDim S16x256x1x64x64 ![0, 1, 3, 4] bcast_S16x256x64x64_S16x256x1x64x64_0_1_3_4 : Ar F S16x256x64x64 .f32 → Ar F S16x256x1x64x64 .f32),
    TRef.unary (TRef.of (T := ⟨S16x1x64x64, .i32⟩) main_v0) (TRef.of (T := ⟨S16x1x64x64x1, .i32⟩) main_call2_v0) (broadcastInDim S16x1x64x64x1 ![0, 1, 2, 3] bcast_S16x1x64x64_S16x1x64x64x1_0_1_2_3),
    TRef.nullary (TRef.of (T := ⟨S1x1x1x1x256, .i32⟩) main_call2_v1) (iotaInDim S1x1x1x1x256 32 4),
    TRef.unary (TRef.of (T := ⟨S16x1x64x64x1, .i32⟩) main_call2_v0) (TRef.of (T := ⟨S16x1x64x64x256, .i32⟩) main_call2_v2) (broadcastInDim S16x1x64x64x256 ![0, 1, 2, 3, 4] bcast_S16x1x64x64x1_S16x1x64x64x256_0_1_2_3_4),
    TRef.unary (TRef.of (T := ⟨S1x1x1x1x256, .i32⟩) main_call2_v1) (TRef.of (T := ⟨S16x1x64x64x256, .i32⟩) main_call2_v3) (broadcastInDim S16x1x64x64x256 ![0, 1, 2, 3, 4] bcast_S1x1x1x1x256_S16x1x64x64x256_0_1_2_3_4),
    TRef.binary (TRef.of (T := ⟨S16x1x64x64x256, .i32⟩) main_call2_v2) (TRef.of (T := ⟨S16x1x64x64x256, .i32⟩) main_call2_v3) (TRef.of (T := ⟨S16x1x64x64x256, .i1⟩) main_call2_v4) (cmpi .eq),
    TRef.unary (TRef.of (T := ⟨S16x1x64x64x256, .i1⟩) main_call2_v4) (TRef.of (T := ⟨S16x1x64x64x256, .f32⟩) main_v88) (uitofp .f32),
    unary main_v88 main_v89 ((transpose S16x256x1x64x64 [0, 4, 1, 2, 3] · transposes_S16x1x64x64x256_S16x256x1x64x64_0_4_1_2_3) : Ar F S16x1x64x64x256 .f32 → Ar F S16x256x1x64x64 .f32),
    binary main_v87 main_v89 main_v90 (addf : Ar F S16x256x1x64x64 .f32 → Ar F S16x256x1x64x64 .f32 → Ar F S16x256x1x64x64 .f32) ]

/-- The stage's operations use the program's buffers. -/
theorem opsLogits_sub : (opsLogits : List (HloOp τ sig (Elt F))).Forall fun op => op.bufs ⊆ tcRefs τ sig :=
  ⟨reshape_bufs_sub .., unary_bufs_sub .., binary_bufs_sub .., unary_bufs_sub .., nullary_bufs_sub .., unary_bufs_sub .., binary_bufs_sub .., reshape_bufs_sub .., unary_bufs_sub .., binary_bufs_sub .., unary_bufs_sub .., unary_bufs_sub .., nullary_bufs_sub .., unary_bufs_sub .., unary_bufs_sub .., binary_bufs_sub .., unary_bufs_sub .., unary_bufs_sub .., binary_bufs_sub ..⟩

/-- The stage's operations take no new buffer. -/
theorem opsLogits_fresh : (opsLogits : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The log-softmax over the classes. -/
abbrev opsSoftmax : List (HloOp τ sig (Elt F)) :=
  [ TRef.nullary (TRef.of (T := ⟨S_, .f32⟩) main_call3_cst) (constant S_ .f32 0xFF800000#32),
    TRef.binary (TRef.of (T := ⟨S16x256x1x64x64, .f32⟩) main_v90) (TRef.of (T := ⟨S_, .f32⟩) main_call3_cst) (TRef.of (T := ⟨S16x1x64x64, .f32⟩) main_call3_v0) (fun x v => Host.reduce FloatOps.maximumf x v reducesTo_S16x256x1x64x64_S16x1x64x64_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S16x1x64x64, .f32⟩) main_call3_v1) (broadcastInDim S16x1x64x64 ![] bcast_S_S16x1x64x64),
    TRef.binary (TRef.of (T := ⟨S16x1x64x64, .f32⟩) main_call3_v1) (TRef.of (T := ⟨S16x1x64x64, .f32⟩) main_call3_v0) (TRef.of (T := ⟨S16x1x64x64, .f32⟩) main_call3_v2) maximumf,
    TRef.unary (TRef.of (T := ⟨S16x1x64x64, .f32⟩) main_call3_v2) (TRef.of (T := ⟨S16x1x1x64x64, .f32⟩) main_call3_v3) (broadcastInDim S16x1x1x64x64 ![0, 2, 3, 4] bcast_S16x1x64x64_S16x1x1x64x64_0_2_3_4),
    TRef.unary (TRef.of (T := ⟨S16x1x1x64x64, .f32⟩) main_call3_v3) (TRef.of (T := ⟨S16x256x1x64x64, .f32⟩) main_call3_v4) (broadcastInDim S16x256x1x64x64 ![0, 1, 2, 3, 4] bcast_S16x1x1x64x64_S16x256x1x64x64_0_1_2_3_4),
    TRef.binary (TRef.of (T := ⟨S16x256x1x64x64, .f32⟩) main_v90) (TRef.of (T := ⟨S16x256x1x64x64, .f32⟩) main_call3_v4) (TRef.of (T := ⟨S16x256x1x64x64, .f32⟩) main_call3_v5) subf,
    TRef.unary (TRef.of (T := ⟨S16x256x1x64x64, .f32⟩) main_call3_v5) (TRef.of (T := ⟨S16x256x1x64x64, .f32⟩) main_call3_v6) Host.exp,
    TRef.nullary (TRef.of (T := ⟨S_, .f32⟩) main_call3_cst_1) (constant S_ .f32 0x00000000#32),
    TRef.binary (TRef.of (T := ⟨S16x256x1x64x64, .f32⟩) main_call3_v6) (TRef.of (T := ⟨S_, .f32⟩) main_call3_cst_1) (TRef.of (T := ⟨S16x1x64x64, .f32⟩) main_call3_v7) (fun x v => Host.reduceAdd x v reducesTo_S16x256x1x64x64_S16x1x64x64_d1 h_S_),
    TRef.unary (TRef.of (T := ⟨S16x1x64x64, .f32⟩) main_call3_v7) (TRef.of (T := ⟨S16x1x1x64x64, .f32⟩) main_call3_v8) (broadcastInDim S16x1x1x64x64 ![0, 2, 3, 4] bcast_S16x1x64x64_S16x1x1x64x64_0_2_3_4),
    TRef.unary (TRef.of (T := ⟨S16x1x1x64x64, .f32⟩) main_call3_v8) (TRef.of (T := ⟨S16x1x1x64x64, .f32⟩) main_call3_v9) Host.log,
    TRef.unary (TRef.of (T := ⟨S16x1x1x64x64, .f32⟩) main_call3_v9) (TRef.of (T := ⟨S16x256x1x64x64, .f32⟩) main_call3_v10) (broadcastInDim S16x256x1x64x64 ![0, 1, 2, 3, 4] bcast_S16x1x1x64x64_S16x256x1x64x64_0_1_2_3_4),
    TRef.binary (TRef.of (T := ⟨S16x256x1x64x64, .f32⟩) main_call3_v5) (TRef.of (T := ⟨S16x256x1x64x64, .f32⟩) main_call3_v10) (TRef.of (T := ⟨S16x256x1x64x64, .f32⟩) main_v91) subf ]

/-- The stage's operations use the program's buffers. -/
theorem opsSoftmax_sub : (opsSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The stage's operations take no new buffer. -/
theorem opsSoftmax_fresh : (opsSoftmax : List (HloOp τ sig (Elt F))).Forall fun op => op.fresh = ∅ :=
  ⟨rfl, rfl, rfl, rfl, rfl, rfl, rfl, rfl, rfl, rfl, rfl, rfl, rfl, rfl, rfl⟩

/-- The step before. -/
abbrev opsPrev : List (HloOp τ sig (Elt F)) :=
  [ nullary main_c_6 (constantI S_ 32 1#32),
    unary main_c_6 main_v92 (broadcastInDim S16 ![] bcast_S_S16 : Ar F S_ .i32 → Ar F S16 .i32),
    binary main_arg1 main_v92 main_v93 (subi : Ar F S16 .i32 → Ar F S16 .i32 → Ar F S16 .i32),
    nullary main_c_7 (constantI S_ 32 0#32),
    unary main_c_7 main_v94 (broadcastInDim S16 ![] bcast_S_S16 : Ar F S_ .i32 → Ar F S16 .i32),
    binary main_v93 main_v94 main_v95 (cmpi .slt : Ar F S16 .i32 → Ar F S16 .i32 → Ar F S16 .i1),
    nullary main_c_8 (constantI S_ 32 0#32),
    unary main_c_8 main_v96 (broadcastInDim S16 ![] bcast_S_S16 : Ar F S_ .i32 → Ar F S16 .i32),
    nullary main_c_9 (constantI S_ 32 1#32),
    unary main_c_9 main_v97 (broadcastInDim S16 ![] bcast_S_S16 : Ar F S_ .i32 → Ar F S16 .i32),
    binary main_arg1 main_v97 main_v98 (subi : Ar F S16 .i32 → Ar F S16 .i32 → Ar F S16 .i32),
    TRef.ternary (TRef.of (T := ⟨S16, .i1⟩) main_v95) (TRef.of (T := ⟨S16, .i32⟩) main_v96) (TRef.of (T := ⟨S16, .i32⟩) main_v98) (TRef.of (T := ⟨S16, .i32⟩) main_v99) select ]

/-- The stage's operations use the program's buffers. -/
theorem opsPrev_sub : (opsPrev : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., ternary_bufs_sub ..⟩

/-- The stage's operations take no new buffer. -/
theorem opsPrev_fresh : (opsPrev : List (HloOp τ sig (Elt F))).Forall fun op => op.fresh = ∅ :=
  ⟨rfl, rfl, rfl, rfl, rfl, rfl, rfl, rfl, rfl, rfl, rfl, rfl⟩

/-- The cumulative table at the step before. -/
abbrev opsTakeC : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S16, .i32⟩) main_call5_v0) (broadcastInDim S16 ![] bcast_S_S16),
    TRef.binary (TRef.of (T := ⟨S16, .i32⟩) main_v99) (TRef.of (T := ⟨S16, .i32⟩) main_call5_v0) (TRef.of (T := ⟨S16, .i1⟩) main_call5_v1) (cmpi .slt),
    TRef.nullary (TRef.of (T := ⟨S_, .i32⟩) main_call5_c_0) (constantI S_ 32 4000#32),
    TRef.unary (TRef.of (T := ⟨S_, .i32⟩) main_call5_c_0) (TRef.of (T := ⟨S16, .i32⟩) main_call5_v2) (broadcastInDim S16 ![] bcast_S_S16),
    TRef.binary (TRef.of (T := ⟨S16, .i32⟩) main_v99) (TRef.of (T := ⟨S16, .i32⟩) main_call5_v2) (TRef.of (T := ⟨S16, .i32⟩) main_call5_v3) addi,
    TRef.ternary (TRef.of (T := ⟨S16, .i1⟩) main_call5_v1) (TRef.of (T := ⟨S16, .i32⟩) main_call5_v3) (TRef.of (T := ⟨S16, .i32⟩) main_v99) (TRef.of (T := ⟨S16, .i32⟩) main_call5_v4) select,
    TRef.unary (TRef.of (T := ⟨S16, .i32⟩) main_call5_v4) (TRef.of (T := ⟨S16x1, .i32⟩) main_call5_v5) (broadcastInDim S16x1 ![0] bcast_S16_S16x1_0),
    TRef.nullary (TRef.of (T := ⟨S1, .i32⟩) main_call5_c_1) (constantI S1 32 3999#32),
    TRef.nullary (TRef.of (T := ⟨S_, .i32⟩) main_call5_c_2) (constantI S_ 32 0#32),
    TRef.unary (TRef.of (T := ⟨S_, .i32⟩) main_call5_c_2) (TRef.of (T := ⟨S16x1, .i32⟩) main_call5_v6) (broadcastInDim S16x1 ![] bcast_S_S16x1),
    TRef.binary (TRef.of (T := ⟨S16x1, .i32⟩) main_call5_v5) (TRef.of (T := ⟨S16x1, .i32⟩) main_call5_v6) (TRef.of (T := ⟨S16x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S16x1, .i32⟩) main_call5_v9) (broadcastInDim S16x1 ![0, 1] bcast_S1x1_S16x1_0_1),
    TRef.binary (TRef.of (T := ⟨S16x1, .i32⟩) main_call5_v5) (TRef.of (T := ⟨S16x1, .i32⟩) main_call5_v9) (TRef.of (T := ⟨S16x1, .i1⟩) main_call5_v10) (cmpi .sle),
    TRef.binary (TRef.of (T := ⟨S16x1, .i1⟩) main_call5_v7) (TRef.of (T := ⟨S16x1, .i1⟩) main_call5_v10) (TRef.of (T := ⟨S16x1, .i1⟩) main_call5_v11) andi,
    TRef.nullary (TRef.of (T := ⟨S_, .i1⟩) main_call5_c_3) (constantI S_ 1 1#1),
    TRef.binary (TRef.of (T := ⟨S16x1, .i1⟩) main_call5_v11) (TRef.of (T := ⟨S_, .i1⟩) main_call5_c_3) (TRef.of (T := ⟨S16, .i1⟩) main_call5_v12) (fun x v => Host.reduce IntOp.andi x v reducesTo_S16x1_S16_d1 h_S_),
    TRef.binary (TRef.of (T := ⟨S4000, .f32⟩) main_cst) (TRef.of (T := ⟨S16x1, .i32⟩) main_call5_v5) (TRef.of (T := ⟨S16, .f32⟩) main_call5_v13) (fun x i => Host.gather gather_S4000_S16x1_S16_n_0_n_n_0_1_1 x i),
    TRef.nullary (TRef.of (T := ⟨S_, .f32⟩) main_call5_cst) (constant S_ .f32 0x7FC00000#32),
    TRef.unary (TRef.of (T := ⟨S_, .f32⟩) main_call5_cst) (TRef.of (T := ⟨S16, .f32⟩) main_call5_v14) (broadcastInDim S16 ![] bcast_S_S16),
    TRef.ternary (TRef.of (T := ⟨S16, .i1⟩) main_call5_v12) (TRef.of (T := ⟨S16, .f32⟩) main_call5_v13) (TRef.of (T := ⟨S16, .f32⟩) main_call5_v14) (TRef.of (T := ⟨S16, .f32⟩) main_v100) select,
    reshape main_v100 main_v101 (rfl : (.f32 : EltTy) = .f32) shapeCasts_S16_S16x1x1x1x1 ]

/-- The stage's operations use the program's buffers. -/
theorem opsTakeC_sub : (opsTakeC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

/-- The stage's operations take no new buffer. -/
theorem opsTakeC_fresh : (opsTakeC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Its complement at the step before. -/
abbrev opsTakeD : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S16, .i32⟩) main_call6_v0) (broadcastInDim S16 ![] bcast_S_S16),
    TRef.binary (TRef.of (T := ⟨S16, .i32⟩) main_v99) (TRef.of (T := ⟨S16, .i32⟩) main_call6_v0) (TRef.of (T := ⟨S16, .i1⟩) main_call6_v1) (cmpi .slt),
    TRef.nullary (TRef.of (T := ⟨S_, .i32⟩) main_call6_c_0) (constantI S_ 32 4000#32),
    TRef.unary (TRef.of (T := ⟨S_, .i32⟩) main_call6_c_0) (TRef.of (T := ⟨S16, .i32⟩) main_call6_v2) (broadcastInDim S16 ![] bcast_S_S16),
    TRef.binary (TRef.of (T := ⟨S16, .i32⟩) main_v99) (TRef.of (T := ⟨S16, .i32⟩) main_call6_v2) (TRef.of (T := ⟨S16, .i32⟩) main_call6_v3) addi,
    TRef.ternary (TRef.of (T := ⟨S16, .i1⟩) main_call6_v1) (TRef.of (T := ⟨S16, .i32⟩) main_call6_v3) (TRef.of (T := ⟨S16, .i32⟩) main_v99) (TRef.of (T := ⟨S16, .i32⟩) main_call6_v4) select,
    TRef.unary (TRef.of (T := ⟨S16, .i32⟩) main_call6_v4) (TRef.of (T := ⟨S16x1, .i32⟩) main_call6_v5) (broadcastInDim S16x1 ![0] bcast_S16_S16x1_0),
    TRef.nullary (TRef.of (T := ⟨S1, .i32⟩) main_call6_c_1) (constantI S1 32 3999#32),
    TRef.nullary (TRef.of (T := ⟨S_, .i32⟩) main_call6_c_2) (constantI S_ 32 0#32),
    TRef.unary (TRef.of (T := ⟨S_, .i32⟩) main_call6_c_2) (TRef.of (T := ⟨S16x1, .i32⟩) main_call6_v6) (broadcastInDim S16x1 ![] bcast_S_S16x1),
    TRef.binary (TRef.of (T := ⟨S16x1, .i32⟩) main_call6_v5) (TRef.of (T := ⟨S16x1, .i32⟩) main_call6_v6) (TRef.of (T := ⟨S16x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S16x1, .i32⟩) main_call6_v9) (broadcastInDim S16x1 ![0, 1] bcast_S1x1_S16x1_0_1),
    TRef.binary (TRef.of (T := ⟨S16x1, .i32⟩) main_call6_v5) (TRef.of (T := ⟨S16x1, .i32⟩) main_call6_v9) (TRef.of (T := ⟨S16x1, .i1⟩) main_call6_v10) (cmpi .sle),
    TRef.binary (TRef.of (T := ⟨S16x1, .i1⟩) main_call6_v7) (TRef.of (T := ⟨S16x1, .i1⟩) main_call6_v10) (TRef.of (T := ⟨S16x1, .i1⟩) main_call6_v11) andi,
    TRef.nullary (TRef.of (T := ⟨S_, .i1⟩) main_call6_c_3) (constantI S_ 1 1#1),
    TRef.binary (TRef.of (T := ⟨S16x1, .i1⟩) main_call6_v11) (TRef.of (T := ⟨S_, .i1⟩) main_call6_c_3) (TRef.of (T := ⟨S16, .i1⟩) main_call6_v12) (fun x v => Host.reduce IntOp.andi x v reducesTo_S16x1_S16_d1 h_S_),
    TRef.binary (TRef.of (T := ⟨S4000, .f32⟩) main_cst_0) (TRef.of (T := ⟨S16x1, .i32⟩) main_call6_v5) (TRef.of (T := ⟨S16, .f32⟩) main_call6_v13) (fun x i => Host.gather gather_S4000_S16x1_S16_n_0_n_n_0_1_1 x i),
    TRef.nullary (TRef.of (T := ⟨S_, .f32⟩) main_call6_cst) (constant S_ .f32 0x7FC00000#32),
    TRef.unary (TRef.of (T := ⟨S_, .f32⟩) main_call6_cst) (TRef.of (T := ⟨S16, .f32⟩) main_call6_v14) (broadcastInDim S16 ![] bcast_S_S16),
    TRef.ternary (TRef.of (T := ⟨S16, .i1⟩) main_call6_v12) (TRef.of (T := ⟨S16, .f32⟩) main_call6_v13) (TRef.of (T := ⟨S16, .f32⟩) main_call6_v14) (TRef.of (T := ⟨S16, .f32⟩) main_v102) select,
    reshape main_v102 main_v103 (rfl : (.f32 : EltTy) = .f32) shapeCasts_S16_S16x1x1x1x1 ]

/-- The stage's operations use the program's buffers. -/
theorem opsTakeD_sub : (opsTakeD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

/-- The stage's operations take no new buffer. -/
theorem opsTakeD_fresh : (opsTakeD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The predicted start, one diffusion back. -/
abbrev opsPrior : List (HloOp τ sig (Elt F)) :=
  [ unary main_v101 main_v104 (broadcastInDim S16x256x1x64x64 ![0, 1, 2, 3, 4] bcast_S16x1x1x1x1_S16x256x1x64x64_0_1_2_3_4 : Ar F S16x1x1x1x1 .f32 → Ar F S16x256x1x64x64 .f32),
    binary main_v91 main_v104 main_v105 (addf : Ar F S16x256x1x64x64 .f32 → Ar F S16x256x1x64x64 .f32 → Ar F S16x256x1x64x64 .f32),
    nullary main_cst_10 (constant S_ .f32 0x40B17218#32),
    unary main_cst_10 main_v106 (broadcastInDim S16x1x1x1x1 ![] bcast_S_S16x1x1x1x1 : Ar F S_ .f32 → Ar F S16x1x1x1x1 .f32) ]

/-- The stage's operations use the program's buffers. -/
theorem opsPrior_sub : (opsPrior : List (HloOp τ sig (Elt F))).Forall fun op => op.bufs ⊆ tcRefs τ sig :=
  ⟨unary_bufs_sub .., binary_bufs_sub .., nullary_bufs_sub .., unary_bufs_sub ..⟩

/-- The stage's operations take no new buffer. -/
theorem opsPrior_fresh : (opsPrior : List (HloOp τ sig (Elt F))).Forall fun op => op.fresh = ∅ :=
  ⟨rfl, rfl, rfl, rfl⟩

/-- The predicted start, one diffusion back. -/
abbrev opsPrior' : List (HloOp τ sig (Elt F)) :=
  [ binary main_v103 main_v106 main_v107 (subf : Ar F S16x1x1x1x1 .f32 → Ar F S16x1x1x1x1 .f32 → Ar F S16x1x1x1x1 .f32),
    unary main_v107 main_v108 (broadcastInDim S16x256x1x64x64 ![0, 1, 2, 3, 4] bcast_S16x1x1x1x1_S16x256x1x64x64_0_1_2_3_4 : Ar F S16x1x1x1x1 .f32 → Ar F S16x256x1x64x64 .f32),
    binary main_v105 main_v108 main_v109 (maximumf : Ar F S16x256x1x64x64 .f32 → Ar F S16x256x1x64x64 .f32 → Ar F S16x256x1x64x64 .f32),
    binary main_v105 main_v109 main_v110 (subf : Ar F S16x256x1x64x64 .f32 → Ar F S16x256x1x64x64 .f32 → Ar F S16x256x1x64x64 .f32),
    unary main_v110 main_v111 (Host.exp : Ar F S16x256x1x64x64 .f32 → Ar F S16x256x1x64x64 .f32),
    unary main_v107 main_v112 (broadcastInDim S16x256x1x64x64 ![0, 1, 2, 3, 4] bcast_S16x1x1x1x1_S16x256x1x64x64_0_1_2_3_4 : Ar F S16x1x1x1x1 .f32 → Ar F S16x256x1x64x64 .f32),
    binary main_v112 main_v109 main_v113 (subf : Ar F S16x256x1x64x64 .f32 → Ar F S16x256x1x64x64 .f32 → Ar F S16x256x1x64x64 .f32),
    unary main_v113 main_v114 (Host.exp : Ar F S16x256x1x64x64 .f32 → Ar F S16x256x1x64x64 .f32),
    binary main_v111 main_v114 main_v115 (addf : Ar F S16x256x1x64x64 .f32 → Ar F S16x256x1x64x64 .f32 → Ar F S16x256x1x64x64 .f32),
    unary main_v115 main_v116 (Host.log : Ar F S16x256x1x64x64 .f32 → Ar F S16x256x1x64x64 .f32),
    binary main_v109 main_v116 main_v117 (addf : Ar F S16x256x1x64x64 .f32 → Ar F S16x256x1x64x64 .f32 → Ar F S16x256x1x64x64 .f32) ]

/-- The stage's operations use the program's buffers. -/
theorem opsPrior'_sub : (opsPrior' : List (HloOp τ sig (Elt F))).Forall fun op => op.bufs ⊆ tcRefs τ sig :=
  ⟨binary_bufs_sub .., unary_bufs_sub .., binary_bufs_sub .., binary_bufs_sub .., unary_bufs_sub .., unary_bufs_sub .., binary_bufs_sub .., unary_bufs_sub .., binary_bufs_sub .., unary_bufs_sub .., binary_bufs_sub ..⟩

/-- The stage's operations take no new buffer. -/
theorem opsPrior'_fresh : (opsPrior' : List (HloOp τ sig (Elt F))).Forall fun op => op.fresh = ∅ :=
  ⟨rfl, rfl, rfl, rfl, rfl, rfl, rfl, rfl, rfl, rfl, rfl⟩

/-- Step zero keeps the predicted start. -/
abbrev opsFirst : List (HloOp τ sig (Elt F)) :=
  [ reshape main_arg1 main_v118 (rfl : (.i32 : EltTy) = .i32) shapeCasts_S16_S16x1x1x1x1,
    nullary main_cst_11 (constant S_ .f32 0x3F800000#32),
    unary main_cst_11 main_v119 (broadcastInDim S16x256x1x64x64 ![] bcast_S_S16x256x1x64x64 : Ar F S_ .f32 → Ar F S16x256x1x64x64 .f32),
    unary main_v118 main_v120 (sitofp .f32 : Ar F S16x1x1x1x1 .i32 → Ar F S16x1x1x1x1 .f32),
    unary main_v120 main_v121 (broadcastInDim S16x256x1x64x64 ![0, 1, 2, 3, 4] bcast_S16x1x1x1x1_S16x256x1x64x64_0_1_2_3_4 : Ar F S16x1x1x1x1 .f32 → Ar F S16x256x1x64x64 .f32),
    binary main_v121 main_v119 main_v122 (mulf : Ar F S16x256x1x64x64 .f32 → Ar F S16x256x1x64x64 .f32 → Ar F S16x256x1x64x64 .f32),
    nullary main_cst_12 (constant S_ .f32 0x00000000#32),
    unary main_cst_12 main_v123 (broadcastInDim S16x256x1x64x64 ![] bcast_S_S16x256x1x64x64 : Ar F S_ .f32 → Ar F S16x256x1x64x64 .f32),
    binary main_v122 main_v123 main_v124 (cmpf .oeq : Ar F S16x256x1x64x64 .f32 → Ar F S16x256x1x64x64 .f32 → Ar F S16x256x1x64x64 .i1),
    TRef.ternary (TRef.of (T := ⟨S16x256x1x64x64, .i1⟩) main_v124) (TRef.of (T := ⟨S16x256x1x64x64, .f32⟩) main_v91) (TRef.of (T := ⟨S16x256x1x64x64, .f32⟩) main_v117) (TRef.of (T := ⟨S16x256x1x64x64, .f32⟩) main_v125) select ]

/-- The stage's operations use the program's buffers. -/
theorem opsFirst_sub : (opsFirst : List (HloOp τ sig (Elt F))).Forall fun op => op.bufs ⊆ tcRefs τ sig :=
  ⟨reshape_bufs_sub .., nullary_bufs_sub .., unary_bufs_sub .., unary_bufs_sub .., unary_bufs_sub .., binary_bufs_sub .., nullary_bufs_sub .., unary_bufs_sub .., binary_bufs_sub .., ternary_bufs_sub ..⟩

/-- The stage's operations take no new buffer. -/
theorem opsFirst_fresh : (opsFirst : List (HloOp τ sig (Elt F))).Forall fun op => op.fresh = ∅ :=
  ⟨rfl, rfl, rfl, rfl, rfl, rfl, rfl, rfl, rfl, rfl⟩

/-- The one-step table. -/
abbrev opsTakeA : List (HloOp τ sig (Elt F)) :=
  [ TRef.nullary (TRef.of (T := ⟨S_, .i32⟩) main_call8_c) (constantI S_ 32 0#32),
    TRef.unary (TRef.of (T := ⟨S_, .i32⟩) main_call8_c) (TRef.of (T := ⟨S16, .i32⟩) main_call8_v0) (broadcastInDim S16 ![] bcast_S_S16),
    TRef.binary (TRef.of (T := ⟨S16, .i32⟩) main_arg1) (TRef.of (T := ⟨S16, .i32⟩) main_call8_v0) (TRef.of (T := ⟨S16, .i1⟩) main_call8_v1) (cmpi .slt),
    TRef.nullary (TRef.of (T := ⟨S_, .i32⟩) main_call8_c_0) (constantI S_ 32 4000#32),
    TRef.unary (TRef.of (T := ⟨S_, .i32⟩) main_call8_c_0) (TRef.of (T := ⟨S16, .i32⟩) main_call8_v2) (broadcastInDim S16 ![] bcast_S_S16),
    TRef.binary (TRef.of (T := ⟨S16, .i32⟩) main_arg1) (TRef.of (T := ⟨S16, .i32⟩) main_call8_v2) (TRef.of (T := ⟨S16, .i32⟩) main_call8_v3) addi,
    TRef.ternary (TRef.of (T := ⟨S16, .i1⟩) main_call8_v1) (TRef.of (T := ⟨S16, .i32⟩) main_call8_v3) (TRef.of (T := ⟨S16, .i32⟩) main_arg1) (TRef.of (T := ⟨S16, .i32⟩) main_call8_v4) select,
    TRef.unary (TRef.of (T := ⟨S16, .i32⟩) main_call8_v4) (TRef.of (T := ⟨S16x1, .i32⟩) main_call8_v5) (broadcastInDim S16x1 ![0] bcast_S16_S16x1_0),
    TRef.nullary (TRef.of (T := ⟨S1, .i32⟩) main_call8_c_1) (constantI S1 32 3999#32),
    TRef.nullary (TRef.of (T := ⟨S_, .i32⟩) main_call8_c_2) (constantI S_ 32 0#32),
    TRef.unary (TRef.of (T := ⟨S_, .i32⟩) main_call8_c_2) (TRef.of (T := ⟨S16x1, .i32⟩) main_call8_v6) (broadcastInDim S16x1 ![] bcast_S_S16x1),
    TRef.binary (TRef.of (T := ⟨S16x1, .i32⟩) main_call8_v5) (TRef.of (T := ⟨S16x1, .i32⟩) main_call8_v6) (TRef.of (T := ⟨S16x1, .i1⟩) main_call8_v7) (cmpi .sge),
    TRef.unary (TRef.of (T := ⟨S1, .i32⟩) main_call8_c_1) (TRef.of (T := ⟨S1x1, .i32⟩) main_call8_v8) (broadcastInDim S1x1 ![1] bcast_S1_S1x1_1),
    TRef.unary (TRef.of (T := ⟨S1x1, .i32⟩) main_call8_v8) (TRef.of (T := ⟨S16x1, .i32⟩) main_call8_v9) (broadcastInDim S16x1 ![0, 1] bcast_S1x1_S16x1_0_1),
    TRef.binary (TRef.of (T := ⟨S16x1, .i32⟩) main_call8_v5) (TRef.of (T := ⟨S16x1, .i32⟩) main_call8_v9) (TRef.of (T := ⟨S16x1, .i1⟩) main_call8_v10) (cmpi .sle),
    TRef.binary (TRef.of (T := ⟨S16x1, .i1⟩) main_call8_v7) (TRef.of (T := ⟨S16x1, .i1⟩) main_call8_v10) (TRef.of (T := ⟨S16x1, .i1⟩) main_call8_v11) andi,
    TRef.nullary (TRef.of (T := ⟨S_, .i1⟩) main_call8_c_3) (constantI S_ 1 1#1),
    TRef.binary (TRef.of (T := ⟨S16x1, .i1⟩) main_call8_v11) (TRef.of (T := ⟨S_, .i1⟩) main_call8_c_3) (TRef.of (T := ⟨S16, .i1⟩) main_call8_v12) (fun x v => Host.reduce IntOp.andi x v reducesTo_S16x1_S16_d1 h_S_),
    TRef.binary (TRef.of (T := ⟨S4000, .f32⟩) main_cst_1) (TRef.of (T := ⟨S16x1, .i32⟩) main_call8_v5) (TRef.of (T := ⟨S16, .f32⟩) main_call8_v13) (fun x i => Host.gather gather_S4000_S16x1_S16_n_0_n_n_0_1_1 x i),
    TRef.nullary (TRef.of (T := ⟨S_, .f32⟩) main_call8_cst) (constant S_ .f32 0x7FC00000#32),
    TRef.unary (TRef.of (T := ⟨S_, .f32⟩) main_call8_cst) (TRef.of (T := ⟨S16, .f32⟩) main_call8_v14) (broadcastInDim S16 ![] bcast_S_S16),
    TRef.ternary (TRef.of (T := ⟨S16, .i1⟩) main_call8_v12) (TRef.of (T := ⟨S16, .f32⟩) main_call8_v13) (TRef.of (T := ⟨S16, .f32⟩) main_call8_v14) (TRef.of (T := ⟨S16, .f32⟩) main_v126) select,
    reshape main_v126 main_v127 (rfl : (.f32 : EltTy) = .f32) shapeCasts_S16_S16x1x1x1x1 ]

/-- The stage's operations use the program's buffers. -/
theorem opsTakeA_sub : (opsTakeA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

/-- The stage's operations take no new buffer. -/
theorem opsTakeA_fresh : (opsTakeA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Its complement. -/
abbrev opsTakeB : List (HloOp τ sig (Elt F)) :=
  [ TRef.nullary (TRef.of (T := ⟨S_, .i32⟩) main_call9_c) (constantI S_ 32 0#32),
    TRef.unary (TRef.of (T := ⟨S_, .i32⟩) main_call9_c) (TRef.of (T := ⟨S16, .i32⟩) main_call9_v0) (broadcastInDim S16 ![] bcast_S_S16),
    TRef.binary (TRef.of (T := ⟨S16, .i32⟩) main_arg1) (TRef.of (T := ⟨S16, .i32⟩) main_call9_v0) (TRef.of (T := ⟨S16, .i1⟩) main_call9_v1) (cmpi .slt),
    TRef.nullary (TRef.of (T := ⟨S_, .i32⟩) main_call9_c_0) (constantI S_ 32 4000#32),
    TRef.unary (TRef.of (T := ⟨S_, .i32⟩) main_call9_c_0) (TRef.of (T := ⟨S16, .i32⟩) main_call9_v2) (broadcastInDim S16 ![] bcast_S_S16),
    TRef.binary (TRef.of (T := ⟨S16, .i32⟩) main_arg1) (TRef.of (T := ⟨S16, .i32⟩) main_call9_v2) (TRef.of (T := ⟨S16, .i32⟩) main_call9_v3) addi,
    TRef.ternary (TRef.of (T := ⟨S16, .i1⟩) main_call9_v1) (TRef.of (T := ⟨S16, .i32⟩) main_call9_v3) (TRef.of (T := ⟨S16, .i32⟩) main_arg1) (TRef.of (T := ⟨S16, .i32⟩) main_call9_v4) select,
    TRef.unary (TRef.of (T := ⟨S16, .i32⟩) main_call9_v4) (TRef.of (T := ⟨S16x1, .i32⟩) main_call9_v5) (broadcastInDim S16x1 ![0] bcast_S16_S16x1_0),
    TRef.nullary (TRef.of (T := ⟨S1, .i32⟩) main_call9_c_1) (constantI S1 32 3999#32),
    TRef.nullary (TRef.of (T := ⟨S_, .i32⟩) main_call9_c_2) (constantI S_ 32 0#32),
    TRef.unary (TRef.of (T := ⟨S_, .i32⟩) main_call9_c_2) (TRef.of (T := ⟨S16x1, .i32⟩) main_call9_v6) (broadcastInDim S16x1 ![] bcast_S_S16x1),
    TRef.binary (TRef.of (T := ⟨S16x1, .i32⟩) main_call9_v5) (TRef.of (T := ⟨S16x1, .i32⟩) main_call9_v6) (TRef.of (T := ⟨S16x1, .i1⟩) main_call9_v7) (cmpi .sge),
    TRef.unary (TRef.of (T := ⟨S1, .i32⟩) main_call9_c_1) (TRef.of (T := ⟨S1x1, .i32⟩) main_call9_v8) (broadcastInDim S1x1 ![1] bcast_S1_S1x1_1),
    TRef.unary (TRef.of (T := ⟨S1x1, .i32⟩) main_call9_v8) (TRef.of (T := ⟨S16x1, .i32⟩) main_call9_v9) (broadcastInDim S16x1 ![0, 1] bcast_S1x1_S16x1_0_1),
    TRef.binary (TRef.of (T := ⟨S16x1, .i32⟩) main_call9_v5) (TRef.of (T := ⟨S16x1, .i32⟩) main_call9_v9) (TRef.of (T := ⟨S16x1, .i1⟩) main_call9_v10) (cmpi .sle),
    TRef.binary (TRef.of (T := ⟨S16x1, .i1⟩) main_call9_v7) (TRef.of (T := ⟨S16x1, .i1⟩) main_call9_v10) (TRef.of (T := ⟨S16x1, .i1⟩) main_call9_v11) andi,
    TRef.nullary (TRef.of (T := ⟨S_, .i1⟩) main_call9_c_3) (constantI S_ 1 1#1),
    TRef.binary (TRef.of (T := ⟨S16x1, .i1⟩) main_call9_v11) (TRef.of (T := ⟨S_, .i1⟩) main_call9_c_3) (TRef.of (T := ⟨S16, .i1⟩) main_call9_v12) (fun x v => Host.reduce IntOp.andi x v reducesTo_S16x1_S16_d1 h_S_),
    TRef.binary (TRef.of (T := ⟨S4000, .f32⟩) main_cst_2) (TRef.of (T := ⟨S16x1, .i32⟩) main_call9_v5) (TRef.of (T := ⟨S16, .f32⟩) main_call9_v13) (fun x i => Host.gather gather_S4000_S16x1_S16_n_0_n_n_0_1_1 x i),
    TRef.nullary (TRef.of (T := ⟨S_, .f32⟩) main_call9_cst) (constant S_ .f32 0x7FC00000#32),
    TRef.unary (TRef.of (T := ⟨S_, .f32⟩) main_call9_cst) (TRef.of (T := ⟨S16, .f32⟩) main_call9_v14) (broadcastInDim S16 ![] bcast_S_S16),
    TRef.ternary (TRef.of (T := ⟨S16, .i1⟩) main_call9_v12) (TRef.of (T := ⟨S16, .f32⟩) main_call9_v13) (TRef.of (T := ⟨S16, .f32⟩) main_call9_v14) (TRef.of (T := ⟨S16, .f32⟩) main_v128) select ]

/-- The stage's operations use the program's buffers. -/
theorem opsTakeB_sub : (opsTakeB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The stage's operations take no new buffer. -/
theorem opsTakeB_fresh : (opsTakeB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The one-step prediction and the unnormalised posterior. -/
abbrev opsStep : List (HloOp τ sig (Elt F)) :=
  [ reshape main_v128 main_v129 (rfl : (.f32 : EltTy) = .f32) shapeCasts_S16_S16x1x1x1x1,
    unary main_v127 main_v130 (broadcastInDim S16x256x1x64x64 ![0, 1, 2, 3, 4] bcast_S16x1x1x1x1_S16x256x1x64x64_0_1_2_3_4 : Ar F S16x1x1x1x1 .f32 → Ar F S16x256x1x64x64 .f32),
    binary main_arg0 main_v130 main_v131 (addf : Ar F S16x256x1x64x64 .f32 → Ar F S16x256x1x64x64 .f32 → Ar F S16x256x1x64x64 .f32),
    nullary main_cst_13 (constant S_ .f32 0x40B17218#32),
    unary main_cst_13 main_v132 (broadcastInDim S16x1x1x1x1 ![] bcast_S_S16x1x1x1x1 : Ar F S_ .f32 → Ar F S16x1x1x1x1 .f32),
    binary main_v129 main_v132 main_v133 (subf : Ar F S16x1x1x1x1 .f32 → Ar F S16x1x1x1x1 .f32 → Ar F S16x1x1x1x1 .f32),
    unary main_v133 main_v134 (broadcastInDim S16x256x1x64x64 ![0, 1, 2, 3, 4] bcast_S16x1x1x1x1_S16x256x1x64x64_0_1_2_3_4 : Ar F S16x1x1x1x1 .f32 → Ar F S16x256x1x64x64 .f32),
    binary main_v131 main_v134 main_v135 (maximumf : Ar F S16x256x1x64x64 .f32 → Ar F S16x256x1x64x64 .f32 → Ar F S16x256x1x64x64 .f32),
    binary main_v131 main_v135 main_v136 (subf : Ar F S16x256x1x64x64 .f32 → Ar F S16x256x1x64x64 .f32 → Ar F S16x256x1x64x64 .f32),
    unary main_v136 main_v137 (Host.exp : Ar F S16x256x1x64x64 .f32 → Ar F S16x256x1x64x64 .f32),
    unary main_v133 main_v138 (broadcastInDim S16x256x1x64x64 ![0, 1, 2, 3, 4] bcast_S16x1x1x1x1_S16x256x1x64x64_0_1_2_3_4 : Ar F S16x1x1x1x1 .f32 → Ar F S16x256x1x64x64 .f32),
    binary main_v138 main_v135 main_v139 (subf : Ar F S16x256x1x64x64 .f32 → Ar F S16x256x1x64x64 .f32 → Ar F S16x256x1x64x64 .f32),
    unary main_v139 main_v140 (Host.exp : Ar F S16x256x1x64x64 .f32 → Ar F S16x256x1x64x64 .f32),
    binary main_v137 main_v140 main_v141 (addf : Ar F S16x256x1x64x64 .f32 → Ar F S16x256x1x64x64 .f32 → Ar F S16x256x1x64x64 .f32),
    unary main_v141 main_v142 (Host.log : Ar F S16x256x1x64x64 .f32 → Ar F S16x256x1x64x64 .f32),
    binary main_v135 main_v142 main_v143 (addf : Ar F S16x256x1x64x64 .f32 → Ar F S16x256x1x64x64 .f32 → Ar F S16x256x1x64x64 .f32),
    binary main_v125 main_v143 main_v144 (addf : Ar F S16x256x1x64x64 .f32 → Ar F S16x256x1x64x64 .f32 → Ar F S16x256x1x64x64 .f32) ]

/-- The stage's operations use the program's buffers. -/
theorem opsStep_sub : (opsStep : List (HloOp τ sig (Elt F))).Forall fun op => op.bufs ⊆ tcRefs τ sig :=
  ⟨reshape_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub .., unary_bufs_sub .., binary_bufs_sub .., unary_bufs_sub .., binary_bufs_sub .., binary_bufs_sub ..⟩

/-- The stage's operations take no new buffer. -/
theorem opsStep_fresh : (opsStep : List (HloOp τ sig (Elt F))).Forall fun op => op.fresh = ∅ :=
  ⟨rfl, rfl, rfl, rfl, rfl, rfl, rfl, rfl, rfl, rfl, rfl, rfl, rfl, rfl, rfl, rfl, rfl⟩

/-- The posterior less its log-sum-exp. -/
abbrev opsNorm : List (HloOp τ sig (Elt F)) :=
  [ nullary main_cst_14 (constant S_ .f32 0xFF800000#32),
    binary main_v144 main_cst_14 main_v145 ((fun x v => Host.reduce FloatOps.maximumf x v reducesTo_S16x256x1x64x64_S16x1x64x64_d1 h_S_) : Ar F S16x256x1x64x64 .f32 → Ar F S_ .f32 → Ar F S16x1x64x64 .f32),
    unary main_v145 main_v146 (broadcastInDim S16x1x1x64x64 ![0, 2, 3, 4] bcast_S16x1x64x64_S16x1x1x64x64_0_2_3_4 : Ar F S16x1x64x64 .f32 → Ar F S16x1x1x64x64 .f32),
    unary main_v146 main_v147 (Host.absf : Ar F S16x1x1x64x64 .f32 → Ar F S16x1x1x64x64 .f32),
    nullary main_cst_15 (constant S_ .f32 0x7F800000#32),
    unary main_cst_15 main_v148 (broadcastInDim S16x1x1x64x64 ![] bcast_S_S16x1x1x64x64 : Ar F S_ .f32 → Ar F S16x1x1x64x64 .f32),
    binary main_v147 main_v148 main_v149 (cmpf .olt : Ar F S16x1x1x64x64 .f32 → Ar F S16x1x1x64x64 .f32 → Ar F S16x1x1x64x64 .i1),
    nullary main_cst_16 (constant S_ .f32 0x00000000#32),
    TRef.unary (TRef.of (T := ⟨S_, .f32⟩) main_cst_16) (TRef.of (T := ⟨S_, .f32⟩) main_call10_v0) id,
    TRef.unary (TRef.of (T := ⟨S_, .f32⟩) main_call10_v0) (TRef.of (T := ⟨S16x1x1x64x64, .f32⟩) main_call10_v1) (broadcastInDim S16x1x1x64x64 ![] bcast_S_S16x1x1x64x64),
    TRef.ternary (TRef.of (T := ⟨S16x1x1x64x64, .i1⟩) main_v149) (TRef.of (T := ⟨S16x1x1x64x64, .f32⟩) main_v146) (TRef.of (T := ⟨S16x1x1x64x64, .f32⟩) main_call10_v1) (TRef.of (T := ⟨S16x1x1x64x64, .f32⟩) main_v150) select,
    unary main_v150 main_v151 (broadcastInDim S16x256x1x64x64 ![0, 1, 2, 3, 4] bcast_S16x1x1x64x64_S16x256x1x64x64_0_1_2_3_4 : Ar F S16x1x1x64x64 .f32 → Ar F S16x256x1x64x64 .f32),
    binary main_v144 main_v151 main_v152 (subf : Ar F S16x256x1x64x64 .f32 → Ar F S16x256x1x64x64 .f32 → Ar F S16x256x1x64x64 .f32),
    unary main_v152 main_v153 (Host.exp : Ar F S16x256x1x64x64 .f32 → Ar F S16x256x1x64x64 .f32),
    nullary main_cst_17 (constant S_ .f32 0x00000000#32),
    binary main_v153 main_cst_17 main_v154 ((fun x v => Host.reduceAdd x v reducesTo_S16x256x1x64x64_S16x1x64x64_d1 h_S_) : Ar F S16x256x1x64x64 .f32 → Ar F S_ .f32 → Ar F S16x1x64x64 .f32),
    unary main_v154 main_v155 (broadcastInDim S16x1x1x64x64 ![0, 2, 3, 4] bcast_S16x1x64x64_S16x1x1x64x64_0_2_3_4 : Ar F S16x1x64x64 .f32 → Ar F S16x1x1x64x64 .f32),
    unary main_v155 main_v156 (Host.log : Ar F S16x1x1x64x64 .f32 → Ar F S16x1x1x64x64 .f32),
    binary main_v156 main_v150 main_v157 (addf : Ar F S16x1x1x64x64 .f32 → Ar F S16x1x1x64x64 .f32 → Ar F S16x1x1x64x64 .f32),
    unary main_v157 main_v158 (broadcastInDim S16x256x1x64x64 ![0, 1, 2, 3, 4] bcast_S16x1x1x64x64_S16x256x1x64x64_0_1_2_3_4 : Ar F S16x1x1x64x64 .f32 → Ar F S16x256x1x64x64 .f32),
    binary main_v144 main_v158 main_v159 (subf : Ar F S16x256x1x64x64 .f32 → Ar F S16x256x1x64x64 .f32 → Ar F S16x256x1x64x64 .f32) ]

/-- The stage's operations use the program's buffers. -/
theorem opsNorm_sub : (opsNorm : List (HloOp τ sig (Elt F))).Forall fun op => op.bufs ⊆ tcRefs τ sig :=
  ⟨nullary_bufs_sub .., binary_bufs_sub .., unary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., nullary_bufs_sub .., binary_bufs_sub .., unary_bufs_sub .., unary_bufs_sub .., binary_bufs_sub .., unary_bufs_sub .., binary_bufs_sub ..⟩

/-- The stage's operations take no new buffer. -/
theorem opsNorm_fresh : (opsNorm : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

end Cert.ReferenceIdeal.Hand

end
-- ==== Proof.RefOpsB.lean ====
/- The reference program's operations, in the order it runs them, in two halves: the noise and the sample. -/
module

public import proofs.«01_k».proof.Proof.Gen.ReferenceIdeal
public import Idealize.ShloMosaic.Lib.StableHlo.Run
public import Idealize.ShloMosaic.Lib.Pipeline.Frame
public import proofs.«01_k».proof.Proof.RefOps

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The key. -/
abbrev opsKey : List (HloOp τ sig (Elt F)) :=
  [ nullary main_c_18 (constantI S_ 32 42#32),
    nullary main_c_19 (constantI S_ 32 32#32),
    binary main_c_18 main_c_19 main_v160 (Host.shrui : Ar F S_ .i32 → Ar F S_ .i32 → Ar F S_ .i32),
    unary main_v160 main_v161 (id : Ar F S_ .i32 → Ar F S_ .i32),
    unary main_v161 main_v162 (broadcastInDim S1 ![] bcast_S_S1 : Ar F S_ .i32 → Ar F S1 .i32),
    nullary main_c_20 (constantI S_ 32 4294967295#32),
    binary main_c_18 main_c_20 main_v163 (andi : Ar F S_ .i32 → Ar F S_ .i32 → Ar F S_ .i32),
    unary main_v163 main_v164 (id : Ar F S_ .i32 → Ar F S_ .i32),
    unary main_v164 main_v165 (broadcastInDim S1 ![] bcast_S_S1 : Ar F S_ .i32 → Ar F S1 .i32),
    binary main_v162 main_v165 main_v166 (keyPair (F := F)) ]

/-- The stage's operations use the program's buffers. -/
theorem opsKey_sub : (opsKey : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub ..⟩

/-- The stage's operations take no new buffer. -/
theorem opsKey_fresh : (opsKey : List (HloOp τ sig (Elt F))).Forall fun op => op.fresh = ∅ :=
  ⟨rfl, rfl, rfl, rfl, rfl, rfl, rfl, rfl, rfl, rfl⟩

/-- The counters. -/
abbrev opsCount : List (HloOp τ sig (Elt F)) :=
  [ nullary main_cst_21 (constant S_ .f32 0x00000000#32),
    nullary main_cst_22 (constant S_ .f32 0x3F800000#32),
    TRef.unary (TRef.of (T := ⟨S_, .f32⟩) main_cst_21) (TRef.of (T := ⟨S_, .f32⟩) main_call11_v0) id,
    TRef.unary (TRef.of (T := ⟨S_, .f32⟩) main_cst_22) (TRef.of (T := ⟨S_, .f32⟩) main_call11_v1) id,
    TRef.unary (TRef.of (T := ⟨S_, .f32⟩) main_call11_v0) (TRef.of (T := ⟨S1x1x1x1x1, .f32⟩) main_call11_v2) (broadcastInDim S1x1x1x1x1 ![] bcast_S_S1x1x1x1x1),
    TRef.unary (TRef.of (T := ⟨S_, .f32⟩) main_call11_v1) (TRef.of (T := ⟨S1x1x1x1x1, .f32⟩) main_call11_v3) (broadcastInDim S1x1x1x1x1 ![] bcast_S_S1x1x1x1x1),
    TRef.unary (TRef.of (T := ⟨S2, .i32⟩) main_v166) (TRef.of (T := ⟨S1, .i32⟩) main_call11_v4) (extractStridedSlice S1 ![0] · slices_S2_S1_0),
    TRef.reshape (TRef.of (T := ⟨S1, .i32⟩) main_call11_v4) (TRef.of (T := ⟨S_, .i32⟩) main_call11_v5) (rfl : (.i32 : EltTy) = .i32) shapeCasts_S1_S_,
    TRef.unary (TRef.of (T := ⟨S2, .i32⟩) main_v166) (TRef.of (T := ⟨S1, .i32⟩) main_call11_v6) (extractStridedSlice S1 ![1] · slices_S2_S1_1),
    TRef.reshape (TRef.of (T := ⟨S1, .i32⟩) main_call11_v6) (TRef.of (T := ⟨S_, .i32⟩) main_call11_v7) (rfl : (.i32 : EltTy) = .i32) shapeCasts_S1_S_,
    TRef.nullary (TRef.of (T := ⟨S16x256x1x64x64, .i64⟩) main_call11_v8) (iotaInDim S16x256x1x64x64 64 0),
    TRef.nullary (TRef.of (T := ⟨S16x256x1x64x64, .i64⟩) main_call11_v9) (iotaInDim S16x256x1x64x64 64 1),
    TRef.nullary (TRef.of (T := ⟨S16x256x1x64x64, .i64⟩) main_call11_v10) (iotaInDim S16x256x1x64x64 64 2),
    TRef.nullary (TRef.of (T := ⟨S16x256x1x64x64, .i64⟩) main_call11_v11) (iotaInDim S16x256x1x64x64 64 3),
    TRef.nullary (TRef.of (T := ⟨S16x256x1x64x64, .i64⟩) main_call11_v12) (iotaInDim S16x256x1x64x64 64 4),
    TRef.nullary (TRef.of (T := ⟨S_, .i64⟩) main_call11_c) (constantI S_ 64 1048576#64),
    TRef.unary (TRef.of (T := ⟨S_, .i64⟩) main_call11_c) (TRef.of (T := ⟨S16x256x1x64x64, .i64⟩) main_call11_v13) (broadcastInDim S16x256x1x64x64 ![] bcast_S_S16x256x1x64x64),
    TRef.binary (TRef.of (T := ⟨S16x256x1x64x64, .i64⟩) main_call11_v13) (TRef.of (T := ⟨S16x256x1x64x64, .i64⟩) main_call11_v8) (TRef.of (T := ⟨S16x256x1x64x64, .i64⟩) main_call11_v14) muli,
    TRef.nullary (TRef.of (T := ⟨S_, .i64⟩) main_call11_c_0) (constantI S_ 64 4096#64),
    TRef.unary (TRef.of (T := ⟨S_, .i64⟩) main_call11_c_0) (TRef.of (T := ⟨S16x256x1x64x64, .i64⟩) main_call11_v15) (broadcastInDim S16x256x1x64x64 ![] bcast_S_S16x256x1x64x64),
    TRef.binary (TRef.of (T := ⟨S16x256x1x64x64, .i64⟩) main_call11_v15) (TRef.of (T := ⟨S16x256x1x64x64, .i64⟩) main_call11_v9) (TRef.of (T := ⟨S16x256x1x64x64, .i64⟩) main_call11_v16) muli,
    TRef.nullary (TRef.of (T := ⟨S_, .i64⟩) main_call11_c_1) (constantI S_ 64 4096#64),
    TRef.unary (TRef.of (T := ⟨S_, .i64⟩) main_call11_c_1) (TRef.of (T := ⟨S16x256x1x64x64, .i64⟩) main_call11_v17) (broadcastInDim S16x256x1x64x64 ![] bcast_S_S16x256x1x64x64),
    TRef.binary (TRef.of (T := ⟨S16x256x1x64x64, .i64⟩) main_call11_v17) (TRef.of (T := ⟨S16x256x1x64x64, .i64⟩) main_call11_v10) (TRef.of (T := ⟨S16x256x1x64x64, .i64⟩) main_call11_v18) muli,
    TRef.nullary (TRef.of (T := ⟨S_, .i64⟩) main_call11_c_2) (constantI S_ 64 64#64),
    TRef.unary (TRef.of (T := ⟨S_, .i64⟩) main_call11_c_2) (TRef.of (T := ⟨S16x256x1x64x64, .i64⟩) main_call11_v19) (broadcastInDim S16x256x1x64x64 ![] bcast_S_S16x256x1x64x64),
    TRef.binary (TRef.of (T := ⟨S16x256x1x64x64, .i64⟩) main_call11_v19) (TRef.of (T := ⟨S16x256x1x64x64, .i64⟩) main_call11_v11) (TRef.of (T := ⟨S16x256x1x64x64, .i64⟩) main_call11_v20) muli,
    TRef.nullary (TRef.of (T := ⟨S_, .i64⟩) main_call11_c_3) (constantI S_ 64 1#64),
    TRef.unary (TRef.of (T := ⟨S_, .i64⟩) main_call11_c_3) (TRef.of (T := ⟨S16x256x1x64x64, .i64⟩) main_call11_v21) (broadcastInDim S16x256x1x64x64 ![] bcast_S_S16x256x1x64x64),
    TRef.binary (TRef.of (T := ⟨S16x256x1x64x64, .i64⟩) main_call11_v21) (TRef.of (T := ⟨S16x256x1x64x64, .i64⟩) main_call11_v12) (TRef.of (T := ⟨S16x256x1x64x64, .i64⟩) main_call11_v22) muli,
    TRef.binary (TRef.of (T := ⟨S16x256x1x64x64, .i64⟩) main_call11_v14) (TRef.of (T := ⟨S16x256x1x64x64, .i64⟩) main_call11_v16) (TRef.of (T := ⟨S16x256x1x64x64, .i64⟩) main_call11_v23) addi,
    TRef.binary (TRef.of (T := ⟨S16x256x1x64x64, .i64⟩) main_call11_v23) (TRef.of (T := ⟨S16x256x1x64x64, .i64⟩) main_call11_v18) (TRef.of (T := ⟨S16x256x1x64x64, .i64⟩) main_call11_v24) addi,
    TRef.binary (TRef.of (T := ⟨S16x256x1x64x64, .i64⟩) main_call11_v24) (TRef.of (T := ⟨S16x256x1x64x64, .i64⟩) main_call11_v20) (TRef.of (T := ⟨S16x256x1x64x64, .i64⟩) main_call11_v25) addi,
    TRef.binary (TRef.of (T := ⟨S16x256x1x64x64, .i64⟩) main_call11_v25) (TRef.of (T := ⟨S16x256x1x64x64, .i64⟩) main_call11_v22) (TRef.of (T := ⟨S16x256x1x64x64, .i64⟩) main_call11_v26) addi,
    TRef.nullary (TRef.of (T := ⟨S_, .i64⟩) main_call11_c_4) (constantI S_ 64 32#64),
    TRef.unary (TRef.of (T := ⟨S_, .i64⟩) main_call11_c_4) (TRef.of (T := ⟨S16x256x1x64x64, .i64⟩) main_call11_v27) (broadcastInDim S16x256x1x64x64 ![] bcast_S_S16x256x1x64x64),
    TRef.binary (TRef.of (T := ⟨S16x256x1x64x64, .i64⟩) main_call11_v26) (TRef.of (T := ⟨S16x256x1x64x64, .i64⟩) main_call11_v27) (TRef.of (T := ⟨S16x256x1x64x64, .i64⟩) main_call11_v28) Host.shrui,
    TRef.unary (TRef.of (T := ⟨S16x256x1x64x64, .i64⟩) main_call11_v26) (TRef.of (T := ⟨S16x256x1x64x64, .i32⟩) main_call11_v29) (trunci 32 · natLt_32_64),
    TRef.unary (TRef.of (T := ⟨S16x256x1x64x64, .i64⟩) main_call11_v28) (TRef.of (T := ⟨S16x256x1x64x64, .i32⟩) main_call11_v30) (trunci 32 · natLt_32_64) ]

/-- The stage's operations use the program's buffers. -/
theorem opsCount_sub : (opsCount : List (HloOp τ sig (Elt F))).Forall fun op => op.bufs ⊆ tcRefs τ sig :=
  ⟨nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., unary_bufs_sub .., unary_bufs_sub ..⟩

/-- The stage's operations take no new buffer. -/
theorem opsCount_fresh : (opsCount : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The counters with the key added. -/
abbrev opsStart : List (HloOp τ sig (Elt F)) :=
  [ TRef.binary (TRef.of (T := ⟨S_, .i32⟩) main_call11_v5) (TRef.of (T := ⟨S_, .i32⟩) main_call11_v7) (TRef.of (T := ⟨S_, .i32⟩) main_call11_call0_v0) xori,
    TRef.nullary (TRef.of (T := ⟨S_, .i32⟩) main_call11_call0_c) (constantI S_ 32 466688986#32),
    TRef.binary (TRef.of (T := ⟨S_, .i32⟩) main_call11_call0_v0) (TRef.of (T := ⟨S_, .i32⟩) main_call11_call0_c) (TRef.of (T := ⟨S_, .i32⟩) main_call11_call0_v1) xori,
    TRef.unary (TRef.of (T := ⟨S_, .i32⟩) main_call11_v5) (TRef.of (T := ⟨S16x256x1x64x64, .i32⟩) main_call11_call0_v2) (broadcastInDim S16x256x1x64x64 ![] bcast_S_S16x256x1x64x64),
    TRef.binary (TRef.of (T := ⟨S16x256x1x64x64, .i32⟩) main_call11_v30) (TRef.of (T := ⟨S16x256x1x64x64, .i32⟩) main_call11_call0_v2) (TRef.of (T := ⟨S16x256x1x64x64, .i32⟩) main_call11_call0_v3) addi,
    TRef.unary (TRef.of (T := ⟨S_, .i32⟩) main_call11_v7) (TRef.of (T := ⟨S16x256x1x64x64, .i32⟩) main_call11_call0_v4) (broadcastInDim S16x256x1x64x64 ![] bcast_S_S16x256x1x64x64),
    TRef.binary (TRef.of (T := ⟨S16x256x1x64x64, .i32⟩) main_call11_v29) (TRef.of (T := ⟨S16x256x1x64x64, .i32⟩) main_call11_call0_v4) (TRef.of (T := ⟨S16x256x1x64x64, .i32⟩) main_call11_call0_v5) addi ]

/-- The stage's operations use the program's buffers. -/
theorem opsStart_sub : (opsStart : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub ..⟩

/-- The stage's operations take no new buffer. -/
theorem opsStart_fresh : (opsStart : List (HloOp τ sig (Elt F))).Forall fun op => op.fresh = ∅ :=
  ⟨rfl, rfl, rfl, rfl, rfl, rfl, rfl⟩

/-- Four rounds, then the key words. -/
abbrev opsMix0 : List (HloOp τ sig (Elt F)) :=
  [ TRef.binary (TRef.of (T := ⟨S16x256x1x64x64, .i32⟩) main_call11_call0_v3) (TRef.of (T := ⟨S16x256x1x64x64, .i32⟩) main_call11_call0_v5) (TRef.of (T := ⟨S16x256x1x64x64, .i32⟩) main_call11_call0_v6) addi,
    TRef.nullary (TRef.of (T := ⟨S_, .i32⟩) main_call11_call0_c_0) (constantI S_ 32 13#32),
    TRef.unary (TRef.of (T := ⟨S_, .i32⟩) main_call11_call0_c_0) (TRef.of (T := ⟨S16x256x1x64x64, .i32⟩) main_call11_call0_v7) (broadcastInDim S16x256x1x64x64 ![] bcast_S_S16x256x1x64x64),
    TRef.binary (TRef.of (T := ⟨S16x256x1x64x64, .i32⟩) main_call11_call0_v5) (TRef.of (T := ⟨S16x256x1x64x64, .i32⟩) main_call11_call0_v7) (TRef.of (T := ⟨S16x256x1x64x64, .i32⟩) main_call11_call0_v8) Host.shli,
    TRef.nullary (TRef.of (T := ⟨S_, .i32⟩) main_call11_call0_c_1) (constantI S_ 32 19#32),
    TRef.unary (TRef.of (T := ⟨S_, .i32⟩) main_call11_call0_c_1) (TRef.of (T := ⟨S16x256x1x64x64, .i32⟩) main_call11_call0_v9) (broadcastInDim S16x256x1x64x64 ![] bcast_S_S16x256x1x64x64),
    TRef.binary (TRef.of (T := ⟨S16x256x1x64x64, .i32⟩) main_call11_call0_v5) (TRef.of (T := ⟨S16x256x1x64x64, .i32⟩) main_call11_call0_v9) (TRef.of (T := ⟨S16x256x1x64x64, .i32⟩) main_call11_call0_v10) Host.shrui,
    TRef.binary (TRef.of (T := ⟨S16x256x1x64x64, .i32⟩) main_call11_call0_v8) (TRef.of (T := ⟨S16x256x1x64x64, .i32⟩) main_call11_call0_v10) (TRef.of (T := ⟨S16x256x1x64x64, .i32⟩) main_call11_call0_v11) ori,
    TRef.binary (TRef.of (T := ⟨S16x256x1x64x64, .i32⟩) main_call11_call0_v6) (TRef.of (T := ⟨S16x256x1x64x64, .i32⟩) main_call11_call0_v11) (TRef.of (T := ⟨S16x256x1x64x64, .i32⟩) main_call11_call0_v12) xori,
    TRef.binary (TRef.of (T := ⟨S16x256x1x64x64, .i32⟩) main_call11_call0_v6) (TRef.of (T := ⟨S16x256x1x64x64, .i32⟩) main_call11_call0_v12) (TRef.of (T := ⟨S16x256x1x64x64, .i32⟩) main_call11_call0_v13) addi,
    TRef.nullary (TRef.of (T := ⟨S_, .i32⟩) main_call11_call0_c_2) (constantI S_ 32 15#32),
    TRef.unary (TRef.of (T := ⟨S_, .i32⟩) main_call11_call0_c_2) (TRef.of (T := ⟨S16x256x1x64x64, .i32⟩) main_call11_call0_v14) (broadcastInDim S16x256x1x64x64 ![] bcast_S_S16x256x1x64x64),
    TRef.binary (TRef.of (T := ⟨S16x256x1x64x64, .i32⟩) main_call11_call0_v12) (TRef.of (T := ⟨S16x256x1x64x64, .i32⟩) main_call11_call0_v14) (TRef.of (T := ⟨S16x256x1x64x64, .i32⟩) main_call11_call0_v15) Host.shli,
    TRef.nullary (TRef.of (T := ⟨S_, .i32⟩) main_call11_call0_c_3) (constantI S_ 32 17#32),
    TRef.unary (TRef.of (T := ⟨S_, .i32⟩) main_call11_call0_c_3) (TRef.of (T := ⟨S16x256x1x64x64, .i32⟩) main_call11_call0_v16) (broadcastInDim S16x256x1x64x64 ![] bcast_S_S16x256x1x64x64),
    TRef.binary (TRef.of (T := ⟨S16x256x1x64x64, .i32⟩) main_call11_call0_v12) (TRef.of (T := ⟨S16x256x1x64x64, .i32⟩) main_call11_call0_v16) (TRef.of (T := ⟨S16x256x1x64x64, .i32⟩) main_call11_call0_v17) Host.shrui,
    TRef.binary (TRef.of (T := ⟨S16x256x1x64x64, .i32⟩) main_call11_call0_v15) (TRef.of (T := ⟨S16x256x1x64x64, .i32⟩) main_call11_call0_v17) (TRef.of (T := ⟨S16x256x1x64x64, .i32⟩) main_call11_call0_v18) ori,
    TRef.binary (TRef.of (T := ⟨S16x256x1x64x64, .i32⟩) main_call11_call0_v13) (TRef.of (T := ⟨S16x256x1x64x64, .i32⟩) main_call11_call0_v18) (TRef.of (T := ⟨S16x256x1x64x64, .i32⟩) main_call11_call0_v19) xori,
    TRef.binary (TRef.of (T := ⟨S16x256x1x64x64, .i32⟩) main_call11_call0_v13) (TRef.of (T := ⟨S16x256x1x64x64, .i32⟩) main_call11_call0_v19) (TRef.of (T := ⟨S16x256x1x64x64, .i32⟩) main_call11_call0_v20) addi,
    TRef.nullary (TRef.of (T := ⟨S_, .i32⟩) main_call11_call0_c_4) (constantI S_ 32 26#32),
    TRef.unary (TRef.of (T := ⟨S_, .i32⟩) main_call11_call0_c_4) (TRef.of (T := ⟨S16x256x1x64x64, .i32⟩) main_call11_call0_v21) (broadcastInDim S16x256x1x64x64 ![] bcast_S_S16x256x1x64x64),
    TRef.binary (TRef.of (T := ⟨S16x256x1x64x64, .i32⟩) main_call11_call0_v19) (TRef.of (T := ⟨S16x256x1x64x64, .i32⟩) main_call11_call0_v21) (TRef.of (T := ⟨S16x256x1x64x64, .i32⟩) main_call11_call0_v22) Host.shli,
    TRef.nullary (TRef.of (T := ⟨S_, .i32⟩) main_call11_call0_c_5) (constantI S_ 32 6#32),
    TRef.unary (TRef.of (T := ⟨S_, .i32⟩) main_call11_call0_c_5) (TRef.of (T := ⟨S16x256x1x64x64, .i32⟩) main_call11_call0_v23) (broadcastInDim S16x256x1x64x64 ![] bcast_S_S16x256x1x64x64),
    TRef.binary (TRef.of (T := ⟨S16x256x1x64x64, .i32⟩) main_call11_call0_v19) (TRef.of (T := ⟨S16x256x1x64x64, .i32⟩) main_call11_call0_v23) (TRef.of (T := ⟨S16x256x1x64x64, .i32⟩) main_call11_call0_v24) Host.shrui,
    TRef.binary (TRef.of (T := ⟨S16x256x1x64x64, .i32⟩) main_call11_call0_v22) (TRef.of (T := ⟨S16x256x1x64x64, .i32⟩) main_call11_call0_v24) (TRef.of (T := ⟨S16x256x1x64x64, .i32⟩) main_call11_call0_v25) ori,
    TRef.binary (TRef.of (T := ⟨S16x256x1x64x64, .i32⟩) main_call11_call0_v20) (TRef.of (T := ⟨S16x256x1x64x64, .i32⟩) main_call11_call0_v25) (TRef.of (T := ⟨S16x256x1x64x64, .i32⟩) main_call11_call0_v26) xori,
    TRef.binary (TRef.of (T := ⟨S16x256x1x64x64, .i32⟩) main_call11_call0_v20) (TRef.of (T := ⟨S16x256x1x64x64, .i32⟩) main_call11_call0_v26) (TRef.of (T := ⟨S16x256x1x64x64, .i32⟩) main_call11_call0_v27) addi,
    TRef.nullary (TRef.of (T := ⟨S_, .i32⟩) main_call11_call0_c_6) (constantI S_ 32 6#32),
    TRef.unary (TRef.of (T := ⟨S_, .i32⟩) main_call11_call0_c_6) (TRef.of (T := ⟨S16x256x1x64x64, .i32⟩) main_call11_call0_v28) (broadcastInDim S16x256x1x64x64 ![] bcast_S_S16x256x1x64x64),
    TRef.binary (TRef.of (T := ⟨S16x256x1x64x64, .i32⟩) main_call11_call0_v26) (TRef.of (T := ⟨S16x256x1x64x64, .i32⟩) main_call11_call0_v28) (TRef.of (T := ⟨S16x256x1x64x64, .i32⟩) main_call11_call0_v29) Host.shli,
    TRef.nullary (TRef.of (T := ⟨S_, .i32⟩) main_call11_call0_c_7) (constantI S_ 32 26#32),
    TRef.unary (TRef.of (T := ⟨S_, .i32⟩) main_call11_call0_c_7) (TRef.of (T := ⟨S16x256x1x64x64, .i32⟩) main_call11_call0_v30) (broadcastInDim S16x256x1x64x64 ![] bcast_S_S16x256x1x64x64),
    TRef.binary (TRef.of (T := ⟨S16x256x1x64x64, .i32⟩) main_call11_call0_v26) (TRef.of (T := ⟨S16x256x1x64x64, .i32⟩) main_call11_call0_v30) (TRef.of (T := ⟨S16x256x1x64x64, .i32⟩) main_call11_call0_v31) Host.shrui,
    TRef.binary (TRef.of (T := ⟨S16x256x1x64x64, .i32⟩) main_call11_call0_v29) (TRef.of (T := ⟨S16x256x1x64x64, .i32⟩) main_call11_call0_v31) (TRef.of (T := ⟨S16x256x1x64x64, .i32⟩) main_call11_call0_v32) ori,
    TRef.binary (TRef.of (T := ⟨S16x256x1x64x64, .i32⟩) main_call11_call0_v27) (TRef.of (T := ⟨S16x256x1x64x64, .i32⟩) main_call11_call0_v32) (TRef.of (T := ⟨S16x256x1x64x64, .i32⟩) main_call11_call0_v33) xori,
    TRef.unary (TRef.of (T := ⟨S_, .i32⟩) main_call11_v7) (TRef.of (T := ⟨S16x256x1x64x64, .i32⟩) main_call11_call0_v34) (broadcastInDim S16x256x1x64x64 ![] bcast_S_S16x256x1x64x64),
    TRef.binary (TRef.of (T := ⟨S16x256x1x64x64, .i32⟩) main_call11_call0_v27) (TRef.of (T := ⟨S16x256x1x64x64, .i32⟩) main_call11_call0_v34) (TRef.of (T := ⟨S16x256x1x64x64, .i32⟩) main_call11_call0_v35) addi,
    TRef.unary (TRef.of (T := ⟨S_, .i32⟩) main_call11_call0_v1) (TRef.of (T := ⟨S16x256x1x64x64, .i32⟩) main_call11_call0_v36) (broadcastInDim S16x256x1x64x64 ![] bcast_S_S16x256x1x64x64),
    TRef.binary (TRef.of (T := ⟨S16x256x1x64x64, .i32⟩) main_call11_call0_v33) (TRef.of (T := ⟨S16x256x1x64x64, .i32⟩) main_call11_call0_v36) (TRef.of (T := ⟨S16x256x1x64x64, .i32⟩) main_call11_call0_v37) addi,
    TRef.nullary (TRef.of (T := ⟨S_, .i32⟩) main_call11_call0_c_8) (constantI S_ 32 1#32),
    TRef.unary (TRef.of (T := ⟨S_, .i32⟩) main_call11_call0_c_8) (TRef.of (T := ⟨S16x256x1x64x64, .i32⟩) main_call11_call0_v38) (broadcastInDim S16x256x1x64x64 ![] bcast_S_S16x256x1x64x64),
    TRef.binary (TRef.of (T := ⟨S16x256x1x64x64, .i32⟩) main_call11_call0_v37) (TRef.of (T := ⟨S16x256x1x64x64, .i32⟩) main_call11_call0_v38) (TRef.of (T := ⟨S16x256x1x64x64, .i32⟩) main_call11_call0_v39) addi ]

/-- The stage's operations use the program's buffers. -/
theorem opsMix0_sub : (opsMix0 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- The stage's operations take no new buffer. -/
theorem opsMix0_fresh : (opsMix0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Four rounds, then the key words. -/
abbrev opsMix1 : List (HloOp τ sig (Elt F)) :=
  [ TRef.binary (TRef.of (T := ⟨S16x256x1x64x64, .i32⟩) main_call11_call0_v35) (TRef.of (T := ⟨S16x256x1x64x64, .i32⟩) main_call11_call0_v39) (TRef.of (T := ⟨S16x256x1x64x64, .i32⟩) main_call11_call0_v40) addi,
    TRef.nullary (TRef.of (T := ⟨S_, .i32⟩) main_call11_call0_c_9) (constantI S_ 32 17#32),
    TRef.unary (TRef.of (T := ⟨S_, .i32⟩) main_call11_call0_c_9) (TRef.of (T := ⟨S16x256x1x64x64, .i32⟩) main_call11_call0_v41) (broadcastInDim S16x256x1x64x64 ![] bcast_S_S16x256x1x64x64),
    TRef.binary (TRef.of (T := ⟨S16x256x1x64x64, .i32⟩) main_call11_call0_v39) (TRef.of (T := ⟨S16x256x1x64x64, .i32⟩) main_call11_call0_v41) (TRef.of (T := ⟨S16x256x1x64x64, .i32⟩) main_call11_call0_v42) Host.shli,
    TRef.nullary (TRef.of (T := ⟨S_, .i32⟩) main_call11_call0_c_10) (constantI S_ 32 15#32),
    TRef.unary (TRef.of (T := ⟨S_, .i32⟩) main_call11_call0_c_10) (TRef.of (T := ⟨S16x256x1x64x64, .i32⟩) main_call11_call0_v43) (broadcastInDim S16x256x1x64x64 ![] bcast_S_S16x256x1x64x64),
    TRef.binary (TRef.of (T := ⟨S16x256x1x64x64, .i32⟩) main_call11_call0_v39) (TRef.of (T := ⟨S16x256x1x64x64, .i32⟩) main_call11_call0_v43) (TRef.of (T := ⟨S16x256x1x64x64, .i32⟩) main_call11_call0_v44) Host.shrui,
    TRef.binary (TRef.of (T := ⟨S16x256x1x64x64, .i32⟩) main_call11_call0_v42) (TRef.of (T := ⟨S16x256x1x64x64, .i32⟩) main_call11_call0_v44) (TRef.of (T := ⟨S16x256x1x64x64, .i32⟩) main_call11_call0_v45) ori,
    TRef.binary (TRef.of (T := ⟨S16x256x1x64x64, .i32⟩) main_call11_call0_v40) (TRef.of (T := ⟨S16x256x1x64x64, .i32⟩) main_call11_call0_v45) (TRef.of (T := ⟨S16x256x1x64x64, .i32⟩) main_call11_call0_v46) xori,
    TRef.binary (TRef.of (T := ⟨S16x256x1x64x64, .i32⟩) main_call11_call0_v40) (TRef.of (T := ⟨S16x256x1x64x64, .i32⟩) main_call11_call0_v46) (TRef.of (T := ⟨S16x256x1x64x64, .i32⟩) main_call11_call0_v47) addi,
    TRef.nullary (TRef.of (T := ⟨S_, .i32⟩) main_call11_call0_c_11) (constantI S_ 32 29#32),
    TRef.unary (TRef.of (T := ⟨S_, .i32⟩) main_call11_call0_c_11) (TRef.of (T := ⟨S16x256x1x64x64, .i32⟩) main_call11_call0_v48) (broadcastInDim S16x256x1x64x64 ![] bcast_S_S16x256x1x64x64),
    TRef.binary (TRef.of (T := ⟨S16x256x1x64x64, .i32⟩) main_call11_call0_v46) (TRef.of (T := ⟨S16x256x1x64x64, .i32⟩) main_call11_call0_v48) (TRef.of (T := ⟨S16x256x1x64x64, .i32⟩) main_call11_call0_v49) Host.shli,
    TRef.nullary (TRef.of (T := ⟨S_, .i32⟩) main_call11_call0_c_12) (constantI S_ 32 3#32),
    TRef.unary (TRef.of (T := ⟨S_, .i32⟩) main_call11_call0_c_12) (TRef.of (T := ⟨S16x256x1x64x64, .i32⟩) main_call11_call0_v50) (broadcastInDim S16x256x1x64x64 ![] bcast_S_S16x256x1x64x64),
    TRef.binary (TRef.of (T := ⟨S16x256x1x64x64, .i32⟩) main_call11_call0_v46) (TRef.of (T := ⟨S16x256x1x64x64, .i32⟩) main_call11_call0_v50) (TRef.of (T := ⟨S16x256x1x64x64, .i32⟩) main_call11_call0_v51) Host.shrui,
    TRef.binary (TRef.of (T := ⟨S16x256x1x64x64, .i32⟩) main_call11_call0_v49) (TRef.of (T := ⟨S16x256x1x64x64, .i32⟩) main_call11_call0_v51) (TRef.of (T := ⟨S16x256x1x64x64, .i32⟩) main_call11_call0_v52) ori,
    TRef.binary (TRef.of (T := ⟨S16x256x1x64x64, .i32⟩) main_call11_call0_v47) (TRef.of (T := ⟨S16x256x1x64x64, .i32⟩) main_call11_call0_v52) (TRef.of (T := ⟨S16x256x1x64x64, .i32⟩) main_call11_call0_v53) xori,
    TRef.binary (TRef.of (T := ⟨S16x256x1x64x64, .i32⟩) main_call11_call0_v47) (TRef.of (T := ⟨S16x256x1x64x64, .i32⟩) main_call11_call0_v53) (TRef.of (T := ⟨S16x256x1x64x64, .i32⟩) main_call11_call0_v54) addi,
    TRef.nullary (TRef.of (T := ⟨S_, .i32⟩) main_call11_call0_c_13) (constantI S_ 32 16#32),
    TRef.unary (TRef.of (T := ⟨S_, .i32⟩) main_call11_call0_c_13) (TRef.of (T := ⟨S16x256x1x64x64, .i32⟩) main_call11_call0_v55) (broadcastInDim S16x256x1x64x64 ![] bcast_S_S16x256x1x64x64),
    TRef.binary (TRef.of (T := ⟨S16x256x1x64x64, .i32⟩) main_call11_call0_v53) (TRef.of (T := ⟨S16x256x1x64x64, .i32⟩) main_call11_call0_v55) (TRef.of (T := ⟨S16x256x1x64x64, .i32⟩) main_call11_call0_v56) Host.shli,
    TRef.nullary (TRef.of (T := ⟨S_, .i32⟩) main_call11_call0_c_14) (constantI S_ 32 16#32),
    TRef.unary (TRef.of (T := ⟨S_, .i32⟩) main_call11_call0_c_14) (TRef.of (T := ⟨S16x256x1x64x64, .i32⟩) main_call11_call0_v57) (broadcastInDim S16x256x1x64x64 ![] bcast_S_S16x256x1x64x64),
    TRef.binary (TRef.of (T := ⟨S16x256x1x64x64, .i32⟩) main_call11_call0_v53) (TRef.of (T := ⟨S16x256x1x64x64, .i32⟩) main_call11_call0_v57) (TRef.of (T := ⟨S16x256x1x64x64, .i32⟩) main_call11_call0_v58) Host.shrui,
    TRef.binary (TRef.of (T := ⟨S16x256x1x64x64, .i32⟩) main_call11_call0_v56) (TRef.of (T := ⟨S16x256x1x64x64, .i32⟩) main_call11_call0_v58) (TRef.of (T := ⟨S16x256x1x64x64, .i32⟩) main_call11_call0_v59) ori,
    TRef.binary (TRef.of (T := ⟨S16x256x1x64x64, .i32⟩) main_call11_call0_v54) (TRef.of (T := ⟨S16x256x1x64x64, .i32⟩) main_call11_call0_v59) (TRef.of (T := ⟨S16x256x1x64x64, .i32⟩) main_call11_call0_v60) xori,
    TRef.binary (TRef.of (T := ⟨S16x256x1x64x64, .i32⟩) main_call11_call0_v54) (TRef.of (T := ⟨S16x256x1x64x64, .i32⟩) main_call11_call0_v60) (TRef.of (T := ⟨S16x256x1x64x64, .i32⟩) main_call11_call0_v61) addi,
    TRef.nullary (TRef.of (T := ⟨S_, .i32⟩) main_call11_call0_c_15) (constantI S_ 32 24#32),
    TRef.unary (TRef.of (T := ⟨S_, .i32⟩) main_call11_call0_c_15) (TRef.of (T := ⟨S16x256x1x64x64, .i32⟩) main_call11_call0_v62) (broadcastInDim S16x256x1x64x64 ![] bcast_S_S16x256x1x64x64),
    TRef.binary (TRef.of (T := ⟨S16x256x1x64x64, .i32⟩) main_call11_call0_v60) (TRef.of (T := ⟨S16x256x1x64x64, .i32⟩) main_call11_call0_v62) (TRef.of (T := ⟨S16x256x1x64x64, .i32⟩) main_call11_call0_v63) Host.shli,
    TRef.nullary (TRef.of (T := ⟨S_, .i32⟩) main_call11_call0_c_16) (constantI S_ 32 8#32),
    TRef.unary (TRef.of (T := ⟨S_, .i32⟩) main_call11_call0_c_16) (TRef.of (T := ⟨S16x256x1x64x64, .i32⟩) main_call11_call0_v64) (broadcastInDim S16x256x1x64x64 ![] bcast_S_S16x256x1x64x64),
    TRef.binary (TRef.of (T := ⟨S16x256x1x64x64, .i32⟩) main_call11_call0_v60) (TRef.of (T := ⟨S16x256x1x64x64, .i32⟩) main_call11_call0_v64) (TRef.of (T := ⟨S16x256x1x64x64, .i32⟩) main_call11_call0_v65) Host.shrui,
    TRef.binary (TRef.of (T := ⟨S16x256x1x64x64, .i32⟩) main_call11_call0_v63) (TRef.of (T := ⟨S16x256x1x64x64, .i32⟩) main_call11_call0_v65) (TRef.of (T := ⟨S16x256x1x64x64, .i32⟩) main_call11_call0_v66) ori,
    TRef.binary (TRef.of (T := ⟨S16x256x1x64x64, .i32⟩) main_call11_call0_v61) (TRef.of (T := ⟨S16x256x1x64x64, .i32⟩) main_call11_call0_v66) (TRef.of (T := ⟨S16x256x1x64x64, .i32⟩) main_call11_call0_v67) xori,
    TRef.unary (TRef.of (T := ⟨S_, .i32⟩) main_call11_call0_v1) (TRef.of (T := ⟨S16x256x1x64x64, .i32⟩) main_call11_call0_v68) (broadcastInDim S16x256x1x64x64 ![] bcast_S_S16x256x1x64x64),
    TRef.binary (TRef.of (T := ⟨S16x256x1x64x64, .i32⟩) main_call11_call0_v61) (TRef.of (T := ⟨S16x256x1x64x64, .i32⟩) main_call11_call0_v68) (TRef.of (T := ⟨S16x256x1x64x64, .i32⟩) main_call11_call0_v69) addi,
    TRef.unary (TRef.of (T := ⟨S_, .i32⟩) main_call11_v5) (TRef.of (T := ⟨S16x256x1x64x64, .i32⟩) main_call11_call0_v70) (broadcastInDim S16x256x1x64x64 ![] bcast_S_S16x256x1x64x64),
    TRef.binary (TRef.of (T := ⟨S16x256x1x64x64, .i32⟩) main_call11_call0_v67) (TRef.of (T := ⟨S16x256x1x64x64, .i32⟩) main_call11_call0_v70) (TRef.of (T := ⟨S16x256x1x64x64, .i32⟩) main_call11_call0_v71) addi,
    TRef.nullary (TRef.of (T := ⟨S_, .i32⟩) main_call11_call0_c_17) (constantI S_ 32 2#32),
    TRef.unary (TRef.of (T := ⟨S_, .i32⟩) main_call11_call0_c_17) (TRef.of (T := ⟨S16x256x1x64x64, .i32⟩) main_call11_call0_v72) (broadcastInDim S16x256x1x64x64 ![] bcast_S_S16x256x1x64x64),
    TRef.binary (TRef.of (T := ⟨S16x256x1x64x64, .i32⟩) main_call11_call0_v71) (TRef.of (T := ⟨S16x256x1x64x64, .i32⟩) main_call11_call0_v72) (TRef.of (T := ⟨S16x256x1x64x64, .i32⟩) main_call11_call0_v73) addi ]

/-- The stage's operations use the program's buffers. -/
theorem opsMix1_sub : (opsMix1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- The stage's operations take no new buffer. -/
theorem opsMix1_fresh : (opsMix1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Four rounds, then the key words. -/
abbrev opsMix2 : List (HloOp τ sig (Elt F)) :=
  [ TRef.binary (TRef.of (T := ⟨S16x256x1x64x64, .i32⟩) main_call11_call0_v69) (TRef.of (T := ⟨S16x256x1x64x64, .i32⟩) main_call11_call0_v73) (TRef.of (T := ⟨S16x256x1x64x64, .i32⟩) main_call11_call0_v74) addi,
    TRef.nullary (TRef.of (T := ⟨S_, .i32⟩) main_call11_call0_c_18) (constantI S_ 32 13#32),
    TRef.unary (TRef.of (T := ⟨S_, .i32⟩) main_call11_call0_c_18) (TRef.of (T := ⟨S16x256x1x64x64, .i32⟩) main_call11_call0_v75) (broadcastInDim S16x256x1x64x64 ![] bcast_S_S16x256x1x64x64),
    TRef.binary (TRef.of (T := ⟨S16x256x1x64x64, .i32⟩) main_call11_call0_v73) (TRef.of (T := ⟨S16x256x1x64x64, .i32⟩) main_call11_call0_v75) (TRef.of (T := ⟨S16x256x1x64x64, .i32⟩) main_call11_call0_v76) Host.shli,
    TRef.nullary (TRef.of (T := ⟨S_, .i32⟩) main_call11_call0_c_19) (constantI S_ 32 19#32),
    TRef.unary (TRef.of (T := ⟨S_, .i32⟩) main_call11_call0_c_19) (TRef.of (T := ⟨S16x256x1x64x64, .i32⟩) main_call11_call0_v77) (broadcastInDim S16x256x1x64x64 ![] bcast_S_S16x256x1x64x64),
    TRef.binary (TRef.of (T := ⟨S16x256x1x64x64, .i32⟩) main_call11_call0_v73) (TRef.of (T := ⟨S16x256x1x64x64, .i32⟩) main_call11_call0_v77) (TRef.of (T := ⟨S16x256x1x64x64, .i32⟩) main_call11_call0_v78) Host.shrui,
    TRef.binary (TRef.of (T := ⟨S16x256x1x64x64, .i32⟩) main_call11_call0_v76) (TRef.of (T := ⟨S16x256x1x64x64, .i32⟩) main_call11_call0_v78) (TRef.of (T := ⟨S16x256x1x64x64, .i32⟩) main_call11_call0_v79) ori,
    TRef.binary (TRef.of (T := ⟨S16x256x1x64x64, .i32⟩) main_call11_call0_v74) (TRef.of (T := ⟨S16x256x1x64x64, .i32⟩) main_call11_call0_v79) (TRef.of (T := ⟨S16x256x1x64x64, .i32⟩) main_call11_call0_v80) xori,
    TRef.binary (TRef.of (T := ⟨S16x256x1x64x64, .i32⟩) main_call11_call0_v74) (TRef.of (T := ⟨S16x256x1x64x64, .i32⟩) main_call11_call0_v80) (TRef.of (T := ⟨S16x256x1x64x64, .i32⟩) main_call11_call0_v81) addi,
    TRef.nullary (TRef.of (T := ⟨S_, .i32⟩) main_call11_call0_c_20) (constantI S_ 32 15#32),
    TRef.unary (TRef.of (T := ⟨S_, .i32⟩) main_call11_call0_c_20) (TRef.of (T := ⟨S16x256x1x64x64, .i32⟩) main_call11_call0_v82) (broadcastInDim S16x256x1x64x64 ![] bcast_S_S16x256x1x64x64),
    TRef.binary (TRef.of (T := ⟨S16x256x1x64x64, .i32⟩) main_call11_call0_v80) (TRef.of (T := ⟨S16x256x1x64x64, .i32⟩) main_call11_call0_v82) (TRef.of (T := ⟨S16x256x1x64x64, .i32⟩) main_call11_call0_v83) Host.shli,
    TRef.nullary (TRef.of (T := ⟨S_, .i32⟩) main_call11_call0_c_21) (constantI S_ 32 17#32),
    TRef.unary (TRef.of (T := ⟨S_, .i32⟩) main_call11_call0_c_21) (TRef.of (T := ⟨S16x256x1x64x64, .i32⟩) main_call11_call0_v84) (broadcastInDim S16x256x1x64x64 ![] bcast_S_S16x256x1x64x64),
    TRef.binary (TRef.of (T := ⟨S16x256x1x64x64, .i32⟩) main_call11_call0_v80) (TRef.of (T := ⟨S16x256x1x64x64, .i32⟩) main_call11_call0_v84) (TRef.of (T := ⟨S16x256x1x64x64, .i32⟩) main_call11_call0_v85) Host.shrui,
    TRef.binary (TRef.of (T := ⟨S16x256x1x64x64, .i32⟩) main_call11_call0_v83) (TRef.of (T := ⟨S16x256x1x64x64, .i32⟩) main_call11_call0_v85) (TRef.of (T := ⟨S16x256x1x64x64, .i32⟩) main_call11_call0_v86) ori,
    TRef.binary (TRef.of (T := ⟨S16x256x1x64x64, .i32⟩) main_call11_call0_v81) (TRef.of (T := ⟨S16x256x1x64x64, .i32⟩) main_call11_call0_v86) (TRef.of (T := ⟨S16x256x1x64x64, .i32⟩) main_call11_call0_v87) xori,
    TRef.binary (TRef.of (T := ⟨S16x256x1x64x64, .i32⟩) main_call11_call0_v81) (TRef.of (T := ⟨S16x256x1x64x64, .i32⟩) main_call11_call0_v87) (TRef.of (T := ⟨S16x256x1x64x64, .i32⟩) main_call11_call0_v88) addi,
    TRef.nullary (TRef.of (T := ⟨S_, .i32⟩) main_call11_call0_c_22) (constantI S_ 32 26#32),
    TRef.unary (TRef.of (T := ⟨S_, .i32⟩) main_call11_call0_c_22) (TRef.of (T := ⟨S16x256x1x64x64, .i32⟩) main_call11_call0_v89) (broadcastInDim S16x256x1x64x64 ![] bcast_S_S16x256x1x64x64),
    TRef.binary (TRef.of (T := ⟨S16x256x1x64x64, .i32⟩) main_call11_call0_v87) (TRef.of (T := ⟨S16x256x1x64x64, .i32⟩) main_call11_call0_v89) (TRef.of (T := ⟨S16x256x1x64x64, .i32⟩) main_call11_call0_v90) Host.shli,
    TRef.nullary (TRef.of (T := ⟨S_, .i32⟩) main_call11_call0_c_23) (constantI S_ 32 6#32),
    TRef.unary (TRef.of (T := ⟨S_, .i32⟩) main_call11_call0_c_23) (TRef.of (T := ⟨S16x256x1x64x64, .i32⟩) main_call11_call0_v91) (broadcastInDim S16x256x1x64x64 ![] bcast_S_S16x256x1x64x64),
    TRef.binary (TRef.of (T := ⟨S16x256x1x64x64, .i32⟩) main_call11_call0_v87) (TRef.of (T := ⟨S16x256x1x64x64, .i32⟩) main_call11_call0_v91) (TRef.of (T := ⟨S16x256x1x64x64, .i32⟩) main_call11_call0_v92) Host.shrui,
    TRef.binary (TRef.of (T := ⟨S16x256x1x64x64, .i32⟩) main_call11_call0_v90) (TRef.of (T := ⟨S16x256x1x64x64, .i32⟩) main_call11_call0_v92) (TRef.of (T := ⟨S16x256x1x64x64, .i32⟩) main_call11_call0_v93) ori,
    TRef.binary (TRef.of (T := ⟨S16x256x1x64x64, .i32⟩) main_call11_call0_v88) (TRef.of (T := ⟨S16x256x1x64x64, .i32⟩) main_call11_call0_v93) (TRef.of (T := ⟨S16x256x1x64x64, .i32⟩) main_call11_call0_v94) xori,
    TRef.binary (TRef.of (T := ⟨S16x256x1x64x64, .i32⟩) main_call11_call0_v88) (TRef.of (T := ⟨S16x256x1x64x64, .i32⟩) main_call11_call0_v94) (TRef.of (T := ⟨S16x256x1x64x64, .i32⟩) main_call11_call0_v95) addi,
    TRef.nullary (TRef.of (T := ⟨S_, .i32⟩) main_call11_call0_c_24) (constantI S_ 32 6#32),
    TRef.unary (TRef.of (T := ⟨S_, .i32⟩) main_call11_call0_c_24) (TRef.of (T := ⟨S16x256x1x64x64, .i32⟩) main_call11_call0_v96) (broadcastInDim S16x256x1x64x64 ![] bcast_S_S16x256x1x64x64),
    TRef.binary (TRef.of (T := ⟨S16x256x1x64x64, .i32⟩) main_call11_call0_v94) (TRef.of (T := ⟨S16x256x1x64x64, .i32⟩) main_call11_call0_v96) (TRef.of (T := ⟨S16x256x1x64x64, .i32⟩) main_call11_call0_v97) Host.shli,
    TRef.nullary (TRef.of (T := ⟨S_, .i32⟩) main_call11_call0_c_25) (constantI S_ 32 26#32),
    TRef.unary (TRef.of (T := ⟨S_, .i32⟩) main_call11_call0_c_25) (TRef.of (T := ⟨S16x256x1x64x64, .i32⟩) main_call11_call0_v98) (broadcastInDim S16x256x1x64x64 ![] bcast_S_S16x256x1x64x64),
    TRef.binary (TRef.of (T := ⟨S16x256x1x64x64, .i32⟩) main_call11_call0_v94) (TRef.of (T := ⟨S16x256x1x64x64, .i32⟩) main_call11_call0_v98) (TRef.of (T := ⟨S16x256x1x64x64, .i32⟩) main_call11_call0_v99) Host.shrui,
    TRef.binary (TRef.of (T := ⟨S16x256x1x64x64, .i32⟩) main_call11_call0_v97) (TRef.of (T := ⟨S16x256x1x64x64, .i32⟩) main_call11_call0_v99) (TRef.of (T := ⟨S16x256x1x64x64, .i32⟩) main_call11_call0_v100) ori,
    TRef.binary (TRef.of (T := ⟨S16x256x1x64x64, .i32⟩) main_call11_call0_v95) (TRef.of (T := ⟨S16x256x1x64x64, .i32⟩) main_call11_call0_v100) (TRef.of (T := ⟨S16x256x1x64x64, .i32⟩) main_call11_call0_v101) xori,
    TRef.unary (TRef.of (T := ⟨S_, .i32⟩) main_call11_v5) (TRef.of (T := ⟨S16x256x1x64x64, .i32⟩) main_call11_call0_v102) (broadcastInDim S16x256x1x64x64 ![] bcast_S_S16x256x1x64x64),
    TRef.binary (TRef.of (T := ⟨S16x256x1x64x64, .i32⟩) main_call11_call0_v95) (TRef.of (T := ⟨S16x256x1x64x64, .i32⟩) main_call11_call0_v102) (TRef.of (T := ⟨S16x256x1x64x64, .i32⟩) main_call11_call0_v103) addi,
    TRef.unary (TRef.of (T := ⟨S_, .i32⟩) main_call11_v7) (TRef.of (T := ⟨S16x256x1x64x64, .i32⟩) main_call11_call0_v104) (broadcastInDim S16x256x1x64x64 ![] bcast_S_S16x256x1x64x64),
    TRef.binary (TRef.of (T := ⟨S16x256x1x64x64, .i32⟩) main_call11_call0_v101) (TRef.of (T := ⟨S16x256x1x64x64, .i32⟩) main_call11_call0_v104) (TRef.of (T := ⟨S16x256x1x64x64, .i32⟩) main_call11_call0_v105) addi,
    TRef.nullary (TRef.of (T := ⟨S_, .i32⟩) main_call11_call0_c_26) (constantI S_ 32 3#32),
    TRef.unary (TRef.of (T := ⟨S_, .i32⟩) main_call11_call0_c_26) (TRef.of (T := ⟨S16x256x1x64x64, .i32⟩) main_call11_call0_v106) (broadcastInDim S16x256x1x64x64 ![] bcast_S_S16x256x1x64x64),
    TRef.binary (TRef.of (T := ⟨S16x256x1x64x64, .i32⟩) main_call11_call0_v105) (TRef.of (T := ⟨S16x256x1x64x64, .i32⟩) main_call11_call0_v106) (TRef.of (T := ⟨S16x256x1x64x64, .i32⟩) main_call11_call0_v107) addi ]

/-- The stage's operations use the program's buffers. -/
theorem opsMix2_sub : (opsMix2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- The stage's operations take no new buffer. -/
theorem opsMix2_fresh : (opsMix2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Four rounds, then the key words. -/
abbrev opsMix3 : List (HloOp τ sig (Elt F)) :=
  [ TRef.binary (TRef.of (T := ⟨S16x256x1x64x64, .i32⟩) main_call11_call0_v103) (TRef.of (T := ⟨S16x256x1x64x64, .i32⟩) main_call11_call0_v107) (TRef.of (T := ⟨S16x256x1x64x64, .i32⟩) main_call11_call0_v108) addi,
    TRef.nullary (TRef.of (T := ⟨S_, .i32⟩) main_call11_call0_c_27) (constantI S_ 32 17#32),
    TRef.unary (TRef.of (T := ⟨S_, .i32⟩) main_call11_call0_c_27) (TRef.of (T := ⟨S16x256x1x64x64, .i32⟩) main_call11_call0_v109) (broadcastInDim S16x256x1x64x64 ![] bcast_S_S16x256x1x64x64),
    TRef.binary (TRef.of (T := ⟨S16x256x1x64x64, .i32⟩) main_call11_call0_v107) (TRef.of (T := ⟨S16x256x1x64x64, .i32⟩) main_call11_call0_v109) (TRef.of (T := ⟨S16x256x1x64x64, .i32⟩) main_call11_call0_v110) Host.shli,
    TRef.nullary (TRef.of (T := ⟨S_, .i32⟩) main_call11_call0_c_28) (constantI S_ 32 15#32),
    TRef.unary (TRef.of (T := ⟨S_, .i32⟩) main_call11_call0_c_28) (TRef.of (T := ⟨S16x256x1x64x64, .i32⟩) main_call11_call0_v111) (broadcastInDim S16x256x1x64x64 ![] bcast_S_S16x256x1x64x64),
    TRef.binary (TRef.of (T := ⟨S16x256x1x64x64, .i32⟩) main_call11_call0_v107) (TRef.of (T := ⟨S16x256x1x64x64, .i32⟩) main_call11_call0_v111) (TRef.of (T := ⟨S16x256x1x64x64, .i32⟩) main_call11_call0_v112) Host.shrui,
    TRef.binary (TRef.of (T := ⟨S16x256x1x64x64, .i32⟩) main_call11_call0_v110) (TRef.of (T := ⟨S16x256x1x64x64, .i32⟩) main_call11_call0_v112) (TRef.of (T := ⟨S16x256x1x64x64, .i32⟩) main_call11_call0_v113) ori,
    TRef.binary (TRef.of (T := ⟨S16x256x1x64x64, .i32⟩) main_call11_call0_v108) (TRef.of (T := ⟨S16x256x1x64x64, .i32⟩) main_call11_call0_v113) (TRef.of (T := ⟨S16x256x1x64x64, .i32⟩) main_call11_call0_v114) xori,
    TRef.binary (TRef.of (T := ⟨S16x256x1x64x64, .i32⟩) main_call11_call0_v108) (TRef.of (T := ⟨S16x256x1x64x64, .i32⟩) main_call11_call0_v114) (TRef.of (T := ⟨S16x256x1x64x64, .i32⟩) main_call11_call0_v115) addi,
    TRef.nullary (TRef.of (T := ⟨S_, .i32⟩) main_call11_call0_c_29) (constantI S_ 32 29#32),
    TRef.unary (TRef.of (T := ⟨S_, .i32⟩) main_call11_call0_c_29) (TRef.of (T := ⟨S16x256x1x64x64, .i32⟩) main_call11_call0_v116) (broadcastInDim S16x256x1x64x64 ![] bcast_S_S16x256x1x64x64),
    TRef.binary (TRef.of (T := ⟨S16x256x1x64x64, .i32⟩) main_call11_call0_v114) (TRef.of (T := ⟨S16x256x1x64x64, .i32⟩) main_call11_call0_v116) (TRef.of (T := ⟨S16x256x1x64x64, .i32⟩) main_call11_call0_v117) Host.shli,
    TRef.nullary (TRef.of (T := ⟨S_, .i32⟩) main_call11_call0_c_30) (constantI S_ 32 3#32),
    TRef.unary (TRef.of (T := ⟨S_, .i32⟩) main_call11_call0_c_30) (TRef.of (T := ⟨S16x256x1x64x64, .i32⟩) main_call11_call0_v118) (broadcastInDim S16x256x1x64x64 ![] bcast_S_S16x256x1x64x64),
    TRef.binary (TRef.of (T := ⟨S16x256x1x64x64, .i32⟩) main_call11_call0_v114) (TRef.of (T := ⟨S16x256x1x64x64, .i32⟩) main_call11_call0_v118) (TRef.of (T := ⟨S16x256x1x64x64, .i32⟩) main_call11_call0_v119) Host.shrui,
    TRef.binary (TRef.of (T := ⟨S16x256x1x64x64, .i32⟩) main_call11_call0_v117) (TRef.of (T := ⟨S16x256x1x64x64, .i32⟩) main_call11_call0_v119) (TRef.of (T := ⟨S16x256x1x64x64, .i32⟩) main_call11_call0_v120) ori,
    TRef.binary (TRef.of (T := ⟨S16x256x1x64x64, .i32⟩) main_call11_call0_v115) (TRef.of (T := ⟨S16x256x1x64x64, .i32⟩) main_call11_call0_v120) (TRef.of (T := ⟨S16x256x1x64x64, .i32⟩) main_call11_call0_v121) xori,
    TRef.binary (TRef.of (T := ⟨S16x256x1x64x64, .i32⟩) main_call11_call0_v115) (TRef.of (T := ⟨S16x256x1x64x64, .i32⟩) main_call11_call0_v121) (TRef.of (T := ⟨S16x256x1x64x64, .i32⟩) main_call11_call0_v122) addi,
    TRef.nullary (TRef.of (T := ⟨S_, .i32⟩) main_call11_call0_c_31) (constantI S_ 32 16#32),
    TRef.unary (TRef.of (T := ⟨S_, .i32⟩) main_call11_call0_c_31) (TRef.of (T := ⟨S16x256x1x64x64, .i32⟩) main_call11_call0_v123) (broadcastInDim S16x256x1x64x64 ![] bcast_S_S16x256x1x64x64),
    TRef.binary (TRef.of (T := ⟨S16x256x1x64x64, .i32⟩) main_call11_call0_v121) (TRef.of (T := ⟨S16x256x1x64x64, .i32⟩) main_call11_call0_v123) (TRef.of (T := ⟨S16x256x1x64x64, .i32⟩) main_call11_call0_v124) Host.shli,
    TRef.nullary (TRef.of (T := ⟨S_, .i32⟩) main_call11_call0_c_32) (constantI S_ 32 16#32),
    TRef.unary (TRef.of (T := ⟨S_, .i32⟩) main_call11_call0_c_32) (TRef.of (T := ⟨S16x256x1x64x64, .i32⟩) main_call11_call0_v125) (broadcastInDim S16x256x1x64x64 ![] bcast_S_S16x256x1x64x64),
    TRef.binary (TRef.of (T := ⟨S16x256x1x64x64, .i32⟩) main_call11_call0_v121) (TRef.of (T := ⟨S16x256x1x64x64, .i32⟩) main_call11_call0_v125) (TRef.of (T := ⟨S16x256x1x64x64, .i32⟩) main_call11_call0_v126) Host.shrui,
    TRef.binary (TRef.of (T := ⟨S16x256x1x64x64, .i32⟩) main_call11_call0_v124) (TRef.of (T := ⟨S16x256x1x64x64, .i32⟩) main_call11_call0_v126) (TRef.of (T := ⟨S16x256x1x64x64, .i32⟩) main_call11_call0_v127) ori,
    TRef.binary (TRef.of (T := ⟨S16x256x1x64x64, .i32⟩) main_call11_call0_v122) (TRef.of (T := ⟨S16x256x1x64x64, .i32⟩) main_call11_call0_v127) (TRef.of (T := ⟨S16x256x1x64x64, .i32⟩) main_call11_call0_v128) xori,
    TRef.binary (TRef.of (T := ⟨S16x256x1x64x64, .i32⟩) main_call11_call0_v122) (TRef.of (T := ⟨S16x256x1x64x64, .i32⟩) main_call11_call0_v128) (TRef.of (T := ⟨S16x256x1x64x64, .i32⟩) main_call11_call0_v129) addi,
    TRef.nullary (TRef.of (T := ⟨S_, .i32⟩) main_call11_call0_c_33) (constantI S_ 32 24#32),
    TRef.unary (TRef.of (T := ⟨S_, .i32⟩) main_call11_call0_c_33) (TRef.of (T := ⟨S16x256x1x64x64, .i32⟩) main_call11_call0_v130) (broadcastInDim S16x256x1x64x64 ![] bcast_S_S16x256x1x64x64),
    TRef.binary (TRef.of (T := ⟨S16x256x1x64x64, .i32⟩) main_call11_call0_v128) (TRef.of (T := ⟨S16x256x1x64x64, .i32⟩) main_call11_call0_v130) (TRef.of (T := ⟨S16x256x1x64x64, .i32⟩) main_call11_call0_v131) Host.shli,
    TRef.nullary (TRef.of (T := ⟨S_, .i32⟩) main_call11_call0_c_34) (constantI S_ 32 8#32),
    TRef.unary (TRef.of (T := ⟨S_, .i32⟩) main_call11_call0_c_34) (TRef.of (T := ⟨S16x256x1x64x64, .i32⟩) main_call11_call0_v132) (broadcastInDim S16x256x1x64x64 ![] bcast_S_S16x256x1x64x64),
    TRef.binary (TRef.of (T := ⟨S16x256x1x64x64, .i32⟩) main_call11_call0_v128) (TRef.of (T := ⟨S16x256x1x64x64, .i32⟩) main_call11_call0_v132) (TRef.of (T := ⟨S16x256x1x64x64, .i32⟩) main_call11_call0_v133) Host.shrui,
    TRef.binary (TRef.of (T := ⟨S16x256x1x64x64, .i32⟩) main_call11_call0_v131) (TRef.of (T := ⟨S16x256x1x64x64, .i32⟩) main_call11_call0_v133) (TRef.of (T := ⟨S16x256x1x64x64, .i32⟩) main_call11_call0_v134) ori,
    TRef.binary (TRef.of (T := ⟨S16x256x1x64x64, .i32⟩) main_call11_call0_v129) (TRef.of (T := ⟨S16x256x1x64x64, .i32⟩) main_call11_call0_v134) (TRef.of (T := ⟨S16x256x1x64x64, .i32⟩) main_call11_call0_v135) xori,
    TRef.unary (TRef.of (T := ⟨S_, .i32⟩) main_call11_v7) (TRef.of (T := ⟨S16x256x1x64x64, .i32⟩) main_call11_call0_v136) (broadcastInDim S16x256x1x64x64 ![] bcast_S_S16x256x1x64x64),
    TRef.binary (TRef.of (T := ⟨S16x256x1x64x64, .i32⟩) main_call11_call0_v129) (TRef.of (T := ⟨S16x256x1x64x64, .i32⟩) main_call11_call0_v136) (TRef.of (T := ⟨S16x256x1x64x64, .i32⟩) main_call11_call0_v137) addi,
    TRef.unary (TRef.of (T := ⟨S_, .i32⟩) main_call11_call0_v1) (TRef.of (T := ⟨S16x256x1x64x64, .i32⟩) main_call11_call0_v138) (broadcastInDim S16x256x1x64x64 ![] bcast_S_S16x256x1x64x64),
    TRef.binary (TRef.of (T := ⟨S16x256x1x64x64, .i32⟩) main_call11_call0_v135) (TRef.of (T := ⟨S16x256x1x64x64, .i32⟩) main_call11_call0_v138) (TRef.of (T := ⟨S16x256x1x64x64, .i32⟩) main_call11_call0_v139) addi,
    TRef.nullary (TRef.of (T := ⟨S_, .i32⟩) main_call11_call0_c_35) (constantI S_ 32 4#32),
    TRef.unary (TRef.of (T := ⟨S_, .i32⟩) main_call11_call0_c_35) (TRef.of (T := ⟨S16x256x1x64x64, .i32⟩) main_call11_call0_v140) (broadcastInDim S16x256x1x64x64 ![] bcast_S_S16x256x1x64x64),
    TRef.binary (TRef.of (T := ⟨S16x256x1x64x64, .i32⟩) main_call11_call0_v139) (TRef.of (T := ⟨S16x256x1x64x64, .i32⟩) main_call11_call0_v140) (TRef.of (T := ⟨S16x256x1x64x64, .i32⟩) main_call11_call0_v141) addi ]

/-- The stage's operations use the program's buffers. -/
theorem opsMix3_sub : (opsMix3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- The stage's operations take no new buffer. -/
theorem opsMix3_fresh : (opsMix3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Four rounds, then the key words. -/
abbrev opsMix4 : List (HloOp τ sig (Elt F)) :=
  [ TRef.binary (TRef.of (T := ⟨S16x256x1x64x64, .i32⟩) main_call11_call0_v137) (TRef.of (T := ⟨S16x256x1x64x64, .i32⟩) main_call11_call0_v141) (TRef.of (T := ⟨S16x256x1x64x64, .i32⟩) main_call11_call0_v142) addi,
    TRef.nullary (TRef.of (T := ⟨S_, .i32⟩) main_call11_call0_c_36) (constantI S_ 32 13#32),
    TRef.unary (TRef.of (T := ⟨S_, .i32⟩) main_call11_call0_c_36) (TRef.of (T := ⟨S16x256x1x64x64, .i32⟩) main_call11_call0_v143) (broadcastInDim S16x256x1x64x64 ![] bcast_S_S16x256x1x64x64),
    TRef.binary (TRef.of (T := ⟨S16x256x1x64x64, .i32⟩) main_call11_call0_v141) (TRef.of (T := ⟨S16x256x1x64x64, .i32⟩) main_call11_call0_v143) (TRef.of (T := ⟨S16x256x1x64x64, .i32⟩) main_call11_call0_v144) Host.shli,
    TRef.nullary (TRef.of (T := ⟨S_, .i32⟩) main_call11_call0_c_37) (constantI S_ 32 19#32),
    TRef.unary (TRef.of (T := ⟨S_, .i32⟩) main_call11_call0_c_37) (TRef.of (T := ⟨S16x256x1x64x64, .i32⟩) main_call11_call0_v145) (broadcastInDim S16x256x1x64x64 ![] bcast_S_S16x256x1x64x64),
    TRef.binary (TRef.of (T := ⟨S16x256x1x64x64, .i32⟩) main_call11_call0_v141) (TRef.of (T := ⟨S16x256x1x64x64, .i32⟩) main_call11_call0_v145) (TRef.of (T := ⟨S16x256x1x64x64, .i32⟩) main_call11_call0_v146) Host.shrui,
    TRef.binary (TRef.of (T := ⟨S16x256x1x64x64, .i32⟩) main_call11_call0_v144) (TRef.of (T := ⟨S16x256x1x64x64, .i32⟩) main_call11_call0_v146) (TRef.of (T := ⟨S16x256x1x64x64, .i32⟩) main_call11_call0_v147) ori,
    TRef.binary (TRef.of (T := ⟨S16x256x1x64x64, .i32⟩) main_call11_call0_v142) (TRef.of (T := ⟨S16x256x1x64x64, .i32⟩) main_call11_call0_v147) (TRef.of (T := ⟨S16x256x1x64x64, .i32⟩) main_call11_call0_v148) xori,
    TRef.binary (TRef.of (T := ⟨S16x256x1x64x64, .i32⟩) main_call11_call0_v142) (TRef.of (T := ⟨S16x256x1x64x64, .i32⟩) main_call11_call0_v148) (TRef.of (T := ⟨S16x256x1x64x64, .i32⟩) main_call11_call0_v149) addi,
    TRef.nullary (TRef.of (T := ⟨S_, .i32⟩) main_call11_call0_c_38) (constantI S_ 32 15#32),
    TRef.unary (TRef.of (T := ⟨S_, .i32⟩) main_call11_call0_c_38) (TRef.of (T := ⟨S16x256x1x64x64, .i32⟩) main_call11_call0_v150) (broadcastInDim S16x256x1x64x64 ![] bcast_S_S16x256x1x64x64),
    TRef.binary (TRef.of (T := ⟨S16x256x1x64x64, .i32⟩) main_call11_call0_v148) (TRef.of (T := ⟨S16x256x1x64x64, .i32⟩) main_call11_call0_v150) (TRef.of (T := ⟨S16x256x1x64x64, .i32⟩) main_call11_call0_v151) Host.shli,
    TRef.nullary (TRef.of (T := ⟨S_, .i32⟩) main_call11_call0_c_39) (constantI S_ 32 17#32),
    TRef.unary (TRef.of (T := ⟨S_, .i32⟩) main_call11_call0_c_39) (TRef.of (T := ⟨S16x256x1x64x64, .i32⟩) main_call11_call0_v152) (broadcastInDim S16x256x1x64x64 ![] bcast_S_S16x256x1x64x64),
    TRef.binary (TRef.of (T := ⟨S16x256x1x64x64, .i32⟩) main_call11_call0_v148) (TRef.of (T := ⟨S16x256x1x64x64, .i32⟩) main_call11_call0_v152) (TRef.of (T := ⟨S16x256x1x64x64, .i32⟩) main_call11_call0_v153) Host.shrui,
    TRef.binary (TRef.of (T := ⟨S16x256x1x64x64, .i32⟩) main_call11_call0_v151) (TRef.of (T := ⟨S16x256x1x64x64, .i32⟩) main_call11_call0_v153) (TRef.of (T := ⟨S16x256x1x64x64, .i32⟩) main_call11_call0_v154) ori,
    TRef.binary (TRef.of (T := ⟨S16x256x1x64x64, .i32⟩) main_call11_call0_v149) (TRef.of (T := ⟨S16x256x1x64x64, .i32⟩) main_call11_call0_v154) (TRef.of (T := ⟨S16x256x1x64x64, .i32⟩) main_call11_call0_v155) xori,
    TRef.binary (TRef.of (T := ⟨S16x256x1x64x64, .i32⟩) main_call11_call0_v149) (TRef.of (T := ⟨S16x256x1x64x64, .i32⟩) main_call11_call0_v155) (TRef.of (T := ⟨S16x256x1x64x64, .i32⟩) main_call11_call0_v156) addi,
    TRef.nullary (TRef.of (T := ⟨S_, .i32⟩) main_call11_call0_c_40) (constantI S_ 32 26#32),
    TRef.unary (TRef.of (T := ⟨S_, .i32⟩) main_call11_call0_c_40) (TRef.of (T := ⟨S16x256x1x64x64, .i32⟩) main_call11_call0_v157) (broadcastInDim S16x256x1x64x64 ![] bcast_S_S16x256x1x64x64),
    TRef.binary (TRef.of (T := ⟨S16x256x1x64x64, .i32⟩) main_call11_call0_v155) (TRef.of (T := ⟨S16x256x1x64x64, .i32⟩) main_call11_call0_v157) (TRef.of (T := ⟨S16x256x1x64x64, .i32⟩) main_call11_call0_v158) Host.shli,
    TRef.nullary (TRef.of (T := ⟨S_, .i32⟩) main_call11_call0_c_41) (constantI S_ 32 6#32),
    TRef.unary (TRef.of (T := ⟨S_, .i32⟩) main_call11_call0_c_41) (TRef.of (T := ⟨S16x256x1x64x64, .i32⟩) main_call11_call0_v159) (broadcastInDim S16x256x1x64x64 ![] bcast_S_S16x256x1x64x64),
    TRef.binary (TRef.of (T := ⟨S16x256x1x64x64, .i32⟩) main_call11_call0_v155) (TRef.of (T := ⟨S16x256x1x64x64, .i32⟩) main_call11_call0_v159) (TRef.of (T := ⟨S16x256x1x64x64, .i32⟩) main_call11_call0_v160) Host.shrui,
    TRef.binary (TRef.of (T := ⟨S16x256x1x64x64, .i32⟩) main_call11_call0_v158) (TRef.of (T := ⟨S16x256x1x64x64, .i32⟩) main_call11_call0_v160) (TRef.of (T := ⟨S16x256x1x64x64, .i32⟩) main_call11_call0_v161) ori,
    TRef.binary (TRef.of (T := ⟨S16x256x1x64x64, .i32⟩) main_call11_call0_v156) (TRef.of (T := ⟨S16x256x1x64x64, .i32⟩) main_call11_call0_v161) (TRef.of (T := ⟨S16x256x1x64x64, .i32⟩) main_call11_call0_v162) xori,
    TRef.binary (TRef.of (T := ⟨S16x256x1x64x64, .i32⟩) main_call11_call0_v156) (TRef.of (T := ⟨S16x256x1x64x64, .i32⟩) main_call11_call0_v162) (TRef.of (T := ⟨S16x256x1x64x64, .i32⟩) main_call11_call0_v163) addi,
    TRef.nullary (TRef.of (T := ⟨S_, .i32⟩) main_call11_call0_c_42) (constantI S_ 32 6#32),
    TRef.unary (TRef.of (T := ⟨S_, .i32⟩) main_call11_call0_c_42) (TRef.of (T := ⟨S16x256x1x64x64, .i32⟩) main_call11_call0_v164) (broadcastInDim S16x256x1x64x64 ![] bcast_S_S16x256x1x64x64),
    TRef.binary (TRef.of (T := ⟨S16x256x1x64x64, .i32⟩) main_call11_call0_v162) (TRef.of (T := ⟨S16x256x1x64x64, .i32⟩) main_call11_call0_v164) (TRef.of (T := ⟨S16x256x1x64x64, .i32⟩) main_call11_call0_v165) Host.shli,
    TRef.nullary (TRef.of (T := ⟨S_, .i32⟩) main_call11_call0_c_43) (constantI S_ 32 26#32),
    TRef.unary (TRef.of (T := ⟨S_, .i32⟩) main_call11_call0_c_43) (TRef.of (T := ⟨S16x256x1x64x64, .i32⟩) main_call11_call0_v166) (broadcastInDim S16x256x1x64x64 ![] bcast_S_S16x256x1x64x64),
    TRef.binary (TRef.of (T := ⟨S16x256x1x64x64, .i32⟩) main_call11_call0_v162) (TRef.of (T := ⟨S16x256x1x64x64, .i32⟩) main_call11_call0_v166) (TRef.of (T := ⟨S16x256x1x64x64, .i32⟩) main_call11_call0_v167) Host.shrui,
    TRef.binary (TRef.of (T := ⟨S16x256x1x64x64, .i32⟩) main_call11_call0_v165) (TRef.of (T := ⟨S16x256x1x64x64, .i32⟩) main_call11_call0_v167) (TRef.of (T := ⟨S16x256x1x64x64, .i32⟩) main_call11_call0_v168) ori,
    TRef.binary (TRef.of (T := ⟨S16x256x1x64x64, .i32⟩) main_call11_call0_v163) (TRef.of (T := ⟨S16x256x1x64x64, .i32⟩) main_call11_call0_v168) (TRef.of (T := ⟨S16x256x1x64x64, .i32⟩) main_call11_call0_v169) xori,
    TRef.unary (TRef.of (T := ⟨S_, .i32⟩) main_call11_call0_v1) (TRef.of (T := ⟨S16x256x1x64x64, .i32⟩) main_call11_call0_v170) (broadcastInDim S16x256x1x64x64 ![] bcast_S_S16x256x1x64x64),
    TRef.binary (TRef.of (T := ⟨S16x256x1x64x64, .i32⟩) main_call11_call0_v163) (TRef.of (T := ⟨S16x256x1x64x64, .i32⟩) main_call11_call0_v170) (TRef.of (T := ⟨S16x256x1x64x64, .i32⟩) main_call11_v31_0) addi,
    TRef.unary (TRef.of (T := ⟨S_, .i32⟩) main_call11_v5) (TRef.of (T := ⟨S16x256x1x64x64, .i32⟩) main_call11_call0_v172) (broadcastInDim S16x256x1x64x64 ![] bcast_S_S16x256x1x64x64),
    TRef.binary (TRef.of (T := ⟨S16x256x1x64x64, .i32⟩) main_call11_call0_v169) (TRef.of (T := ⟨S16x256x1x64x64, .i32⟩) main_call11_call0_v172) (TRef.of (T := ⟨S16x256x1x64x64, .i32⟩) main_call11_call0_v173) addi,
    TRef.nullary (TRef.of (T := ⟨S_, .i32⟩) main_call11_call0_c_44) (constantI S_ 32 5#32),
    TRef.unary (TRef.of (T := ⟨S_, .i32⟩) main_call11_call0_c_44) (TRef.of (T := ⟨S16x256x1x64x64, .i32⟩) main_call11_call0_v174) (broadcastInDim S16x256x1x64x64 ![] bcast_S_S16x256x1x64x64),
    TRef.binary (TRef.of (T := ⟨S16x256x1x64x64, .i32⟩) main_call11_call0_v173) (TRef.of (T := ⟨S16x256x1x64x64, .i32⟩) main_call11_call0_v174) (TRef.of (T := ⟨S16x256x1x64x64, .i32⟩) main_call11_v31_1) addi ]

/-- The stage's operations use the program's buffers. -/
theorem opsMix4_sub : (opsMix4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- The stage's operations take no new buffer. -/
theorem opsMix4_fresh : (opsMix4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The uniform numbers. -/
abbrev opsUnif : List (HloOp τ sig (Elt F)) :=
  [ TRef.binary (TRef.of (T := ⟨S16x256x1x64x64, .i32⟩) main_call11_v31_0) (TRef.of (T := ⟨S16x256x1x64x64, .i32⟩) main_call11_v31_1) (TRef.of (T := ⟨S16x256x1x64x64, .i32⟩) main_call11_v32) xori,
    TRef.nullary (TRef.of (T := ⟨S_, .i32⟩) main_call11_c_5) (constantI S_ 32 9#32),
    TRef.unary (TRef.of (T := ⟨S_, .i32⟩) main_call11_c_5) (TRef.of (T := ⟨S16x256x1x64x64, .i32⟩) main_call11_v33) (broadcastInDim S16x256x1x64x64 ![] bcast_S_S16x256x1x64x64),
    TRef.binary (TRef.of (T := ⟨S16x256x1x64x64, .i32⟩) main_call11_v32) (TRef.of (T := ⟨S16x256x1x64x64, .i32⟩) main_call11_v33) (TRef.of (T := ⟨S16x256x1x64x64, .i32⟩) main_call11_v34) Host.shrui,
    TRef.nullary (TRef.of (T := ⟨S_, .i32⟩) main_call11_c_6) (constantI S_ 32 1065353216#32),
    TRef.unary (TRef.of (T := ⟨S_, .i32⟩) main_call11_c_6) (TRef.of (T := ⟨S16x256x1x64x64, .i32⟩) main_call11_v35) (broadcastInDim S16x256x1x64x64 ![] bcast_S_S16x256x1x64x64),
    TRef.binary (TRef.of (T := ⟨S16x256x1x64x64, .i32⟩) main_call11_v34) (TRef.of (T := ⟨S16x256x1x64x64, .i32⟩) main_call11_v35) (TRef.of (T := ⟨S16x256x1x64x64, .i32⟩) main_call11_v36) ori,
    TRef.unary (TRef.of (T := ⟨S16x256x1x64x64, .i32⟩) main_call11_v36) (TRef.of (T := ⟨S16x256x1x64x64, .f32⟩) main_call11_v37) (bitcastToFloat (F := F) .f32),
    TRef.nullary (TRef.of (T := ⟨S_, .f32⟩) main_call11_cst) (constant S_ .f32 0x3F800000#32),
    TRef.unary (TRef.of (T := ⟨S_, .f32⟩) main_call11_cst) (TRef.of (T := ⟨S16x256x1x64x64, .f32⟩) main_call11_v38) (broadcastInDim S16x256x1x64x64 ![] bcast_S_S16x256x1x64x64),
    TRef.binary (TRef.of (T := ⟨S16x256x1x64x64, .f32⟩) main_call11_v37) (TRef.of (T := ⟨S16x256x1x64x64, .f32⟩) main_call11_v38) (TRef.of (T := ⟨S16x256x1x64x64, .f32⟩) main_call11_v39) subf,
    TRef.binary (TRef.of (T := ⟨S1x1x1x1x1, .f32⟩) main_call11_v3) (TRef.of (T := ⟨S1x1x1x1x1, .f32⟩) main_call11_v2) (TRef.of (T := ⟨S1x1x1x1x1, .f32⟩) main_call11_v40) subf,
    TRef.unary (TRef.of (T := ⟨S1x1x1x1x1, .f32⟩) main_call11_v40) (TRef.of (T := ⟨S16x256x1x64x64, .f32⟩) main_call11_v41) (broadcastInDim S16x256x1x64x64 ![0, 1, 2, 3, 4] bcast_S1x1x1x1x1_S16x256x1x64x64_0_1_2_3_4),
    TRef.binary (TRef.of (T := ⟨S16x256x1x64x64, .f32⟩) main_call11_v39) (TRef.of (T := ⟨S16x256x1x64x64, .f32⟩) main_call11_v41) (TRef.of (T := ⟨S16x256x1x64x64, .f32⟩) main_call11_v42) mulf,
    TRef.unary (TRef.of (T := ⟨S1x1x1x1x1, .f32⟩) main_call11_v2) (TRef.of (T := ⟨S16x256x1x64x64, .f32⟩) main_call11_v43) (broadcastInDim S16x256x1x64x64 ![0, 1, 2, 3, 4] bcast_S1x1x1x1x1_S16x256x1x64x64_0_1_2_3_4),
    TRef.binary (TRef.of (T := ⟨S16x256x1x64x64, .f32⟩) main_call11_v42) (TRef.of (T := ⟨S16x256x1x64x64, .f32⟩) main_call11_v43) (TRef.of (T := ⟨S16x256x1x64x64, .f32⟩) main_call11_v44) addf,
    TRef.unary (TRef.of (T := ⟨S1x1x1x1x1, .f32⟩) main_call11_v2) (TRef.of (T := ⟨S16x256x1x64x64, .f32⟩) main_call11_v45) (broadcastInDim S16x256x1x64x64 ![0, 1, 2, 3, 4] bcast_S1x1x1x1x1_S16x256x1x64x64_0_1_2_3_4),
    TRef.binary (TRef.of (T := ⟨S16x256x1x64x64, .f32⟩) main_call11_v45) (TRef.of (T := ⟨S16x256x1x64x64, .f32⟩) main_call11_v44) (TRef.of (T := ⟨S16x256x1x64x64, .f32⟩) main_v167) maximumf ]

/-- The stage's operations use the program's buffers. -/
theorem opsUnif_sub : (opsUnif : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩

/-- The stage's operations take no new buffer. -/
theorem opsUnif_fresh : (opsUnif : List (HloOp τ sig (Elt F))).Forall fun op => op.fresh = ∅ :=
  ⟨rfl, rfl, rfl, rfl, rfl, rfl, rfl, rfl, rfl, rfl, rfl, rfl, rfl, rfl, rfl, rfl, rfl, rfl⟩

/-- The noise, and the noise added to the posterior. -/
abbrev opsGumbel : List (HloOp τ sig (Elt F)) :=
  [ nullary main_cst_23 (constant S_ .f32 0x0DA24260#32),
    unary main_cst_23 main_v168 (broadcastInDim S16x256x1x64x64 ![] bcast_S_S16x256x1x64x64 : Ar F S_ .f32 → Ar F S16x256x1x64x64 .f32),
    binary main_v167 main_v168 main_v169 (addf : Ar F S16x256x1x64x64 .f32 → Ar F S16x256x1x64x64 .f32 → Ar F S16x256x1x64x64 .f32),
    unary main_v169 main_v170 (Host.log : Ar F S16x256x1x64x64 .f32 → Ar F S16x256x1x64x64 .f32),
    unary main_v170 main_v171 (Host.negf : Ar F S16x256x1x64x64 .f32 → Ar F S16x256x1x64x64 .f32),
    nullary main_cst_24 (constant S_ .f32 0x0DA24260#32),
    unary main_cst_24 main_v172 (broadcastInDim S16x256x1x64x64 ![] bcast_S_S16x256x1x64x64 : Ar F S_ .f32 → Ar F S16x256x1x64x64 .f32),
    binary main_v171 main_v172 main_v173 (addf : Ar F S16x256x1x64x64 .f32 → Ar F S16x256x1x64x64 .f32 → Ar F S16x256x1x64x64 .f32),
    unary main_v173 main_v174 (Host.log : Ar F S16x256x1x64x64 .f32 → Ar F S16x256x1x64x64 .f32),
    unary main_v174 main_v175 (Host.negf : Ar F S16x256x1x64x64 .f32 → Ar F S16x256x1x64x64 .f32),
    binary main_v175 main_v159 main_v176 (addf : Ar F S16x256x1x64x64 .f32 → Ar F S16x256x1x64x64 .f32 → Ar F S16x256x1x64x64 .f32) ]

/-- The stage's operations use the program's buffers. -/
theorem opsGumbel_sub : (opsGumbel : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., unary_bufs_sub .., unary_bufs_sub .., binary_bufs_sub ..⟩

/-- The stage's operations take no new buffer. -/
theorem opsGumbel_fresh : (opsGumbel : List (HloOp τ sig (Elt F))).Forall fun op => op.fresh = ∅ :=
  ⟨rfl, rfl, rfl, rfl, rfl, rfl, rfl, rfl, rfl, rfl, rfl⟩

/-- The sampled class. -/
abbrev opsSample : List (HloOp τ sig (Elt F)) :=
  [ TRef.nullary (TRef.of (T := ⟨S16x256x1x64x64, .i32⟩) main_call12_v0) (iotaInDim S16x256x1x64x64 32 1),
    TRef.nullary (TRef.of (T := ⟨S_, .f32⟩) main_call12_cst) (constant S_ .f32 0xFF800000#32),
    TRef.nullary (TRef.of (T := ⟨S_, .i32⟩) main_call12_c) (constantI S_ 32 0#32),
    TRef.quaternary (TRef.of (T := ⟨S16x256x1x64x64, .f32⟩) main_v176) (TRef.of (T := ⟨S16x256x1x64x64, .i32⟩) main_call12_v0) (TRef.of (T := ⟨S_, .f32⟩) main_call12_cst) (TRef.of (T := ⟨S_, .i32⟩) main_call12_c) (TRef.of (T := ⟨S16x1x64x64, .f32⟩) main_call12_v1_0) (fun x y u v => fun j => (Host.argReduce reducer_argmax_f32_i32 x y u v reducesTo_S16x256x1x64x64_S16x1x64x64_d1 h_S_ j).1),
    TRef.quaternary (TRef.of (T := ⟨S16x256x1x64x64, .f32⟩) main_v176) (TRef.of (T := ⟨S16x256x1x64x64, .i32⟩) main_call12_v0) (TRef.of (T := ⟨S_, .f32⟩) main_call12_cst) (TRef.of (T := ⟨S_, .i32⟩) main_call12_c) (TRef.of (T := ⟨S16x1x64x64, .i32⟩) main_v177) (fun x y u v => fun j => (Host.argReduce reducer_argmax_f32_i32 x y u v reducesTo_S16x256x1x64x64_S16x1x64x64_d1 h_S_ j).2) ]

/-- The stage's operations use the program's buffers. -/
theorem opsSample_sub : (opsSample : List (HloOp τ sig (Elt F))).Forall fun op => op.bufs ⊆ tcRefs τ sig :=
  ⟨nullary_bufs_sub .., nullary_bufs_sub .., nullary_bufs_sub .., quaternary_bufs_sub .., quaternary_bufs_sub ..⟩

/-- The stage's operations take no new buffer. -/
theorem opsSample_fresh : (opsSample : List (HloOp τ sig (Elt F))).Forall fun op => op.fresh = ∅ :=
  ⟨rfl, rfl, rfl, rfl, rfl⟩

/-- The logarithm of the clipped one-hot vector. -/
abbrev opsOut : List (HloOp τ sig (Elt F)) :=
  [ TRef.unary (TRef.of (T := ⟨S16x1x64x64, .i32⟩) main_v177) (TRef.of (T := ⟨S16x1x64x64x1, .i32⟩) main_call13_v0) (broadcastInDim S16x1x64x64x1 ![0, 1, 2, 3] bcast_S16x1x64x64_S16x1x64x64x1_0_1_2_3),
    TRef.nullary (TRef.of (T := ⟨S1x1x1x1x256, .i32⟩) main_call13_v1) (iotaInDim S1x1x1x1x256 32 4),
    TRef.unary (TRef.of (T := ⟨S16x1x64x64x1, .i32⟩) main_call13_v0) (TRef.of (T := ⟨S16x1x64x64x256, .i32⟩) main_call13_v2) (broadcastInDim S16x1x64x64x256 ![0, 1, 2, 3, 4] bcast_S16x1x64x64x1_S16x1x64x64x256_0_1_2_3_4),
    TRef.unary (TRef.of (T := ⟨S1x1x1x1x256, .i32⟩) main_call13_v1) (TRef.of (T := ⟨S16x1x64x64x256, .i32⟩) main_call13_v3) (broadcastInDim S16x1x64x64x256 ![0, 1, 2, 3, 4] bcast_S1x1x1x1x256_S16x1x64x64x256_0_1_2_3_4),
    TRef.binary (TRef.of (T := ⟨S16x1x64x64x256, .i32⟩) main_call13_v2) (TRef.of (T := ⟨S16x1x64x64x256, .i32⟩) main_call13_v3) (TRef.of (T := ⟨S16x1x64x64x256, .i1⟩) main_call13_v4) (cmpi .eq),
    TRef.unary (TRef.of (T := ⟨S16x1x64x64x256, .i1⟩) main_call13_v4) (TRef.of (T := ⟨S16x1x64x64x256, .f32⟩) main_v178) (uitofp .f32),
    unary main_v178 main_v179 ((transpose S16x256x1x64x64 [0, 4, 1, 2, 3] · transposes_S16x1x64x64x256_S16x256x1x64x64_0_4_1_2_3) : Ar F S16x1x64x64x256 .f32 → Ar F S16x256x1x64x64 .f32),
    nullary main_cst_25 (constant S_ .f32 0x0DA24260#32),
    nullary main_cst_26 (constant S_ .f32 0x3F800000#32),
    TRef.unary (TRef.of (T := ⟨S_, .f32⟩) main_cst_25) (TRef.of (T := ⟨S_, .f32⟩) main_call14_v0) id,
    TRef.unary (TRef.of (T := ⟨S_, .f32⟩) main_call14_v0) (TRef.of (T := ⟨S16x256x1x64x64, .f32⟩) main_call14_v1) (broadcastInDim S16x256x1x64x64 ![] bcast_S_S16x256x1x64x64),
    TRef.binary (TRef.of (T := ⟨S16x256x1x64x64, .f32⟩) main_call14_v1) (TRef.of (T := ⟨S16x256x1x64x64, .f32⟩) main_v179) (TRef.of (T := ⟨S16x256x1x64x64, .f32⟩) main_call14_v2) maximumf,
    TRef.unary (TRef.of (T := ⟨S_, .f32⟩) main_cst_26) (TRef.of (T := ⟨S_, .f32⟩) main_call14_v3) id,
    TRef.unary (TRef.of (T := ⟨S_, .f32⟩) main_call14_v3) (TRef.of (T := ⟨S16x256x1x64x64, .f32⟩) main_call14_v4) (broadcastInDim S16x256x1x64x64 ![] bcast_S_S16x256x1x64x64),
    TRef.binary (TRef.of (T := ⟨S16x256x1x64x64, .f32⟩) main_call14_v4) (TRef.of (T := ⟨S16x256x1x64x64, .f32⟩) main_call14_v2) (TRef.of (T := ⟨S16x256x1x64x64, .f32⟩) main_v180) minimumf,
    unary main_v180 main_v181 (Host.log : Ar F S16x256x1x64x64 .f32 → Ar F S16x256x1x64x64 .f32) ]

/-- The stage's operations use the program's buffers. -/
theorem opsOut_sub : (opsOut : List (HloOp τ sig (Elt F))).Forall fun op => op.bufs ⊆ tcRefs τ sig :=
  ⟨unary_bufs_sub .., nullary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub ..⟩

/-- The stage's operations take no new buffer. -/
theorem opsOut_fresh : (opsOut : List (HloOp τ sig (Elt F))).Forall fun op => op.fresh = ∅ :=
  ⟨rfl, rfl, rfl, rfl, rfl, rfl, rfl, rfl, rfl, rfl, rfl, rfl, rfl, rfl, rfl, rfl⟩

end Cert.ReferenceIdeal.Hand

end
-- ==== Proof.RefRun.lean ====
/- The reference program is its list of operations, so it ends with every buffer holding what the list computes. -/
module

public import proofs.«01_k».proof.Proof.RefOpsB

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the program's part 0. -/
def part0 : List (HloOp τ sig (Elt F)) :=
  opsTables ++ opsArgmax ++ opsPad ++ opsConv

/-- The operations of the program's part 1. -/
def part1 : List (HloOp τ sig (Elt F)) :=
  opsConv' ++ opsLogits ++ opsSoftmax ++ opsPrev ++ opsTakeC ++ opsTakeD ++ opsPrior

/-- The operations of the program's part 2. -/
def part2 : List (HloOp τ sig (Elt F)) :=
  opsPrior' ++ opsFirst ++ opsTakeA ++ opsTakeB ++ opsStep ++ opsNorm

/-- The operations of the program's part 3. -/
def part3 : List (HloOp τ sig (Elt F)) :=
  opsKey ++ opsCount ++ opsStart ++ opsMix0 ++ opsMix1 ++ opsMix2 ++ opsMix3 ++ opsMix4 ++ opsUnif ++ opsGumbel ++ opsSample ++ opsOut

/-- The whole list. -/
def allOps : List (HloOp τ sig (Elt F)) := part0 ++ (part1 ++ (part2 ++ part3))

set_option maxHeartbeats 4000000 in
/-- The first part of the program is its list of operations. -/
theorem part0_eq (c : Dev nD) : main_part0 (F := F) c = seq part0 := rfl

set_option maxHeartbeats 4000000 in
/-- The second part of the program is its list of operations. -/
theorem part1_eq (c : Dev nD) : main_part1 (F := F) c = seq part1 := rfl

set_option maxHeartbeats 4000000 in
/-- The third part of the program is its list of operations. -/
theorem part2_eq (c : Dev nD) : main_part2 (F := F) c = seq part2 := rfl

set_option maxHeartbeats 4000000 in
/-- The fourth part of the program is its list of operations. -/
theorem part3_eq (c : Dev nD) : main_part3 (F := F) c = seq part3 := rfl

/-- The program is the whole list of operations. -/
theorem main_eq (c : Dev nD) : main (F := F) c = seq allOps := by
  simp only [allOps, seq_append, ← part0_eq c, ← part1_eq c, ← part2_eq c, ← part3_eq c]
  rfl

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- A property of every stage's operations holds of every operation. -/
theorem forall_allOps {p : HloOp τ sig (Elt F) → Prop}
    (hTables : (opsTables : List (HloOp τ sig (Elt F))).Forall p)
    (hArgmax : (opsArgmax : List (HloOp τ sig (Elt F))).Forall p)
    (hPad : (opsPad : List (HloOp τ sig (Elt F))).Forall p)
    (hConv : (opsConv : List (HloOp τ sig (Elt F))).Forall p)
    (hConv' : (opsConv' : List (HloOp τ sig (Elt F))).Forall p)
    (hLogits : (opsLogits : List (HloOp τ sig (Elt F))).Forall p)
    (hSoftmax : (opsSoftmax : List (HloOp τ sig (Elt F))).Forall p)
    (hPrev : (opsPrev : List (HloOp τ sig (Elt F))).Forall p)
    (hTakeC : (opsTakeC : List (HloOp τ sig (Elt F))).Forall p)
    (hTakeD : (opsTakeD : List (HloOp τ sig (Elt F))).Forall p)
    (hPrior : (opsPrior : List (HloOp τ sig (Elt F))).Forall p)
    (hPrior' : (opsPrior' : List (HloOp τ sig (Elt F))).Forall p)
    (hFirst : (opsFirst : List (HloOp τ sig (Elt F))).Forall p)
    (hTakeA : (opsTakeA : List (HloOp τ sig (Elt F))).Forall p)
    (hTakeB : (opsTakeB : List (HloOp τ sig (Elt F))).Forall p)
    (hStep : (opsStep : List (HloOp τ sig (Elt F))).Forall p)
    (hNorm : (opsNorm : List (HloOp τ sig (Elt F))).Forall p)
    (hKey : (opsKey : List (HloOp τ sig (Elt F))).Forall p)
    (hCount : (opsCount : List (HloOp τ sig (Elt F))).Forall p)
    (hStart : (opsStart : List (HloOp τ sig (Elt F))).Forall p)
    (hMix0 : (opsMix0 : List (HloOp τ sig (Elt F))).Forall p)
    (hMix1 : (opsMix1 : List (HloOp τ sig (Elt F))).Forall p)
    (hMix2 : (opsMix2 : List (HloOp τ sig (Elt F))).Forall p)
    (hMix3 : (opsMix3 : List (HloOp τ sig (Elt F))).Forall p)
    (hMix4 : (opsMix4 : List (HloOp τ sig (Elt F))).Forall p)
    (hUnif : (opsUnif : List (HloOp τ sig (Elt F))).Forall p)
    (hGumbel : (opsGumbel : List (HloOp τ sig (Elt F))).Forall p)
    (hSample : (opsSample : List (HloOp τ sig (Elt F))).Forall p)
    (hOut : (opsOut : List (HloOp τ sig (Elt F))).Forall p) :
    (allOps : List (HloOp τ sig (Elt F))).Forall p := by
  simp only [allOps, part0, part1, part2, part3, List.forall_append]
  exact ⟨⟨⟨⟨hTables, hArgmax⟩, hPad⟩, hConv⟩, ⟨⟨⟨⟨⟨⟨hConv', hLogits⟩, hSoftmax⟩, hPrev⟩, hTakeC⟩, hTakeD⟩, hPrior⟩, ⟨⟨⟨⟨⟨hPrior', hFirst⟩, hTakeA⟩, hTakeB⟩, hStep⟩, hNorm⟩, ⟨⟨⟨⟨⟨⟨⟨⟨⟨⟨⟨hKey, hCount⟩, hStart⟩, hMix0⟩, hMix1⟩, hMix2⟩, hMix3⟩, hMix4⟩, hUnif⟩, hGumbel⟩, hSample⟩, hOut⟩⟩

/-- Every operation's buffers are among the program's. -/
theorem allOps_sub : (allOps : List (HloOp τ sig (Elt F))).Forall fun op => op.bufs ⊆ tcRefs τ sig :=
  forall_allOps opsTables_sub opsArgmax_sub opsPad_sub opsConv_sub opsConv'_sub opsLogits_sub opsSoftmax_sub opsPrev_sub opsTakeC_sub opsTakeD_sub opsPrior_sub opsPrior'_sub opsFirst_sub opsTakeA_sub opsTakeB_sub opsStep_sub opsNorm_sub opsKey_sub opsCount_sub opsStart_sub opsMix0_sub opsMix1_sub opsMix2_sub opsMix3_sub opsMix4_sub opsUnif_sub opsGumbel_sub opsSample_sub opsOut_sub

/-- No operation takes a new buffer. -/
theorem allOps_fresh : ∀ op ∈ (allOps : List (HloOp τ sig (Elt F))), op.fresh = ∅ :=
  List.forall_iff_forall_mem.mp (forall_allOps opsTables_fresh opsArgmax_fresh opsPad_fresh opsConv_fresh opsConv'_fresh opsLogits_fresh opsSoftmax_fresh opsPrev_fresh opsTakeC_fresh opsTakeD_fresh opsPrior_fresh opsPrior'_fresh opsFirst_fresh opsTakeA_fresh opsTakeB_fresh opsStep_fresh opsNorm_fresh opsKey_fresh opsCount_fresh opsStart_fresh opsMix0_fresh opsMix1_fresh opsMix2_fresh opsMix3_fresh opsMix4_fresh opsUnif_fresh opsGumbel_fresh opsSample_fresh opsOut_fresh)

/-- Every weakly fair execution of the reference ends; every buffer then holds what the list leaves there, and every counter is at zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = after allOps (launchContents m c) (Proc.devRef .tc b) :=
  run_seq scopedRefs_eq scopedSems_eq defs main (fun _ => allOps) main_eq (fun _ => allOps_sub) m ρ fun _ => allOps_fresh

end Cert.ReferenceIdeal.Hand

end
-- ==== Proof.RefFrame.lean ====
/- The reference writes none of its arguments, so it ends with them as launched and with every counter at zero. -/
module

public import proofs.«01_k».proof.Proof.RefRun
public import Idealize.ShloMosaic.Lib.StableHlo.RunRead
public import Idealize.ShloMosaic.Init

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first argument is not written. -/
theorem keeps_arg0 (V : Valuation τ sig (Elt F)) : after allOps V (Proc.devRef .tc main_arg0) = V (Proc.devRef .tc main_arg0) := by
  after_reads_simp
/-- The second argument is not written. -/
theorem keeps_arg1 (V : Valuation τ sig (Elt F)) : after allOps V (Proc.devRef .tc main_arg1) = V (Proc.devRef .tc main_arg1) := by
  after_reads_simp
/-- The third argument is not written. -/
theorem keeps_arg2 (V : Valuation τ sig (Elt F)) : after allOps V (Proc.devRef .tc main_arg2) = V (Proc.devRef .tc main_arg2) := by
  after_reads_simp
/-- The fourth argument is not written. -/
theorem keeps_arg3 (V : Valuation τ sig (Elt F)) : after allOps V (Proc.devRef .tc main_arg3) = V (Proc.devRef .tc main_arg3) := by
  after_reads_simp

/-- The whole run of the reference: the result is what the list leaves in it, and the arguments end as launched. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v181) = after allOps (launchContents m c) (Proc.devRef .tc main_v181) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v181,
      (h c main_arg0).trans (keeps_arg0 (launchContents m c)),
      (h c main_arg1).trans (keeps_arg1 (launchContents m c)),
      (h c main_arg2).trans (keeps_arg2 (launchContents m c)),
      (h c main_arg3).trans (keeps_arg3 (launchContents m c))⟩)
    (run m ρ)

/-- The frame: arguments unchanged, counters at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (run_args m ρ)

end Cert.ReferenceIdeal.Hand

end
-- ==== Proof.KernelRun.lean ====
/- The whole run of the idealized kernel program, read off the segments of its frame: the result array ends at what the last
   segment leaves in it, and the arguments end as launched. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-- The memory model the run is stated over. -/
abbrev Mem (F : FTy → Type) [FloatOps F] [Named F] := MT nD τ sig Unit (Elt F) ℕ (UR sig nD τ) ℕ

set_option backward.isDefEq.respectTransparency.types false in
/-- Every weakly fair execution of the kernel program ends; the result array then holds what the last segment leaves there and
    the arguments are as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v83) = W19 m ρ c (Proc.devRef .tc main_v83) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Mem F))
            ⊢ BI.own (emb₁ (initOf (Pipeline.cells cfgs cellOf_inj) (Pipeline.launchToks cfgs cellOf_inj))) from .rfl)
        iexact Hu
      iapply (show (BI.emp : sProp (Mem F)) ⊢ bigSep Finset.univ (fun _ : Dev nD => (BI.emp : sProp (Mem F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ c =>
      ⟨h c _ (mem_uc main_v83 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c)⟩)

end Cert.KernelIdeal.Hand

end
-- ==== Proof.Model.lean ====
module

public import Idealize.ShloMosaic.Lib.Pointwise

@[expose] public section

noncomputable section

/-! The sampling step of a discrete diffusion model, on numbers: what one pixel's 256 classes come to, with no
arrays and no programs. Both programs are read as these functions. -/

namespace Cert.Model

open Idealize.ShloMosaic

/-- One step of the counter hash on a pair of words: add, then turn the second word left by `r` and mix. -/
def turn (r : Nat) (p : BitVec 32 × BitVec 32) : BitVec 32 × BitVec 32 :=
  (p.1 + p.2, (p.2 <<< r ||| p.2 >>> (32 - r)) ^^^ (p.1 + p.2))

/-- The key words added to the pair, and the group's number to the second. -/
def key (a b i : BitVec 32) (p : BitVec 32 × BitVec 32) : BitVec 32 × BitVec 32 := (p.1 + a, p.2 + b + i)

/-- Four steps of the first kind of group. -/
def mixA (p : BitVec 32 × BitVec 32) : BitVec 32 × BitVec 32 := turn 6 (turn 26 (turn 15 (turn 13 p)))

/-- Four steps of the second kind of group. -/
def mixB (p : BitVec 32 × BitVec 32) : BitVec 32 × BitVec 32 := turn 24 (turn 16 (turn 29 (turn 17 p)))

/-- The five groups of the hash of counter `n` under the key `(0, 42)`, whose third key word is 466689008. -/
def hash (n : BitVec 32) : BitVec 32 × BitVec 32 :=
  key 466689008#32 0#32 5#32 (mixA (key 42#32 466689008#32 4#32 (mixB (key 0#32 42#32 3#32 (mixA
    (key 466689008#32 0#32 2#32 (mixB (key 42#32 466689008#32 1#32 (mixA (0#32, n + 42#32))))))))))

/-- The random word of counter `n`. -/
def word (n : BitVec 32) : BitVec 32 := (hash n).1 ^^^ (hash n).2

/-- A number in [1, 2) from the random word's upper 23 bits. -/
def frac (n : BitVec 32) : EReal := Ideal.ofBits .f32 (word n >>> 9 ||| 1065353216#32)

/-- The small number both logarithms are kept away from zero by. -/
def tiny : EReal := Ideal.ofBits .f32 0x0DA24260#32

/-- Gumbel noise from a uniform number. -/
def gum (u : EReal) : EReal := -Ideal.log (-Ideal.log (u + tiny) + tiny)

/-- The largest of 256 numbers. -/
def colMax (f : Fin 256 → EReal) : EReal := Finset.fold max (Ideal.ofBits .f32 0xFF800000#32) f Finset.univ

/-- Log-softmax over the 256 classes. -/
def logSoft (f : Fin 256 → EReal) (c : Fin 256) : EReal :=
  f c - colMax f - Ideal.log (∑ k, Ideal.exp (f k - colMax f))

/-- The logarithm of the sum of two exponentials, kept stable by the larger. -/
def logAdd (p q : EReal) : EReal := max p q + Ideal.log (Ideal.exp (p - max p q) + Ideal.exp (q - max p q))

/-- The logarithm of the number of classes. -/
def log256 : EReal := Ideal.ofBits .f32 0x40B17218#32

/-- The unnormalised log posterior of a class: the prior's part and the step's. -/
def post (t : BitVec 32) (ls lca l1ca x la l1a : EReal) : EReal :=
  (if t = 0#32 then ls else logAdd (ls + lca) (l1ca - log256)) + logAdd (x + la) (l1a - log256)

/-- The first class whose number is the largest, as a word. -/
def firstMax (f : Fin 256 → EReal) : BitVec 32 :=
  Finset.fold IntOp.minsi 2147483647#32 (fun k : Fin 256 => if f k = colMax f then BitVec.ofNat 32 k else 256#32) Finset.univ

end Cert.Model

end
-- ==== Proof.WordEqs.lean ====
module

public import proofs.«01_k».proof.Proof.Model

@[expose] public section

noncomputable section

/-! The programs' word operations as the plain ones. -/

namespace Cert.Model

open Idealize.ShloMosaic

/-- A shift to the left by less than the width is the plain shift. -/
theorem shl_word (u : ArithUnit) (w r : BitVec 32) (h : r.toNat < 32) : IntOp.shli u w r = w <<< r.toNat := by
  unfold IntOp.shli; rw [if_pos h]; rfl

/-- A shift to the right by less than the width is the plain shift. -/
theorem shr_word (u : ArithUnit) (w r : BitVec 32) (h : r.toNat < 32) : IntOp.shrui u w r = w >>> r.toNat := by
  unfold IntOp.shrui; rw [if_pos h]; rfl

/-- The second word of a step, in the printed word operations. -/
theorem turn_snd (u : ArithUnit) (a b r s : BitVec 32) (n : Nat) (hr : r.toNat = n) (hs : s.toNat = 32 - n)
    (hn : n < 32) (h0 : 0 < n) :
    IntOp.xori (IntOp.ori (IntOp.shli u b r) (IntOp.shrui u b s)) (IntOp.addi a b) = (turn n (a, b)).2 := by
  rw [shl_word u b r (by omega), shr_word u b s (by omega), hr, hs]; rfl

/-- The first word of a step. -/
theorem turn_fst (a b : BitVec 32) (n : Nat) : IntOp.addi a b = (turn n (a, b)).1 := rfl

/-- The second word of a step, with the sum on the other side. -/
theorem turn_snd' (u : ArithUnit) (a b r s : BitVec 32) (n : Nat) (hr : r.toNat = n) (hs : s.toNat = 32 - n)
    (hn : n < 32) (h0 : 0 < n) :
    IntOp.xori (IntOp.addi a b) (IntOp.ori (IntOp.shli u b r) (IntOp.shrui u b s)) = (turn n (a, b)).2 := by
  rw [← turn_snd u a b r s n hr hs hn h0]; exact BitVec.xor_comm _ _

/-- A choice by the equality of two words. -/
theorem select_eq {α : Type} (p q : BitVec 32) (a b : α) :
    Scalar.select (IntOp.cmpi .eq p q) a b = if p = q then a else b := by
  by_cases h : p = q
  · subst h; simp [Scalar.select, IntOp.cmpi]
  · have hb : (p == q) = false := by simpa using h
    simp [Scalar.select, IntOp.cmpi, h, hb]

end Cert.Model

end
-- ==== Proof.KHash.lean ====
module

public import proofs.«01_k».proof.Proof.Gen.KernelIdeal.Skeleton
public import proofs.«01_k».proof.Proof.WordEqs
public import Idealize.ShloMosaic.Lib.Pointwise

@[expose] public section

set_option maxRecDepth 16384

noncomputable section

namespace Cert.KernelIdeal.Hand

open Cert.KernelIdeal Cert.KernelIdeal.Gen Cert.Model Idealize.ShloMosaic Idealize.ShloMosaic.TcCoe Idealize.SL.Sem

/-! The hash of a counter as the kernel's payloads compute it, a few steps at a time. -/

section
variable (v v' u : IVec S256x2048 32) (i : Fin 256) (j : Fin 2048)

/-- The first half of the batch: the counter through the first group and three steps of the second. -/
theorem hashA (a b : BitVec 32) (n : BitVec 32) (h : k1_pay10 a b v (ix2 i j) = n + 42#32) :
    (k1_pay24 (k1_pay12 a b v) (k1_pay13 a b v) k1_pay14 (ix2 i j), k1_pay25 (k1_pay12 a b v) (k1_pay13 a b v) k1_pay14 (ix2 i j)) =
    turn 16 (turn 29 (turn 17 (key 42#32 466689008#32 1#32 (mixA (0#32, n + 42#32))))) := by
  simp only [k1_pay25,k1_pay24,k1_pay23,k1_pay22,k1_pay21,k1_pay20,k1_pay19,k1_pay18,k1_pay17,k1_pay16,k1_pay15,k1_pay14,k1_pay13,k1_pay12,k1_pay11]
  pointwise
  rw [h]
  simp (disch := decide) only [shl_word, shr_word]
  rfl

/-- The first half: the end of the second group and the third. -/
theorem hashB (p : BitVec 32 × BitVec 32) (h : (v (ix2 i j), v' (ix2 i j)) = p) :
    (k1_pay35 v v' (ix2 i j), k1_pay36 v v' (ix2 i j) + 3#32) = key 0#32 42#32 3#32 (mixA (key 466689008#32 0#32 2#32 (turn 24 p))) := by
  subst h
  simp only [k1_pay36,k1_pay35,k1_pay34,k1_pay33,k1_pay32,k1_pay31,k1_pay30,k1_pay29,k1_pay28,k1_pay27,k1_pay26]
  pointwise
  simp (disch := decide) only [shl_word, shr_word]
  rfl

/-- The first half: the fourth group and the first step of the fifth. -/
theorem hashC (p : BitVec 32 × BitVec 32) (h : (v (ix2 i j), v' (ix2 i j) + 3#32) = p) :
    (k1_pay48 v v' (ix2 i j), k1_pay47 v v' (ix2 i j)) =
      ((turn 13 (key 42#32 466689008#32 4#32 (mixB p))).1 + (turn 13 (key 42#32 466689008#32 4#32 (mixB p))).2,
        (turn 13 (key 42#32 466689008#32 4#32 (mixB p))).2) := by
  subst h
  simp only [k1_pay48,k1_pay47,k1_pay46,k1_pay45,k1_pay44,k1_pay43,k1_pay42,k1_pay41,k1_pay40,k1_pay39,k1_pay38,k1_pay37]
  pointwise
  simp (disch := decide) only [shl_word, shr_word]
  rfl

/-- The noise added to a block, at a cell. -/
theorem gumArr (f B : FVec Ideal S256x2048 .f32) :
  addf f (subf (broadcast S256x2048 (Scalar.ofBits .f32 0#32 : Ideal .f32)) (log (addf (subf (broadcast S256x2048 (Scalar.ofBits .f32 0#32 : Ideal .f32)) (log (addf (subf B (broadcast S256x2048 (Scalar.ofBits .f32 0x3F800000#32 : Ideal .f32))) (broadcast S256x2048 (Scalar.ofBits .f32 0x0DA24260#32 : Ideal .f32))))) (broadcast S256x2048 (Scalar.ofBits .f32 0x0DA24260#32 : Ideal .f32))))) (ix2 i j) = f (ix2 i j) + gum (B (ix2 i j) - 1) := by
  pointwise
  simp only [zero_sub]; rfl

/-- The first half: the rest of the fifth group, and the noise added to the posterior. -/
theorem hashD (f : FVec Ideal S256x2048 .f32) (r : BitVec 32 × BitVec 32) (h : (v' (ix2 i j), v (ix2 i j)) = (r.1 + r.2, r.2)) (hu : u (ix2 i j) = 15#32) :
    k1_pay50 (F := Ideal) f v v' u (ix2 i j) = f (ix2 i j) + gum (Ideal.ofBits .f32
      (((key 466689008#32 0#32 5#32 (turn 6 (turn 26 (turn 15 r)))).1 ^^^
        (key 466689008#32 0#32 5#32 (turn 6 (turn 26 (turn 15 r)))).2) >>> 9 ||| 1065353216#32) - 1) := by
  obtain ⟨h1, h2⟩ := Prod.mk.inj h
  simp only [k1_pay50]
  refine (gumArr i j f _).trans (congrArg (fun z => f (ix2 i j) + gum (z - 1)) ?_)
  pointwise
  rw [h1, h2, hu]
  simp (disch := decide) only [shl_word, shr_word]
  rfl

/-- The second half: the counter through the first group and a step of the second. -/
theorem hashE (n : BitVec 32) (h : v (ix2 i j) = n) :
    (k1_pay67 v 0#32 (ix2 i j), k1_pay68 v 0#32 (ix2 i j) ^^^ k1_pay67 v 0#32 (ix2 i j)) = turn 17 (key 42#32 466689008#32 1#32 (mixA (0#32, n + 42#32))) := by
  subst h
  simp only [k1_pay68,k1_pay67,k1_pay66,k1_pay65,k1_pay64,k1_pay63,k1_pay62,k1_pay61,k1_pay60,k1_pay59,k1_pay58]
  pointwise
  simp (disch := decide) only [shl_word, shr_word]
  rfl

/-- The second half: the rest of the second group and two steps of the third. -/
theorem hashF (p : BitVec 32 × BitVec 32) (h : (v (ix2 i j), v' (ix2 i j) ^^^ v (ix2 i j)) = p) :
    (k1_pay80 v v' (ix2 i j), k1_pay79 v v' (ix2 i j), k1_pay81 v v' (ix2 i j)) =
      ((turn 15 (turn 13 (key 466689008#32 0#32 2#32 (turn 24 (turn 16 (turn 29 p)))))).1 +
        (turn 15 (turn 13 (key 466689008#32 0#32 2#32 (turn 24 (turn 16 (turn 29 p)))))).2,
       (turn 15 (turn 13 (key 466689008#32 0#32 2#32 (turn 24 (turn 16 (turn 29 p)))))).2,
       (turn 15 (turn 13 (key 466689008#32 0#32 2#32 (turn 24 (turn 16 (turn 29 p)))))).2 <<< 26) := by
  subst h
  simp only [k1_pay81,k1_pay80,k1_pay79,k1_pay78,k1_pay77,k1_pay76,k1_pay75,k1_pay74,k1_pay73,k1_pay72,k1_pay71,k1_pay70,k1_pay69]
  pointwise
  simp (disch := decide) only [shl_word, shr_word]
  rfl

/-- The second half: the rest of the third group and the fourth. -/
theorem hashG (r : BitVec 32 × BitVec 32) (h : (v' (ix2 i j), v (ix2 i j), u (ix2 i j)) = (r.1 + r.2, r.2, r.2 <<< 26)) :
    (k1_pay91 v v' u 6#32 (ix2 i j), k1_pay92 v v' u 6#32 (ix2 i j)) = mixB (key 0#32 42#32 3#32 (turn 6 (turn 26 r))) := by
  obtain ⟨h1, h2⟩ := Prod.mk.inj h
  obtain ⟨h2, h3⟩ := Prod.mk.inj h2
  simp only [k1_pay92,k1_pay91,k1_pay90,k1_pay89,k1_pay88,k1_pay87,k1_pay86,k1_pay85,k1_pay84,k1_pay83,k1_pay82]
  pointwise
  rw [h1, h2, h3]
  simp (disch := decide) only [shl_word, shr_word]
  rfl

/-- The second half: the fifth group and the number in [1, 2). -/
theorem hashH (p : BitVec 32 × BitVec 32) (h : (v (ix2 i j), v' (ix2 i j)) = p) :
    k1_pay94 (F := Ideal) v v' k1_pay93 (ix2 i j) = (Ideal.ofBits .f32
      (((key 466689008#32 0#32 5#32 (mixA (key 42#32 466689008#32 4#32 p))).1 ^^^
        (key 466689008#32 0#32 5#32 (mixA (key 42#32 466689008#32 4#32 p))).2) >>> 9 ||| 1065353216#32)) := by
  subst h
  simp only [k1_pay94, k1_pay93]
  pointwise
  simp (disch := decide) only [shl_word, shr_word]
  rfl

/-- The first half's posterior and noise, from the counter. -/
theorem noise0 (f : FVec Ideal S256x2048 .f32) (a b n : BitVec 32) (h : k1_pay10 a b v (ix2 i j) = n + 42#32)
    (p q : IVec S256x2048 32) (hp : p = k1_pay24 (k1_pay12 a b v) (k1_pay13 a b v) k1_pay14)
    (hq : q = k1_pay25 (k1_pay12 a b v) (k1_pay13 a b v) k1_pay14) :
    k1_pay50 (F := Ideal) f (k1_pay47 (k1_pay35 p q) (k1_pay36 p q)) (k1_pay48 (k1_pay35 p q) (k1_pay36 p q)) k1_pay49 (ix2 i j) =
      f (ix2 i j) + gum (frac n - 1) := by
  subst hp hq
  exact hashD _ _ _ _ _ f _ (hashC _ _ _ _ _ (hashB _ _ _ _ _ (hashA _ _ _ _ _ _ h))) rfl

/-- The second half's number in [1, 2), from the counter. -/
theorem noise1 (n : BitVec 32) (h : v (ix2 i j) = n) (p q s : IVec S256x2048 32)
    (hp : p = k1_pay79 (k1_pay67 v 0#32) (k1_pay68 v 0#32)) (hq : q = k1_pay80 (k1_pay67 v 0#32) (k1_pay68 v 0#32))
    (hs : s = k1_pay81 (k1_pay67 v 0#32) (k1_pay68 v 0#32)) :
    k1_pay94 (F := Ideal) (k1_pay91 p q s 6#32) (k1_pay92 p q s 6#32) k1_pay93 (ix2 i j) = frac n := by
  subst hp hq hs
  exact hashH _ _ _ _ _ (hashG _ _ _ _ _ _ (hashF _ _ _ _ _ (hashE _ _ _ _ h)))

end
end Cert.KernelIdeal.Hand
end
-- ==== Proof.KCell.lean ====
module

public import proofs.«01_k».proof.Proof.Gen.KernelIdeal.Skeleton
public import proofs.«01_k».proof.Proof.WordEqs
public import Idealize.ShloMosaic.Lib.Pointwise

@[expose] public section

set_option maxRecDepth 16384

noncomputable section

namespace Cert.KernelIdeal.Hand

open Cert.KernelIdeal Cert.KernelIdeal.Gen Cert.Model Idealize.ShloMosaic Idealize.ShloMosaic.TcCoe Idealize.SL.Sem

/-! One cell of the kernel's posterior: the prior part from the logits, and the step from the scalars. Then the
output: the class chosen for the pixel, one-hot. -/

/-- A cell's logit: the convolution's 16 products, the bias, and one where the class is the input's. -/
def logitK (w : Fin 16 → EReal) (taps : Fin 16 → EReal) (b : EReal) (hot : Prop) [Decidable hot] : EReal :=
  (∑ k, w k * taps k) + b + (if hot then 1 else 0)

/-- A cell of the posterior, from the logits and the row of scalars. -/
def cellK (f : Fin 256 → EReal) (s : Fin 128 → EReal) (hot : Prop) [Decidable hot] (c : Fin 256) : EReal :=
  (if Ideal.ofBits .f32 0x3F000000#32 < s 2 then logSoft f c else logAdd (logSoft f c + s 0) (s 1)) + (if hot then s 3 else s 4)

/-- The logits of a pixel of the block. -/
def logitsK (w : FVec Ideal S256x16 .f32) (x0 : FVec Ideal S1x1x16x2048 .f32) (x1 : IVec S1x1x1x2048 32)
    (b : FVec Ideal S1x1x256x1 .f32) (x : Fin 2048) (d : Fin 256) : EReal :=
  logitK (fun k => w (ix2 d k)) (fun k => x0 (ix4 0 0 k x)) (b (ix4 0 0 d 0)) (BitVec.ofNat 32 d = x1 (ix4 0 0 0 x))

section
variable (w : FVec Ideal S256x16 .f32) (x0 : FVec Ideal S1x1x16x2048 .f32) (x1 : IVec S1x1x1x2048 32)
    (b : FVec Ideal S1x1x256x1 .f32) (s : FVec Ideal S1x1x1x128 .f32) (c : Fin 256) (x : Fin 2048)

/-- The log-softmax of the first half. -/
theorem pay4_cell : k1_pay4 (F := Ideal) w x0 x1 b (ix2 c x) = logSoft (logitsK w x0 x1 b x) c := by
  simp only [k1_pay4, k1_pay3, k1_pay2]
  pointwise
  simp only [select_eq]
  rfl

/-- The posterior of the first half. -/
theorem post0 : k1_pay9 (F := Ideal) (k1_pay3 (F := Ideal) x1) (k1_pay4 w x0 x1 b) (k1_pay5 s) (k1_pay6 s) (k1_pay7 s) (k1_pay8 s) (ix2 c x) =
    cellK (logitsK w x0 x1 b x) (fun n => s (ix4 0 0 0 n)) (BitVec.ofNat 32 c = x1 (ix4 0 0 0 x)) c := by
  rw [cellK, ← pay4_cell]
  generalize k1_pay4 (F := Ideal) w x0 x1 b = v
  simp only [k1_pay9, k1_pay8, k1_pay7, k1_pay6, k1_pay5, k1_pay3]
  pointwise
  simp only [select_eq]
  rfl

/-- The logits of the second half. -/
theorem pay53_cell : k1_pay53 (F := Ideal) w x0 x1 b (ix2 c x) = logitsK w x0 x1 b x c := by
  simp only [k1_pay53, k1_pay52]
  pointwise
  simp only [select_eq]
  rfl

/-- The largest logit of the second half. -/
theorem pay54_cell : k1_pay54 (F := Ideal) w x0 x1 b (ix2 0 x) = colMax (logitsK w x0 x1 b x) := by
  simp only [colMax, ← pay53_cell, k1_pay54]
  generalize k1_pay53 (F := Ideal) w x0 x1 b = v
  pointwise

/-- The largest logit of the second half, over the block. -/
theorem pay55_cell : k1_pay55 (F := Ideal) w x0 x1 b (ix2 c x) = colMax (logitsK w x0 x1 b x) := by
  rw [← pay54_cell, k1_pay55]
  generalize k1_pay54 (F := Ideal) w x0 x1 b = v
  pointwise

/-- The posterior of the second half. -/
theorem post1 : k1_pay56 (F := Ideal) (k1_pay52 (F := Ideal) x1) (k1_pay53 w x0 x1 b) (k1_pay54 w x0 x1 b) (k1_pay55 w x0 x1 b) s (ix2 c x) =
    cellK (logitsK w x0 x1 b x) (fun n => s (ix4 0 0 0 n)) (BitVec.ofNat 32 c = x1 (ix4 0 0 0 x)) c := by
  have h3 := fun c => pay53_cell w x0 x1 b c x
  have h4 := pay54_cell w x0 x1 b x
  have h5 := fun c => pay55_cell w x0 x1 b c x
  generalize k1_pay53 (F := Ideal) w x0 x1 b = v3 at *
  generalize k1_pay54 (F := Ideal) w x0 x1 b = v4 at *
  generalize k1_pay55 (F := Ideal) w x0 x1 b = v5 at *
  simp only [k1_pay56, k1_pay52]
  pointwise
  simp only [select_eq, h3, h4, h5]
  rfl

/-- One value of the output: zero at the class chosen, the kernel's constant elsewhere. -/
def hotK (c : Fin 256) (f : Fin 256 → EReal) : EReal :=
  if BitVec.ofNat 32 c = firstMax f then 0 else Named.named (F := Ideal) (φ := .f32) κ "log_eps" 0xC28A27B5#32

/-- The output of the first half. -/
theorem pick0 (v : IVec S256x2048 32) (hv : ∀ k, v (ix2 k x) = BitVec.ofNat 32 k.val) (g : FVec Ideal S256x2048 .f32) :
    k1_pay51 (F := Ideal) v g (ix4 0 0 c x) = hotK c (fun k => g (ix2 k x)) := by
  simp only [k1_pay51]
  pointwise
  simp only [select_eq, hv, hotK, firstMax, colMax]
  congr!

/-- The output of the second half. -/
theorem pick1 (v : IVec S256x2048 32) (hv : ∀ k, v (ix2 k x) = BitVec.ofNat 32 k.val) (p q : FVec Ideal S256x2048 .f32) :
    k1_pay1 (F := Ideal) v p q (ix4 0 0 c x) = hotK c (fun k => p (ix2 k x) + gum (q (ix2 k x) - 1)) := by
  simp only [k1_pay1]
  pointwise
  simp only [select_eq, hv, zero_sub, hotK, firstMax, colMax, gum, tiny]
  congr!
end
end Cert.KernelIdeal.Hand
end
-- ==== Proof.KBlock.lean ====
module

public import proofs.«01_k».proof.Proof.Gen.KernelIdeal.Skeleton
public import proofs.«01_k».proof.Proof.KHash
public import proofs.«01_k».proof.Proof.KCell
public import proofs.«01_k».proof.Proof.Gen.KernelIdeal.Frame
public import Idealize.ShloMosaic.Lib.Pointwise

@[expose] public section

set_option maxRecDepth 16384

noncomputable section

namespace Cert.KernelIdeal.Hand

open Cert.KernelIdeal Cert.KernelIdeal.Gen Cert.Model Idealize.ShloMosaic Idealize.ShloMosaic.TcCoe Idealize.SL.Sem

/-! The second region's output block: each value a one-hot choice of the cells' candidates. -/

/-- The counter of a cell: the class, the pixel in the block, and the block's place. -/
def ctr (o a b : BitVec 32) (k : Fin 256) (x : Fin 2048) : BitVec 32 :=
  (BitVec.ofNat 32 k.val * 4096#32 + BitVec.ofNat 32 x.val) + ((o + a * 1048576#32) + b * 2048#32)

/-- The classes' numbers over the block. -/
abbrev rows : IVec S256x2048 32 := iota .tc S256x2048 32 [0] iota_S256x2048_d0_w32

/-- The row numbers of a block. -/
theorem rows_at (k : Fin 256) (x : Fin 2048) : rows (ix2 k x) = BitVec.ofNat 32 k.val := by
  pointwise

/-- The first half's counters, the key word added. -/
theorem start0 (a b : BitVec 32) (k : Fin 256) (x : Fin 2048) : k1_pay10 a b rows (ix2 k x) = ctr 0#32 a b k x + 42#32 := by
  simp only [k1_pay10]
  pointwise
  rfl

/-- The second half's counters. -/
theorem start1 (a b : BitVec 32) (k : Fin 256) (x : Fin 2048) : k1_pay57 a b rows (ix2 k x) = ctr 8388608#32 a b k x := by
  simp only [k1_pay57]
  pointwise
  rfl

/-- The logits of a pixel, in half `h` of the block. -/
def logitsB (w : FVec Ideal S256x16 .f32) (x0 : FVec Ideal S2x1x16x2048 .f32) (x1 : IVec S2x1x1x2048 32)
    (b : FVec Ideal S2x1x256x1 .f32) (h : Fin 2) (x : Fin 2048) (d : Fin 256) : EReal :=
  logitK (fun k => w (ix2 d k)) (fun k => x0 (ix4 h 0 k x)) (b (ix4 h 0 d 0)) (BitVec.ofNat 32 d = x1 (ix4 h 0 0 x))

/-- The candidates of a pixel, in half `h` of the block whose counters start at `o`. -/
def candB (i : grid1.Coords) (x0 : FVec Ideal S2x1x16x2048 .f32) (x1 : IVec S2x1x1x2048 32) (x2 : FVec Ideal S2x1x256x1 .f32)
    (x3 : FVec Ideal S2x1x1x128 .f32) (x4 : FVec Ideal S256x16 .f32) (o : BitVec 32) (h : Fin 2) (x : Fin 2048) (k : Fin 256) : EReal :=
  cellK (logitsB x4 x0 x1 x2 h x) (fun n => x3 (ix4 h 0 0 n)) (BitVec.ofNat 32 k = x1 (ix4 h 0 0 x)) k +
    gum (frac (ctr o (BitVec.ofNat 32 (i 0).val) (BitVec.ofNat 32 (i 1).val) k x) - 1)

section
variable (i : grid1.Coords) (x0 : FVec Ideal S2x1x16x2048 .f32) (x1 : IVec S2x1x1x2048 32) (x2 : FVec Ideal S2x1x256x1 .f32)
    (x3 : FVec Ideal S2x1x1x128 .f32) (x4 : FVec Ideal S256x16 .f32) (c : Fin 256) (x : Fin 2048)

/-- Where the loads of the block's halves land. -/
theorem at1_0 (k : Fin 256) (n : Fin 16) : r1_0.idx (ix2 k n) = ix2 k n := by
  funext a; apply Fin.ext; fin_cases a <;> simp
/-- The taps of the first half. -/
theorem at1_1 (n : Fin 16) : r1_1.idx (ix4 0 0 n x) = ix4 0 0 n x := by
  funext a; apply Fin.ext; fin_cases a <;> simp
/-- The classes of the first half. -/
theorem at1_2 : r1_2.idx (ix4 0 0 0 x) = ix4 0 0 0 x := by
  funext a; apply Fin.ext; fin_cases a <;> simp
/-- The biases of the first half. -/
theorem at1_3 : r1_3.idx (ix4 0 0 c 0) = ix4 0 0 c 0 := by
  funext a; apply Fin.ext; fin_cases a <;> simp
/-- The scalars of the first half. -/
theorem at1_4 (n : Fin 128) : r1_4.idx (ix4 0 0 0 n) = ix4 0 0 0 n := by
  funext a; apply Fin.ext; fin_cases a <;> simp
/-- The output of the first half. -/
theorem at1_5 : r1_5.idx (ix4 0 0 c x) = ix4 0 0 c x := by
  funext a; apply Fin.ext; fin_cases a <;> simp
/-- The taps of the second half. -/
theorem at1_6 (n : Fin 16) : r1_6.idx (ix4 0 0 n x) = ix4 1 0 n x := by
  funext a; apply Fin.ext; fin_cases a <;> simp
/-- The classes of the second half. -/
theorem at1_7 : r1_7.idx (ix4 0 0 0 x) = ix4 1 0 0 x := by
  funext a; apply Fin.ext; fin_cases a <;> simp
/-- The biases of the second half. -/
theorem at1_8 : r1_8.idx (ix4 0 0 c 0) = ix4 1 0 c 0 := by
  funext a; apply Fin.ext; fin_cases a <;> simp
/-- The scalars of the second half. -/
theorem at1_9 (n : Fin 128) : r1_9.idx (ix4 0 0 0 n) = ix4 1 0 0 n := by
  funext a; apply Fin.ext; fin_cases a <;> simp
/-- The output of the second half. -/
theorem at1_10 : r1_10.idx (ix4 0 0 c x) = ix4 1 0 c x := by
  funext a; apply Fin.ext; fin_cases a <;> simp

/-- The weights as loaded. -/
theorem pay2_at (w : FVec Ideal S256x16 .f32) (k : Fin 256) (n : Fin 16) : k1_pay2 (F := Ideal) w (ix2 k n) = w (ix2 k n) := by
  simp only [k1_pay2]
  pointwise

/-- The first half's logits, from the blocks. -/
theorem logits0 : logitsK (View.ld (Val := Elt Ideal) (e' := .f32) x4 r1_0) (View.ld (Val := Elt Ideal) (e' := .f32) x0 r1_1) (View.ld (Val := Elt Ideal) (e' := .i32) x1 r1_2) (View.ld (Val := Elt Ideal) (e' := .f32) x2 r1_3) x = logitsB x4 x0 x1 x2 0 x := by
  funext d
  simp only [logitsK, logitsB, View.ld, at1_0, at1_1, at1_2, at1_3]

/-- The second half's logits, from the blocks. -/
theorem logits1 : logitsK (k1_pay2 (F := Ideal) (View.ld (Val := Elt Ideal) (e' := .f32) x4 r1_0)) (View.ld (Val := Elt Ideal) (e' := .f32) x0 r1_6) (View.ld (Val := Elt Ideal) (e' := .i32) x1 r1_7) (View.ld (Val := Elt Ideal) (e' := .f32) x2 r1_8) x = logitsB x4 x0 x1 x2 1 x := by
  funext d
  simp only [logitsK, logitsB, pay2_at, View.ld, at1_0, at1_6, at1_7, at1_8]

/-- The first half of the output block. -/
theorem out_half0 : out1_5 (F := Ideal) i x0 x1 x2 x3 x4 (ix4 0 0 c x) = hotK c (candB i x0 x1 x2 x3 x4 0#32 0 x) := by
  unfold_out out1_5
  rw [View.canon_cons_of_not_mem _ _ (by
    intro hm
    obtain ⟨y, hy⟩ := r1_10.exists_idx_of_mem hm
    have := congrArg (fun q => (q 0).val) hy
    simp at this), ← at1_5 c x]
  refine (View.canon_cons_emb r1_5 _ _ _).trans ?_
  rw [pick0 c x _ (fun k => rows_at k x)]
  congr 1
  funext k
  rw [noise0 _ k x _ _ _ _ (start0 _ _ k x) _ _ rfl rfl, post0, logits0]
  simp only [candB, View.ld, at1_4, at1_2]

/-- The second half. -/
theorem out_half1 : out1_5 (F := Ideal) i x0 x1 x2 x3 x4 (ix4 1 0 c x) = hotK c (candB i x0 x1 x2 x3 x4 8388608#32 1 x) := by
  unfold_out out1_5
  rw [← at1_10 c x]
  refine (View.canon_cons_emb r1_10 _ _ _).trans ?_
  rw [pick1 c x _ (fun k => rows_at k x)]
  congr 1
  funext k
  rw [noise1 _ k x _ (start1 _ _ k x) _ _ _ rfl rfl rfl, post1, logits1]
  simp only [candB, View.ld, at1_9, at1_7]

end
end Cert.KernelIdeal.Hand
end
-- ==== Proof.KArr.lean ====
module

public import proofs.«01_k».proof.Proof.Gen.KernelIdeal.Skeleton
public import proofs.«01_k».proof.Proof.KBlock
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Model Idealize.ShloMosaic Idealize.ShloMosaic.TcCoe Idealize.SL.Sem

/-! The arrays the two regions leave, from the arrays they find. -/

open Idealize.ShloMosaic.Pipeline

variable (V : (c : Dev nD) → (b : Ref sig .tc) → Buf (Elt Ideal) ((c : Thread nD τ).loc b))

/-- The hot class of a pixel: the classes' numbers where the entry is above minus one, added. -/
def scanK (A : FVec Ideal S16x256x4096 .f32) (b : Fin 16) (x : Fin 4096) : BitVec 32 :=
  Finset.fold IntOp.addi 0#32 (fun k : Fin 256 =>
    if Ideal.ofBits .f32 3212836864#32 < A (ix3 b k x) then BitVec.ofNat 32 k.val else 0#32) Finset.univ

/-- The first region's block: the class of each pixel, added up. -/
theorem scan_block (x0 : FVec Ideal S1x256x4096 .f32) (x : Fin 4096) :
    k0_pay1 (F := Ideal) x0 (ix3 0 0 x) = Finset.fold IntOp.addi 0#32 (fun k : Fin 256 =>
      if Ideal.ofBits .f32 3212836864#32 < x0 (ix3 0 k x) then BitVec.ofNat 32 k.val else 0#32) Finset.univ := by
  simp only [k0_pay1]
  pointwise

/-- The first region's step reads its batch entry. -/
theorem e0_0 : ∀ t : Fin cfg0.N, win0_0.index t = ![(grid0.coords t 0).val, 0, 0] := (by decide +kernel : ∀ t : Fin grid0.N, _)
/-- The first region's step writes its batch entry. -/
theorem e0_1 : ∀ t : Fin cfg0.N, win0_1.index t = ![(grid0.coords t 0).val, 0, 0] := (by decide +kernel : ∀ t : Fin grid0.N, _)

/-- The first region leaves every pixel's class. -/
theorem arr0 (c : Dev nD) : (dat0 V c).arrAt 1 cfg0.N = fun z : S16x1x4096.Idx => scanK (V c main_v0) (z 0) (z 2) := by
  refine (dat0 V c).arrAt_eq_of_covers 1 _ (by decide +kernel) fun t hf y => ?_
  blk_simp
  rw [after0_1]
  frame_out
  obtain ⟨x, rfl⟩ : ∃ x : Fin 4096, y = (ix3 0 0 x : S1x1x4096.Idx) :=
    ⟨y 2, by funext a; fin_cases a <;> first | rfl | exact Subsingleton.elim (α := Fin 1) _ _⟩
  refine (scan_block (iblk0 V c 0 t) x).trans ?_
  unfold scanK
  refine congrArg (fun f => Finset.fold IntOp.addi 0#32 f Finset.univ) (funext fun k => ?_)
  refine congrArg (fun z => if Ideal.ofBits .f32 3212836864#32 < z then BitVec.ofNat 32 k.val else 0#32) ?_
  blk_simp [iblk0]
  refine congrArg (V c main_v0) ?_
  blk_ext [e0_0, e0_1]

/-- Where the second region's step reads the taps. -/
theorem e1_0 : ∀ t : Fin cfg1.N, win1_0.index t = ![0, (grid1.coords t 0).val, 0, (grid1.coords t 1).val] := (by decide +kernel : ∀ t : Fin grid1.N, _)
/-- Where it reads the pixels' classes. -/
theorem e1_1 : ∀ t : Fin cfg1.N, win1_1.index t = ![0, (grid1.coords t 0).val, 0, (grid1.coords t 1).val] := (by decide +kernel : ∀ t : Fin grid1.N, _)
/-- Where it reads the biases. -/
theorem e1_2 : ∀ t : Fin cfg1.N, win1_2.index t = ![0, (grid1.coords t 0).val, 0, 0] := (by decide +kernel : ∀ t : Fin grid1.N, _)
/-- Where it reads the scalars. -/
theorem e1_3 : ∀ t : Fin cfg1.N, win1_3.index t = ![0, (grid1.coords t 0).val, 0, 0] := (by decide +kernel : ∀ t : Fin grid1.N, _)
/-- Where it reads the weights. -/
theorem e1_4 : ∀ t : Fin cfg1.N, win1_4.index t = ![0, 0] := (by decide +kernel : ∀ t : Fin grid1.N, _)
/-- Where it writes. -/
theorem e1_5 : ∀ t : Fin cfg1.N, win1_5.index t = ![0, (grid1.coords t 0).val, 0, (grid1.coords t 1).val] := (by decide +kernel : ∀ t : Fin grid1.N, _)

/-- The number of a cell: its place in the flat output. -/
def cellNo (h : Fin 2) (i : Fin 8) (k : Fin 256) (p : Fin 4096) : ℕ := (h.val * 8 + i.val) * 1048576 + k.val * 4096 + p.val

/-- The logits of a pixel. -/
def logitsA (T : FVec Ideal S2x8x16x4096 .f32) (X : IVec S2x8x1x4096 32) (B : FVec Ideal S2x8x256x1 .f32) (W : FVec Ideal S256x16 .f32)
    (h : Fin 2) (i : Fin 8) (p : Fin 4096) (d : Fin 256) : EReal :=
  logitK (fun k => W (ix2 d k)) (fun k => T (ix4 h i k p)) (B (ix4 h i d 0)) (BitVec.ofNat 32 d = X (ix4 h i 0 p))

/-- The candidates of a pixel. -/
def candA (T : FVec Ideal S2x8x16x4096 .f32) (X : IVec S2x8x1x4096 32) (B : FVec Ideal S2x8x256x1 .f32) (S : FVec Ideal S2x8x1x128 .f32)
    (W : FVec Ideal S256x16 .f32) (h : Fin 2) (i : Fin 8) (p : Fin 4096) (k : Fin 256) : EReal :=
  cellK (logitsA T X B W h i p) (fun n => S (ix4 h i 0 n)) (BitVec.ofNat 32 k = X (ix4 h i 0 p)) k +
    gum (frac (BitVec.ofNat 32 (cellNo h i k p)) - 1)

/-- A cell's counter is its number in the whole array. -/
theorem ctr_no (o a b : ℕ) (k : Fin 256) (x : Fin 2048) :
    ctr (BitVec.ofNat 32 o) (BitVec.ofNat 32 a) (BitVec.ofNat 32 b) k x = BitVec.ofNat 32 (o + a * 1048576 + k.val * 4096 + (b * 2048 + x.val)) := by
  unfold ctr
  simp only [← BitVec.ofNat_add, ← BitVec.ofNat_mul]
  congr 1; omega

/-- The output block, both halves. -/
theorem out_both (i : grid1.Coords) (x0 : FVec Ideal S2x1x16x2048 .f32) (x1 : IVec S2x1x1x2048 32) (x2 : FVec Ideal S2x1x256x1 .f32)
    (x3 : FVec Ideal S2x1x1x128 .f32) (x4 : FVec Ideal S256x16 .f32) (h : Fin 2) (d : Fin 256) (x : Fin 2048) :
    out1_5 (F := Ideal) i x0 x1 x2 x3 x4 (ix4 h 0 d x) = hotK d (candB i x0 x1 x2 x3 x4 (BitVec.ofNat 32 (h.val * 8388608)) h x) := by
  match h with
  | 0 => exact out_half0 i x0 x1 x2 x3 x4 d x
  | 1 => exact out_half1 i x0 x1 x2 x3 x4 d x

section
variable (c : Dev nD) (t : Fin cfg1.N) (h : Fin 2) (x : Fin 2048) (i : Fin 8) (p : Fin 4096)
  (hi : (grid1.coords t 0).val = i.val) (hp : (grid1.coords t 1).val * 2048 + x.val = p.val)
include hi hp

/-- A block's tap is the array's. -/
theorem at_taps (k : Fin 16) : iblk1 V c 0 t (ix4 h 0 k x : S2x1x16x2048.Idx) = V c main_v28 (ix4 h i k p : S2x8x16x4096.Idx) := by
  blk_simp [iblk1]
  refine congrArg (V c main_v28) ?_
  blk_ext [e1_0, hi, hp]

/-- A block's class is the array's. -/
theorem at_hot : iblk1 V c 1 t (ix4 h 0 0 x : S2x1x1x2048.Idx) = V c main_v81 (ix4 h i 0 p : S2x8x1x4096.Idx) := by
  blk_simp [iblk1]
  refine congrArg (V c main_v81) ?_
  blk_ext [e1_1, hi, hp]

omit hp in
/-- A block's bias is the array's. -/
theorem at_bias (k : Fin 256) : iblk1 V c 2 t (ix4 h 0 k 0 : S2x1x256x1.Idx) = V c main_v39 (ix4 h i k 0 : S2x8x256x1.Idx) := by
  blk_simp [iblk1]
  refine congrArg (V c main_v39) ?_
  blk_ext [e1_2, hi]

omit hp in
/-- A block's scalar is the array's. -/
theorem at_row (k : Fin 128) : iblk1 V c 3 t (ix4 h 0 0 k : S2x1x1x128.Idx) = V c main_v80 (ix4 h i 0 k : S2x8x1x128.Idx) := by
  blk_simp [iblk1]
  refine congrArg (V c main_v80) ?_
  blk_ext [e1_3, hi]

omit hi hp in
/-- A block's weight is the array's. -/
theorem at_weight (k : Fin 256) (n : Fin 16) : iblk1 V c 4 t (ix2 k n : S256x16.Idx) = V c main_v30 (ix2 k n : S256x16.Idx) := by
  blk_simp [iblk1]
  refine congrArg (V c main_v30) ?_
  blk_ext [e1_4]

/-- A block's candidates are the array's. -/
theorem cand_block (k : Fin 256) :
    candB (grid1.coords t) (iblk1 V c 0 t) (iblk1 V c 1 t) (iblk1 V c 2 t) (iblk1 V c 3 t) (iblk1 V c 4 t) (BitVec.ofNat 32 (h.val * 8388608)) h x k =
      candA (V c main_v28) (V c main_v81) (V c main_v39) (V c main_v80) (V c main_v30) h i p k := by
  have hl : logitsB (iblk1 V c 4 t) (iblk1 V c 0 t) (iblk1 V c 1 t) (iblk1 V c 2 t) h x =
      logitsA (V c main_v28) (V c main_v81) (V c main_v39) (V c main_v30) h i p := by
    funext d
    unfold logitsB logitsA
    rw [at_bias V c t h i hi d]
    simp only [at_hot V c t h x i p hi hp, at_taps V c t h x i p hi hp, at_weight V c t]
  unfold candB candA
  have hn : h.val * 8388608 + i.val * 1048576 + k.val * 4096 + p.val = cellNo h i k p := by unfold cellNo; omega
  rw [hl, ctr_no, hi, hp, hn]
  simp only [at_hot V c t h x i p hi hp, at_row V c t h i hi]
end

/-- The second region leaves the one-hot choice of the candidates at every pixel. -/
theorem arr1 (c : Dev nD) : (dat1 V c).arrAt 5 cfg1.N = fun z : S2x8x256x4096.Idx =>
    hotK (z 2) (candA (V c main_v28) (V c main_v81) (V c main_v39) (V c main_v80) (V c main_v30) (z 0) (z 1) (z 3)) := by
  refine (dat1 V c).arrAt_eq_of_covers 5 _ (by decide +kernel) fun t hf y => ?_
  blk_simp
  rw [after1_5]
  obtain ⟨h, d, x, rfl⟩ : ∃ (h : Fin 2) (d : Fin 256) (x : Fin 2048), y = (ix4 h 0 d x : S2x1x256x2048.Idx) :=
    ⟨y 0, y 2, y 3, by funext a; fin_cases a <;> first | rfl | exact Subsingleton.elim (α := Fin 1) _ _⟩
  have b0 : (grid1.coords t 0).val < 8 := (grid1.coords t 0).isLt
  have b1 : (grid1.coords t 1).val < 2 := (grid1.coords t 1).isLt
  have he : (win1_5.blk t).view.emb (ix4 h 0 d x : S2x1x256x2048.Idx) =
      (ix4 h ⟨(grid1.coords t 0).val, b0⟩ d ⟨(grid1.coords t 1).val * 2048 + x.val, by omega⟩ : S2x8x256x4096.Idx) := by
    blk_ext [e1_5]
  rw [he]
  simp only [ix4_0, ix4_1, ix4_2, ix4_3]
  refine (out_both (grid1.coords t) (iblk1 V c 0 t) (iblk1 V c 1 t) (iblk1 V c 2 t) (iblk1 V c 3 t) (iblk1 V c 4 t) h d x).trans ?_
  congr 1
  funext k
  exact cand_block V c t h x ⟨_, b0⟩ ⟨_, _⟩ rfl rfl k

end Cert.KernelIdeal.Hand
end
-- ==== Proof.KHost.lean ====
module

public import proofs.«01_k».proof.Proof.Gen.KernelIdeal.Skeleton
public import proofs.«01_k».proof.Proof.KArr
public import Idealize.ShloMosaic.Lib.StableHlo.RunRead
public import Idealize.ShloMosaic.Lib.Pointwise

@[expose] public section

set_option maxRecDepth 16384

noncomputable section

namespace Cert.KernelIdeal.Hand

open Idealize.ShloMosaic.StableHlo Cert.KernelIdeal Cert.KernelIdeal.Gen Cert.Model Idealize.ShloMosaic Idealize.ShloMosaic.TcCoe Idealize.SL.Sem

/-! What the kernel's @main computes around its two regions, one value of each array at a time. -/

/-- What every buffer holds. -/
abbrev Vals := Valuation τ sig (Elt Ideal)

/-- The sum of two array entries. -/
abbrev plus (p q : EReal) : EReal := p + q

/-- The difference of two array entries. -/
abbrev minus (p q : EReal) : EReal := p - q

/-- The padding value: the integer zero as a float. -/
theorem sitofp_zero : (FloatOps.sitofp .f32 (0#32 : BitVec 32) : Ideal .f32) = 0 := by
  show (((0#32 : BitVec 32).toInt : ℝ) : EReal) = 0
  simp

section
variable (V : Vals) (b : Fin 16) (d : Fin 256) (h : Fin 2) (i : Fin 8) (p : Fin 4096) (y x : Fin 64)

/-- The input, flattened over the pixels. -/
theorem flat_at : after hostOps0 V (Proc.devRef .tc main_v0) (ix3 b d p) = V (Proc.devRef .tc main_arg0)
    (ix5 b d 0 ⟨p.val / 64, by omega⟩ ⟨p.val % 64, by omega⟩) := by
  simp only [hostOps0, TRef.binary, TRef.unary, TRef.nullary, TRef.quaternary, TRef.ternary, TRef.reshape, TRef.toBuf, TRef.ofBuf, cast_eq]
  after_reads_simp
  pointwise

/-- The image: the hot class over 255. -/
theorem img_at : after hostOps1 V (Proc.devRef .tc main_v5) (ix3 b y x) = Ideal.div (FloatOps.sitofp (F := Ideal) .f32
    (V (Proc.devRef .tc main_v1) (ix3 b 0 ⟨y.val * 64 + x.val, by omega⟩))) (Ideal.ofBits .f32 1132396544#32) := by
  simp only [hostOps1, TRef.binary, TRef.unary, TRef.nullary, TRef.quaternary, TRef.ternary, TRef.reshape, TRef.toBuf, TRef.ofBuf, cast_eq]
  after_reads_simp
  pointwise

/-- The first border's word is zero. -/
theorem c_at : after hostOps1 V (Proc.devRef .tc main_c) (Shape.Idx.first h_S_) = 0#32 := by
  simp only [hostOps1, TRef.binary, TRef.unary, TRef.nullary, TRef.quaternary, TRef.ternary, TRef.reshape, TRef.toBuf, TRef.ofBuf, cast_eq]
  after_reads_simp
  rfl

/-- The image with a border of one. -/
theorem border_at (y x : Fin 66) : after hostOps1_1 V (Proc.devRef .tc main_v6) (ix3 b y x) =
    if h : (1 ≤ y.val ∧ y.val - 1 < 64) ∧ 1 ≤ x.val ∧ x.val - 1 < 64 then V (Proc.devRef .tc main_v5)
      (ix3 b ⟨y.val - 1, h.1.2⟩ ⟨x.val - 1, h.2.2⟩)
    else FloatOps.sitofp (F := Ideal) .f32 (V (Proc.devRef .tc main_c) (Shape.Idx.first h_S_)) := by
  simp only [hostOps1_1, TRef.binary, TRef.unary, TRef.nullary, TRef.quaternary, TRef.ternary, TRef.reshape, TRef.toBuf, TRef.ofBuf, cast_eq]
  after_reads_simp
  pointwise

/-- The nine neighbours of a pixel. -/
theorem near_at (k : Fin 9) : after hostOps1_2 V (Proc.devRef .tc main_v26) (ix3 b k p) = V (Proc.devRef .tc main_v6)
    (ix3 b ⟨k.val / 3 + p.val / 64, by omega⟩ ⟨k.val % 3 + p.val % 64, by omega⟩) := by
  simp only [hostOps1_2, TRef.binary, TRef.unary, TRef.nullary, TRef.quaternary, TRef.ternary, TRef.reshape, TRef.toBuf, TRef.ofBuf, cast_eq]
  after_reads_simp
  simp only [Matrix.cons_val, Matrix.cons_val_zero, Matrix.cons_val_one]
  fin_cases k <;> (pointwise; after_reads_simp; pointwise)

/-- The second padding's word is zero. -/
theorem c4_at : after hostOps1_2 V (Proc.devRef .tc main_c_4) (Shape.Idx.first h_S_) = 0#32 := by
  simp only [hostOps1_2, TRef.binary, TRef.unary, TRef.nullary, TRef.quaternary, TRef.ternary, TRef.reshape, TRef.toBuf, TRef.ofBuf, cast_eq]
  after_reads_simp
  rfl

/-- The neighbours, up to sixteen of them. -/
theorem near16_at (k : Fin 16) : after hostOps1_3 V (Proc.devRef .tc main_v27) (ix3 b k p) =
    if h : k.val < 9 then V (Proc.devRef .tc main_v26) (ix3 b ⟨k.val, h⟩ p)
    else FloatOps.sitofp (F := Ideal) .f32 (V (Proc.devRef .tc main_c_4) (Shape.Idx.first h_S_)) := by
  simp only [hostOps1_3, TRef.binary, TRef.unary, TRef.nullary, TRef.quaternary, TRef.ternary, TRef.reshape, TRef.toBuf, TRef.ofBuf, cast_eq]
  after_reads_simp
  pointwise

/-- The taps, laid out by halves. -/
theorem taps_at (k : Fin 16) : after hostOps1_4 V (Proc.devRef .tc main_v28) (ix4 h i k p) =
    V (Proc.devRef .tc main_v27) (ix3 ⟨h.val * 8 + i.val, by omega⟩ k p) := by
  simp only [hostOps1_4, TRef.binary, TRef.unary, TRef.nullary, TRef.quaternary, TRef.ternary, TRef.reshape, TRef.toBuf, TRef.ofBuf, cast_eq]
  after_reads_simp
  pointwise

/-- The weights, laid out by nines. -/
theorem weight_at (k : Fin 9) : after hostOps1_4 V (Proc.devRef .tc main_v29) (ix2 d k) =
    V (Proc.devRef .tc main_arg2) (ix4 d 0 ⟨k.val / 3, by omega⟩ ⟨k.val % 3, by omega⟩) := by
  simp only [hostOps1_4, TRef.binary, TRef.unary, TRef.nullary, TRef.quaternary, TRef.ternary, TRef.reshape, TRef.toBuf, TRef.ofBuf, cast_eq]
  after_reads_simp
  pointwise

/-- The third padding's word is zero. -/
theorem c5_at : after hostOps1_4 V (Proc.devRef .tc main_c_5) (Shape.Idx.first h_S_) = 0#32 := by
  simp only [hostOps1_4, TRef.binary, TRef.unary, TRef.nullary, TRef.quaternary, TRef.ternary, TRef.reshape, TRef.toBuf, TRef.ofBuf, cast_eq]
  after_reads_simp
  rfl

/-- The weights, up to sixteen of them. -/
theorem weight16_at (k : Fin 16) : after hostOps1_5 V (Proc.devRef .tc main_v30) (ix2 d k) =
    if h : k.val < 9 then V (Proc.devRef .tc main_v29) (ix2 d ⟨k.val, h⟩)
    else FloatOps.sitofp (F := Ideal) .f32 (V (Proc.devRef .tc main_c_5) (Shape.Idx.first h_S_)) := by
  simp only [hostOps1_5, TRef.binary, TRef.unary, TRef.nullary, TRef.quaternary, TRef.ternary, TRef.reshape, TRef.toBuf, TRef.ofBuf, cast_eq]
  after_reads_simp
  pointwise

/-- The bias with the step's share of the schedule. -/
theorem bias_at : after hostOps1_6 V (Proc.devRef .tc main_v39) (ix4 h i d 0) =
    plus (V (Proc.devRef .tc main_arg3) (ix1 d))
    (Ideal.div (FloatOps.sitofp (F := Ideal) .f32 (V (Proc.devRef .tc main_arg1) (ix1 ⟨h.val * 8 + i.val, by omega⟩)))
      (Ideal.ofBits .f32 1165623296#32)) := by
  simp only [hostOps1_6, TRef.binary, TRef.unary, TRef.nullary, TRef.quaternary, TRef.ternary, TRef.reshape, TRef.toBuf, TRef.ofBuf, cast_eq]
  after_reads_simp
  pointwise

/-- The step before, at least zero. -/
theorem prev_at : after hostOps1_6 V (Proc.devRef .tc main_v43) (ix1 b) =
    IntOp.maxsi (IntOp.subi (V (Proc.devRef .tc main_arg1) (ix1 b)) 1#32) 0#32 := by
  simp only [hostOps1_6, TRef.binary, TRef.unary, TRef.nullary, TRef.quaternary, TRef.ternary, TRef.reshape, TRef.toBuf, TRef.ofBuf, cast_eq]
  after_reads_simp
  pointwise

/-- The row of scalars, out of its padding. -/
theorem row_at (n : Fin 128) : after hostOps1_14 V (Proc.devRef .tc main_v80) (ix4 h i 0 n) =
    V (Proc.devRef .tc main_v79) (ix2 ⟨h.val * 8 + i.val, by omega⟩ n) := by
  simp only [hostOps1_14, TRef.binary, TRef.unary, TRef.nullary, TRef.quaternary, TRef.ternary, TRef.reshape, TRef.toBuf, TRef.ofBuf, cast_eq]
  after_reads_simp
  pointwise

/-- The first five of the padded scalars are the stacked ones. -/
theorem row5_at (n : Fin 5) : after hostOps1_13 V (Proc.devRef .tc main_v79) (ix2 b ⟨n.val, by omega⟩) =
    V (Proc.devRef .tc main_v78) (ix2 b n) := by
  simp only [hostOps1_13, TRef.binary, TRef.unary, TRef.nullary, TRef.quaternary, TRef.ternary, TRef.reshape, TRef.toBuf, TRef.ofBuf, cast_eq]
  after_reads_simp
  pointwise

/-- The classes, laid out by halves. -/
theorem hot_at : after hostOps1_14 V (Proc.devRef .tc main_v81) (ix4 h i 0 p) =
    V (Proc.devRef .tc main_v1) (ix3 ⟨h.val * 8 + i.val, by omega⟩ 0 p) := by
  simp only [hostOps1_14, TRef.binary, TRef.unary, TRef.nullary, TRef.quaternary, TRef.ternary, TRef.reshape, TRef.toBuf, TRef.ofBuf, cast_eq]
  after_reads_simp
  pointwise

/-- The result is the second region's array, laid out anew. -/
theorem out_flat : after hostOps2 V (Proc.devRef .tc main_v83) (ix5 b d 0 y x) = V (Proc.devRef .tc main_v82)
    (ix4 ⟨b.val / 8, by omega⟩ ⟨b.val % 8, by omega⟩ d ⟨y.val * 64 + x.val, by omega⟩) := by
  simp only [hostOps2, TRef.binary, TRef.unary, TRef.nullary, TRef.quaternary, TRef.ternary, TRef.reshape, TRef.toBuf, TRef.ofBuf, cast_eq]
  after_reads_simp
  pointwise

/-- The first stacked scalar. -/
theorem row_0 : after hostOps1_12 V (Proc.devRef .tc main_v78) (ix2 b 0) = V (Proc.devRef .tc main_v44) (ix1 b) := by
  simp only [hostOps1_12, TRef.binary, TRef.unary, TRef.nullary, TRef.quaternary, TRef.ternary, TRef.reshape, TRef.toBuf, TRef.ofBuf, cast_eq]
  after_reads_simp
  simp only [Matrix.cons_val, Matrix.cons_val_zero, Matrix.cons_val_one]
  after_reads_simp
  pointwise

/-- The second stacked scalar. -/
theorem row_1 : after hostOps1_12 V (Proc.devRef .tc main_v78) (ix2 b 1) = V (Proc.devRef .tc main_v47) (ix1 b) := by
  simp only [hostOps1_12, TRef.binary, TRef.unary, TRef.nullary, TRef.quaternary, TRef.ternary, TRef.reshape, TRef.toBuf, TRef.ofBuf, cast_eq]
  after_reads_simp
  simp only [Matrix.cons_val, Matrix.cons_val_zero, Matrix.cons_val_one]
  after_reads_simp
  pointwise

/-- The third stacked scalar. -/
theorem row_2 : after hostOps1_12 V (Proc.devRef .tc main_v78) (ix2 b 2) =
    FloatOps.uitofp (F := Ideal) .f32 (IntOp.cmpi .eq (V (Proc.devRef .tc main_arg1) (ix1 b)) 0#32) := by
  simp only [hostOps1_12, TRef.binary, TRef.unary, TRef.nullary, TRef.quaternary, TRef.ternary, TRef.reshape, TRef.toBuf, TRef.ofBuf, cast_eq]
  after_reads_simp
  simp only [Matrix.cons_val, Matrix.cons_val_zero, Matrix.cons_val_one]
  after_reads_simp
  pointwise

/-- The fourth stacked scalar. -/
theorem row_3 : after hostOps1_12 V (Proc.devRef .tc main_v78) (ix2 b 3) =
    logAdd (V (Proc.devRef .tc main_v48) (ix1 b)) (minus (V (Proc.devRef .tc main_v49) (ix1 b)) log256) := by
  simp only [hostOps1_12, TRef.binary, TRef.unary, TRef.nullary, TRef.quaternary, TRef.ternary, TRef.reshape, TRef.toBuf, TRef.ofBuf, cast_eq]
  after_reads_simp
  simp only [Matrix.cons_val, Matrix.cons_val_zero, Matrix.cons_val_one]
  after_reads_simp
  pointwise
  rfl

/-- The fifth stacked scalar. -/
theorem row_4 : after hostOps1_12 V (Proc.devRef .tc main_v78) (ix2 b 4) =
    logAdd (plus (Ideal.ofBits .f32 0xC28A27B5#32) (V (Proc.devRef .tc main_v48) (ix1 b))) (minus (V (Proc.devRef .tc main_v49) (ix1 b)) log256) := by
  simp only [hostOps1_12, TRef.binary, TRef.unary, TRef.nullary, TRef.quaternary, TRef.ternary, TRef.reshape, TRef.toBuf, TRef.ofBuf, cast_eq]
  after_reads_simp
  simp only [Matrix.cons_val, Matrix.cons_val_zero, Matrix.cons_val_one]
  after_reads_simp
  pointwise
  rfl

/-- The cumulative complement over the classes. -/
theorem share_at : after hostOps1_9 V (Proc.devRef .tc main_v47) (ix1 b) =
    minus (V (Proc.devRef .tc main_v45) (ix1 b)) log256 := by
  simp only [hostOps1_9, TRef.binary, TRef.unary, TRef.nullary, TRef.quaternary, TRef.ternary, TRef.reshape, TRef.toBuf, TRef.ofBuf, cast_eq]
  after_reads_simp
  pointwise
  rfl
end

end Cert.KernelIdeal.Hand
end
-- ==== Proof.KTake.lean ====
module

public import proofs.«01_k».proof.Proof.Gen.KernelIdeal.Skeleton
public import proofs.«01_k».proof.Proof.KHost
public import Idealize.ShloMosaic.Lib.StableHlo.RunRead
public import Idealize.ShloMosaic.Lib.Pointwise

@[expose] public section

set_option maxRecDepth 16384

noncomputable section

namespace Cert.KernelIdeal.Hand

open Idealize.ShloMosaic.StableHlo Cert.KernelIdeal Cert.KernelIdeal.Gen Cert.Model Idealize.ShloMosaic Idealize.ShloMosaic.TcCoe Idealize.SL.Sem

/-- An entry of a table of 4000, at an index that may run out: from the end when negative, not a number outside. -/
def takeK (tab : FVec Ideal S4000 .f32) (j : IVec S16 32) (b : Fin 16) : EReal :=
  Scalar.select (Finset.fold IntOp.andi 1#1 (fun _ : Fin 1 => IntOp.andi
      (IntOp.cmpi .sge (Scalar.select (IntOp.cmpi .slt (j (ix1 b)) 0#32) (IntOp.addi (j (ix1 b)) 4000#32) (j (ix1 b))) 0#32)
      (IntOp.cmpi .sle (Scalar.select (IntOp.cmpi .slt (j (ix1 b)) 0#32) (IntOp.addi (j (ix1 b)) 4000#32) (j (ix1 b))) 3999#32))
      Finset.univ)
    (Host.gather gather_S4000_S16x1_S16_n_0_n_n_0_1_1 tab (broadcastInDim S16x1 ![0] bcast_S16_S16x1_0
      (select (cmpi .slt j (broadcastInDim S16 ![] bcast_S_S16 (constantI S_ 32 0#32)))
        (addi j (broadcastInDim S16 ![] bcast_S_S16 (constantI S_ 32 4000#32))) j)) (ix1 b))
    (Ideal.ofBits .f32 2143289344#32)

section
variable (V : Vals) (b : Fin 16)

/-- The kernel's read of the cumulative logarithm. -/
theorem take_lca : after hostOps1_7 V (Proc.devRef .tc main_v44) (ix1 b) =
    takeK (V (Proc.devRef .tc main_cst_1)) (V (Proc.devRef .tc main_v43)) b := by
  simp only [hostOps1_7, TRef.binary, TRef.unary, TRef.nullary, TRef.quaternary, TRef.ternary, TRef.reshape, TRef.toBuf, TRef.ofBuf, cast_eq]
  after_reads_simp
  pointwise
  rfl

/-- The kernel's read of the cumulative complement. -/
theorem take_l1ca : after hostOps1_8 V (Proc.devRef .tc main_v45) (ix1 b) =
    takeK (V (Proc.devRef .tc main_cst_2)) (V (Proc.devRef .tc main_v43)) b := by
  simp only [hostOps1_8, TRef.binary, TRef.unary, TRef.nullary, TRef.quaternary, TRef.ternary, TRef.reshape, TRef.toBuf, TRef.ofBuf, cast_eq]
  after_reads_simp
  pointwise
  rfl

/-- The kernel's read of the step's logarithm. -/
theorem take_la : after hostOps1_10 V (Proc.devRef .tc main_v48) (ix1 b) =
    takeK (V (Proc.devRef .tc main_cst)) (V (Proc.devRef .tc main_arg1)) b := by
  simp only [hostOps1_10, TRef.binary, TRef.unary, TRef.nullary, TRef.quaternary, TRef.ternary, TRef.reshape, TRef.toBuf, TRef.ofBuf, cast_eq]
  after_reads_simp
  pointwise
  rfl

/-- The kernel's read of the step's complement. -/
theorem take_l1a : after hostOps1_11 V (Proc.devRef .tc main_v49) (ix1 b) =
    takeK (V (Proc.devRef .tc main_cst_0)) (V (Proc.devRef .tc main_arg1)) b := by
  simp only [hostOps1_11, TRef.binary, TRef.unary, TRef.nullary, TRef.quaternary, TRef.ternary, TRef.reshape, TRef.toBuf, TRef.ofBuf, cast_eq]
  after_reads_simp
  pointwise
  rfl
end

end Cert.KernelIdeal.Hand
end
-- ==== Proof.First.lean ====
module

public import proofs.«01_k».proof.Proof.Model
public import Idealize.ShloMosaic.Lib.Pointwise

@[expose] public section

noncomputable section

/-! The first class whose number is the largest: what it is, that there is one only, and that it depends on the order
of the numbers alone. -/

namespace Cert.Model

open Idealize.ShloMosaic

variable {f g : Fin 256 → EReal} {r s : BitVec 32}

/-- The word is the first class whose number is the largest. -/
def IsFirst (f : Fin 256 → EReal) (r : BitVec 32) : Prop :=
  ∃ k : Fin 256, r = BitVec.ofNat 32 k ∧ (∀ j, f j ≤ f k) ∧ ∀ j, f j = f k → k ≤ j

/-- There is one first largest class only. -/
theorem IsFirst.unique (h : IsFirst f r) (h' : IsFirst f s) : r = s := by
  obtain ⟨k, rfl, hk, mk⟩ := h
  obtain ⟨l, rfl, hl, ml⟩ := h'
  have e : f l = f k := le_antisymm (hk l) (hl k)
  rw [le_antisymm (mk l e) (ml k e.symm)]

/-- The first largest class depends on the order of the numbers alone. -/
theorem IsFirst.of_order (h : IsFirst f r) (e : ∀ j k, f j ≤ f k ↔ g j ≤ g k) : IsFirst g r := by
  obtain ⟨k, rfl, hk, mk⟩ := h
  exact ⟨k, rfl, fun j => (e j k).mp (hk j), fun j hj => mk j (le_antisymm (hk j) ((e k j).mpr hj.ge))⟩

/-- The word of minus infinity. -/
theorem neg_inf : Ideal.ofBits .f32 0xFF800000#32 = ⊥ := by simp [Ideal.ofBits, Ideal.ieee]

/-- Each number is at most the largest. -/
theorem le_colMax (f : Fin 256 → EReal) (k : Fin 256) : f k ≤ colMax f :=
  (Finset.le_fold_max _).mpr (Or.inr ⟨k, Finset.mem_univ _, le_rfl⟩)

/-- The largest number is at most any bound of them all. -/
theorem colMax_le {m : EReal} (h : ∀ k, f k ≤ m) : colMax f ≤ m :=
  (Finset.fold_max_le _).mpr ⟨by rw [neg_inf]; exact bot_le, fun k _ => h k⟩

/-- The largest number is one of them. -/
theorem exists_colMax (f : Fin 256 → EReal) : ∃ k, f k = colMax f := by
  obtain ⟨k, -, hk⟩ := Finset.exists_max_image Finset.univ f ⟨0, Finset.mem_univ 0⟩
  exact ⟨k, le_antisymm (le_colMax f k) (colMax_le fun j => hk j (Finset.mem_univ j))⟩

/-- A word up to 256, read with its sign, is the number. -/
theorem toInt_small {n : ℕ} (h : n ≤ 256) : (BitVec.ofNat 32 n).toInt = n := by
  rw [BitVec.toInt_eq_toNat_of_lt (by rw [BitVec.toNat_ofNat]; omega), BitVec.toNat_ofNat]
  omega

/-- The smaller of two words, read with its sign. -/
theorem minsi_toInt (a b : BitVec 32) : (IntOp.minsi a b).toInt = min a.toInt b.toInt := by
  unfold IntOp.minsi
  simp only [BitVec.slt_eq_decide, BitVec.sle_eq_decide, decide_eq_true_eq]
  split <;> omega

/-- The least of a fold of signed minima is a lower bound, and one of the folded words. -/
theorem fold_minsi (p : Fin 256 → BitVec 32) (t : Finset (Fin 256)) (b : BitVec 32) :
    (Finset.fold IntOp.minsi b p t = b ∨ ∃ k ∈ t, Finset.fold IntOp.minsi b p t = p k) ∧
    ∀ k ∈ t, (Finset.fold IntOp.minsi b p t).toInt ≤ (p k).toInt := by
  induction t using Finset.induction_on with
  | empty => simp
  | insert a t ha ih =>
    rw [Finset.fold_insert ha]
    have hm := minsi_toInt (p a) (Finset.fold IntOp.minsi b p t)
    refine ⟨?_, fun k hk => ?_⟩
    · rcases le_total (p a).toInt (Finset.fold IntOp.minsi b p t).toInt with h | h
      · exact Or.inr ⟨a, Finset.mem_insert_self _ _, BitVec.eq_of_toInt_eq (by rw [hm, min_eq_left h])⟩
      · have e : IntOp.minsi (p a) (Finset.fold IntOp.minsi b p t) = Finset.fold IntOp.minsi b p t :=
          BitVec.eq_of_toInt_eq (by rw [hm, min_eq_right h])
        rw [e]
        rcases ih.1 with h1 | ⟨k, hk, h1⟩
        · exact Or.inl h1
        · exact Or.inr ⟨k, Finset.mem_insert_of_mem hk, h1⟩
    · rw [hm]
      rcases Finset.mem_insert.mp hk with rfl | hk
      · exact min_le_left _ _
      · exact (min_le_right _ _).trans (ih.2 k hk)

/-- The kernel's search finds the first of the largest. -/
theorem firstMax_isFirst (f : Fin 256 → EReal) : IsFirst f (firstMax f) := by
  have h := fold_minsi (fun k : Fin 256 => if f k = colMax f then BitVec.ofNat 32 k else 256#32) Finset.univ 2147483647#32
  obtain ⟨k0, h0⟩ := exists_colMax f
  have hle := h.2 k0 (Finset.mem_univ _)
  simp only [h0, if_true] at hle
  rw [toInt_small (by omega)] at hle
  have h255 : (firstMax f).toInt ≤ 255 := hle.trans (by omega)
  have hk : ∃ k : Fin 256, f k = colMax f ∧ firstMax f = BitVec.ofNat 32 k := by
    rcases h.1 with h1 | ⟨k, -, h1⟩
    · exfalso
      rw [show firstMax f = 2147483647#32 from h1] at h255
      revert h255; decide
    · by_cases hf : f k = colMax f
      · exact ⟨k, hf, h1.trans (if_pos hf)⟩
      · exfalso
        rw [show firstMax f = 256#32 from h1.trans (if_neg hf)] at h255
        revert h255; decide
  obtain ⟨k, hf, hr⟩ := hk
  refine ⟨k, hr, fun j => hf ▸ le_colMax f j, fun j hj => ?_⟩
  have hj' := h.2 j (Finset.mem_univ _)
  simp only [hj.trans hf, if_true] at hj'
  rw [toInt_small (by omega)] at hj'
  have hk' : (firstMax f).toInt ≤ (j.val : ℤ) := hj'
  rw [hr, toInt_small (by omega)] at hk'
  exact Fin.le_def.mpr (by omega)

/-- One pair is no better than another: smaller, or equal and no earlier. -/
def Below (p q : EReal × BitVec 32) : Prop := p.1 < q.1 ∨ p.1 = q.1 ∧ q.2.toInt ≤ p.2.toInt

/-- Each pair is as good as itself. -/
theorem Below.refl (p : EReal × BitVec 32) : Below p p := Or.inr ⟨rfl, le_rfl⟩

/-- Being no better than is transitive. -/
theorem Below.trans {p q r : EReal × BitVec 32} (h : Below p q) (h' : Below q r) : Below p r := by
  rcases h with h | ⟨h, i⟩ <;> rcases h' with h' | ⟨h', i'⟩
  · exact Or.inl (h.trans h')
  · exact Or.inl (h' ▸ h)
  · exact Or.inl (h ▸ h')
  · exact Or.inr ⟨h.trans h', i'.trans i⟩

/-- A fold by a choice of the better pair ends at a pair of the list that none is better than. -/
theorem foldl_best (c : EReal × BitVec 32 → EReal × BitVec 32 → EReal × BitVec 32)
    (hc : ∀ p q, (c p q = p ∨ c p q = q) ∧ Below p (c p q) ∧ Below q (c p q)) (l : List (EReal × BitVec 32)) (a : EReal × BitVec 32) :
    (l.foldl c a = a ∨ l.foldl c a ∈ l) ∧ Below a (l.foldl c a) ∧ ∀ p ∈ l, Below p (l.foldl c a) := by
  induction l generalizing a with
  | nil => exact ⟨Or.inl rfl, Below.refl a, fun p hp => absurd hp (List.not_mem_nil)⟩
  | cons q l ih =>
    obtain ⟨h1, h2, h3⟩ := ih (c a q)
    obtain ⟨e, ha, hq⟩ := hc a q
    rw [List.foldl_cons]
    refine ⟨?_, ha.trans h2, fun p hp => ?_⟩
    · rcases h1 with h1 | h1
      · rw [h1]
        rcases e with e | e
        · exact Or.inl e
        · exact Or.inr (by rw [e]; exact List.mem_cons_self)
      · exact Or.inr (List.mem_cons_of_mem _ h1)
    · rcases List.mem_cons.mp hp with rfl | hp
      · exact hq.trans h2
      · exact h3 p hp

/-- Such a fold over the classes and their numbers, from the least number and class zero, finds the first of the largest. -/
theorem foldl_isFirst (c : EReal × BitVec 32 → EReal × BitVec 32 → EReal × BitVec 32)
    (hc : ∀ p q, (c p q = p ∨ c p q = q) ∧ Below p (c p q) ∧ Below q (c p q)) (l : List (EReal × BitVec 32))
    (hl : ∀ p, p ∈ l ↔ ∃ k : Fin 256, p = (f k, BitVec.ofNat 32 k)) : IsFirst f (l.foldl c (⊥, 0#32)).2 := by
  obtain ⟨h1, h2, h3⟩ := foldl_best c hc l (⊥, 0#32)
  have hk : ∃ k : Fin 256, (l.foldl c (⊥, 0#32)).2 = BitVec.ofNat 32 k ∧ f k = (l.foldl c (⊥, 0#32)).1 := by
    rcases h1 with h1 | h1
    · rw [h1]
      refine ⟨0, rfl, ?_⟩
      rcases h1 ▸ h3 _ ((hl _).mpr ⟨0, rfl⟩) with h | ⟨h, -⟩
      · exact absurd h not_lt_bot
      · exact h
    · obtain ⟨k, hk⟩ := (hl _).mp h1
      exact ⟨k, by rw [hk], by rw [hk]⟩
  obtain ⟨k, hk, hf⟩ := hk
  refine ⟨k, hk, fun j => ?_, fun j hj => ?_⟩
  · rcases h3 _ ((hl _).mpr ⟨j, rfl⟩) with h | ⟨h, -⟩
    · exact hf ▸ h.le
    · exact hf ▸ h.le
  · rcases h3 _ ((hl _).mpr ⟨j, rfl⟩) with h | ⟨-, h⟩
    · rw [hj, hf] at h
      exact absurd h (lt_irrefl _)
    · rw [hk, toInt_small (by omega), toInt_small (by omega)] at h
      exact Fin.le_def.mpr (by omega)

end Cert.Model

end
-- ==== Proof.Pix.lean ====
module

public import proofs.«01_k».proof.Proof.Model

@[expose] public section

noncomputable section

/-! What a pixel's classes come to, from the whole arrays: the network's logits, the posterior and its
normalisation. -/

namespace Cert.Model

open Idealize.ShloMosaic

/-- The image's value of a class: the class over 255. -/
def img (h : BitVec 32) : EReal := Ideal.div (FloatOps.sitofp (F := Ideal) .f32 h) (Ideal.ofBits .f32 1132396544#32)

/-- The step over 4000. -/
def time (t : BitVec 32) : EReal := Ideal.div (FloatOps.sitofp (F := Ideal) .f32 t) (Ideal.ofBits .f32 1165623296#32)

/-- A picture with a border of one, holding `z`. -/
def edge (f : Fin 64 → Fin 64 → EReal) (z : EReal) (y x : ℕ) : EReal :=
  if h : (1 ≤ y ∧ y - 1 < 64) ∧ 1 ≤ x ∧ x - 1 < 64 then f ⟨y - 1, h.1.2⟩ ⟨x - 1, h.2.2⟩ else z

/-- The nine products of a bordered picture's neighbourhood, in order. -/
def conv9 (w : Fin 3 → Fin 3 → EReal) (f : ℕ → ℕ → EReal) (y x : Fin 64) : EReal :=
  w 0 0 * f y x + w 0 1 * f y (1 + x) + w 0 2 * f y (2 + x) +
    w 1 0 * f (1 + y) x + w 1 1 * f (1 + y) (1 + x) + w 1 2 * f (1 + y) (2 + x) +
    w 2 0 * f (2 + y) x + w 2 1 * f (2 + y) (1 + x) + w 2 2 * f (2 + y) (2 + x)

/-- A class's logit at a pixel. -/
def logit (w : Fin 3 → Fin 3 → EReal) (bias : EReal) (t : BitVec 32) (hot : Fin 64 → Fin 64 → BitVec 32) (y x : Fin 64)
    (c : Fin 256) : EReal :=
  conv9 w (edge (fun y x => img (hot y x)) 0) y x + (bias + time t) + (if BitVec.ofNat 32 c = hot y x then 1 else 0)

/-- A number where it is a real, else zero. -/
def stable (m : EReal) : EReal := if FloatOps.absf (F := Ideal) (φ := .f32) m < Ideal.ofBits .f32 2139095040#32 then m else 0

/-- The numbers less their log-sum-exp, kept stable by the largest. -/
def normed (f : Fin 256 → EReal) (c : Fin 256) : EReal :=
  f c - (Ideal.log (∑ k, Ideal.exp (f k - stable (colMax f))) + stable (colMax f))

end Cert.Model

end
-- ==== Proof.Bounds.lean ====
module

public import proofs.«01_k».proof.Proof.First
public import proofs.«01_k».proof.Proof.Pix

@[expose] public section

noncomputable section

/-! Bounds on the posterior's parts: none is ever infinite above, so taking off its log-sum-exp keeps the order of the
classes. -/

namespace Cert.Model

open Idealize.ShloMosaic

/-- An exponential is at least zero. -/
theorem exp_nonneg (x : EReal) : 0 ≤ Ideal.exp x := by
  induction x using EReal.rec with
  | bot => exact le_rfl
  | top => exact le_top
  | coe r => exact EReal.coe_nonneg.mpr (Real.exp_pos r).le

/-- The exponential of a number at most zero is at most one. -/
theorem exp_le_one {x : EReal} (h : x ≤ 0) : Ideal.exp x ≤ 1 := by
  induction x using EReal.rec with
  | bot => exact zero_le_one
  | top => exact absurd h (by simp)
  | coe r => exact EReal.coe_le_coe_iff.mpr (Real.exp_le_one_iff.mpr (EReal.coe_nonpos.mp h))

/-- Only the exponential of minus infinity is zero. -/
theorem exp_eq_zero {x : EReal} (h : Ideal.exp x = 0) : x = ⊥ := by
  induction x using EReal.rec with
  | bot => rfl
  | top => exact absurd (show (⊤ : EReal) = 0 from h) (by simp)
  | coe r => exact absurd (EReal.coe_eq_zero.mp h) (Real.exp_pos r).ne'

/-- The logarithm of a number below infinity is below infinity. -/
theorem log_lt_top {x : EReal} (h : x ≠ ⊤) : Ideal.log x < ⊤ := by
  induction x using EReal.rec with
  | bot => exact bot_lt_top
  | top => exact absurd rfl h
  | coe r =>
    show (if r ≤ 0 then ⊥ else (Real.log r : EReal)) < ⊤
    split
    · exact bot_lt_top
    · exact EReal.coe_lt_top _

/-- The logarithm of a positive number is above minus infinity. -/
theorem log_ne_bot {x : EReal} (h : 0 < x) : Ideal.log x ≠ ⊥ := by
  induction x using EReal.rec with
  | bot => exact absurd h (by simp)
  | top => exact top_ne_bot
  | coe r =>
    show (if r ≤ 0 then ⊥ else (Real.log r : EReal)) ≠ ⊥
    rw [if_neg (not_le.mpr (EReal.coe_pos.mp h))]
    exact EReal.coe_ne_bot _

/-- A number less one at least as large is at most zero. -/
theorem sub_nonpos' {x m : EReal} (h : x ≤ m) : x - m ≤ 0 := by
  induction m using EReal.rec with
  | bot => rw [le_bot_iff.mp h]; simp
  | top => simp
  | coe r =>
    induction x using EReal.rec with
    | bot => simp
    | top => exact absurd h (by simp)
    | coe q => exact_mod_cast _root_.sub_nonpos.mpr (EReal.coe_le_coe_iff.mp h)

/-- The stable log of the sum of two exponentials is never infinite above. -/
theorem logAdd_lt_top (p q : EReal) : logAdd p q < ⊤ := by
  unfold logAdd
  rcases eq_or_ne (max p q) ⊤ with h | h
  · have e : ∀ x : EReal, Ideal.exp (x - ⊤) = 0 := fun x => by
      rw [sub_eq_add_neg, EReal.neg_top, EReal.add_bot]; rfl
    have l : Ideal.log 0 = ⊥ := if_pos le_rfl
    rw [h, e, e, add_zero, l, EReal.add_bot]
    exact bot_lt_top
  · refine EReal.add_lt_top h (log_lt_top ?_).ne
    have hp := exp_le_one (sub_nonpos' (le_max_left p q))
    have hq := exp_le_one (sub_nonpos' (le_max_right p q))
    refine (EReal.add_lt_top ?_ ?_).ne
    · exact (hp.trans_lt (EReal.coe_lt_top 1)).ne
    · exact (hq.trans_lt (EReal.coe_lt_top 1)).ne

variable (f : Fin 256 → EReal)

/-- The sum of the exponentials of numbers that are none above zero is a real. -/
theorem sum_exp_ne_top (h : ∀ k, f k ≤ 0) : ∑ k, Ideal.exp (f k) ≠ ⊤ := by
  have : ∑ k : Fin 256, Ideal.exp (f k) ≤ ∑ k : Fin 256, (1 : EReal) := Finset.sum_le_sum fun k _ => exp_le_one (h k)
  refine (this.trans_lt ?_).ne
  rw [Finset.sum_const, Finset.card_univ, Fintype.card_fin, nsmul_one]
  exact_mod_cast EReal.coe_lt_top (256 : ℝ)

/-- A log-softmax is never infinite above. -/
theorem logSoft_lt_top (c : Fin 256) : logSoft f c < ⊤ := by
  unfold logSoft
  have hx := sub_nonpos' (le_colMax f c)
  rcases eq_or_ne (f c - colMax f) ⊥ with h | h
  · rw [h, EReal.bot_sub]; exact bot_lt_top
  · have hpos : 0 < ∑ k, Ideal.exp (f k - colMax f) := by
      refine lt_of_lt_of_le (lt_of_le_of_ne (exp_nonneg _) fun e => h (exp_eq_zero e.symm))
        (Finset.single_le_sum (fun k _ => exp_nonneg (f k - colMax f)) (Finset.mem_univ c))
    rw [sub_eq_add_neg]
    refine EReal.add_lt_top (hx.trans_lt (EReal.coe_lt_top 0)).ne fun e => log_ne_bot hpos (EReal.neg_eq_top_iff.mp e)

/-- Adding a real to both sides keeps and reflects the order. -/
theorem add_real_le (x y : EReal) (r : ℝ) : x + r ≤ y + r ↔ x ≤ y := by
  refine ⟨fun h => ?_, fun h => add_le_add_left h _⟩
  have e : ∀ z : EReal, z + r + ((-r : ℝ) : EReal) = z := fun z => by
    rw [add_assoc, ← EReal.coe_add, add_neg_cancel, EReal.coe_zero, add_zero]
  have := add_le_add_left h ((-r : ℝ) : EReal)
  rwa [e, e] at this

/-- Normalised, the classes are either all at minus infinity, as before, or all less by the same real. -/
theorem normed_shift (h : ∀ k, f k < ⊤) :
    (∀ k, f k = ⊥ ∧ normed f k = ⊥) ∨ ∃ r : ℝ, ∀ k, normed f k = f k + r := by
  obtain ⟨k0, h0⟩ := exists_colMax f
  rcases eq_or_ne (colMax f) ⊥ with hb | hb
  · left
    intro k
    have : f k = ⊥ := le_bot_iff.mp (hb ▸ le_colMax f k)
    exact ⟨this, by rw [normed, this, EReal.bot_sub]⟩
  · right
    have ht : colMax f ≠ ⊤ := h0 ▸ (h k0).ne
    lift colMax f to ℝ using ⟨ht, hb⟩ with m hm
    have hs : stable (colMax f) = m := by
      rw [← hm, stable, if_pos]
      rw [Ideal.absf_def, show Ideal.ofBits .f32 2139095040#32 = ⊤ by simp [Ideal.ofBits, Ideal.ieee]]
      exact max_lt (EReal.coe_lt_top m) (by rw [← EReal.coe_neg]; exact EReal.coe_lt_top _)
    have hS : ∑ k, Ideal.exp (f k - m) ≠ ⊤ := sum_exp_ne_top _ fun k => sub_nonpos' (hm ▸ le_colMax f k)
    have hpos : 0 < ∑ k, Ideal.exp (f k - m) := by
      refine lt_of_lt_of_le (lt_of_le_of_ne (exp_nonneg _) fun e => ?_)
        (Finset.single_le_sum (fun k _ => exp_nonneg (f k - (m : EReal))) (Finset.mem_univ k0))
      have := exp_eq_zero e.symm
      rw [h0, ← EReal.coe_sub] at this
      exact EReal.coe_ne_bot _ this
    have hl := (log_lt_top hS).ne
    have hl' := log_ne_bot hpos
    obtain ⟨l, hl⟩ : ∃ l : ℝ, (l : EReal) = Ideal.log (∑ k, Ideal.exp (f k - m)) := ⟨_, EReal.coe_toReal hl hl'⟩
    refine ⟨-(l + m), fun k => ?_⟩
    rw [normed, hs, ← hl, EReal.coe_neg, EReal.coe_add]
    rfl

/-- Taking off the log-sum-exp keeps the order of the classes, whatever is added to each. -/
theorem normed_order (n : Fin 256 → EReal) (h : ∀ k, f k < ⊤) (j k : Fin 256) :
    n j + normed f j ≤ n k + normed f k ↔ f j + n j ≤ f k + n k := by
  rcases normed_shift f h with e | ⟨r, e⟩
  · rw [(e j).1, (e j).2, (e k).1, (e k).2]; simp
  · have c : ∀ k, n k + normed f k = f k + n k + r := fun k => by rw [e k, ← add_assoc, add_comm (n k)]
    rw [c j, c k, add_real_le]

end Cert.Model

end
-- ==== Proof.Facts.lean ====
module

public import proofs.«01_k».proof.Proof.Bounds
public import proofs.«01_k».proof.Proof.WordEqs

@[expose] public section

noncomputable section

/-! Facts about the words and numbers the two programs write differently: the uniform number's range, the comparisons,
the clamp of the step before, and the one-hot column. -/

namespace Cert.Model

open Idealize.ShloMosaic

/-- The comparison of two words as a number: one or zero. -/
theorem cmpi_eq_word (p q : BitVec 32) : FloatOps.uitofp (F := Ideal) .f32 (IntOp.cmpi .eq p q) = if p = q then (1 : EReal) else 0 := by
  show (((IntOp.cmpi .eq p q).toNat : ℝ) : EReal) = _
  by_cases h : p = q
  · subst h; simp [IntOp.cmpi]
  · have hb : (p == q) = false := by simpa using h
    simp [IntOp.cmpi, h, hb]

/-- Only the word zero is the number zero. -/
theorem sitofp_eq_zero (t : BitVec 32) : FloatOps.sitofp (F := Ideal) .f32 t = (0 : EReal) ↔ t = 0#32 := by
  show ((t.toInt : ℝ) : EReal) = 0 ↔ _
  rw [EReal.coe_eq_zero, Int.cast_eq_zero]
  exact ⟨fun h => BitVec.eq_of_toInt_eq (by simpa using h), fun h => by subst h; rfl⟩

/-- The word of one half. -/
theorem half : Ideal.ofBits .f32 0x3F000000#32 = ((1 / 2 : ℝ) : EReal) := by
  simp [Ideal.ofBits, Ideal.ieee]
  rw [← EReal.coe_mul]
  norm_num

/-- The flag of step zero is above one half at step zero only. -/
theorem flag (t : BitVec 32) : Ideal.ofBits .f32 0x3F000000#32 < FloatOps.uitofp (F := Ideal) .f32 (IntOp.cmpi .eq t 0#32) ↔ t = 0#32 := by
  rw [cmpi_eq_word, half]
  by_cases h : t = 0#32
  · simp only [h, if_true, iff_true]
    exact_mod_cast (by norm_num : (1 / 2 : ℝ) < 1)
  · simp only [h, if_false, iff_false, not_lt]
    exact_mod_cast (by norm_num : (0 : ℝ) ≤ 1 / 2)

/-- Zero where the word is negative is the larger of it and zero. -/
theorem clamp (a : BitVec 32) : Scalar.select (IntOp.cmpi .slt a 0#32) 0#32 a = IntOp.maxsi a 0#32 := by
  unfold IntOp.maxsi Scalar.select IntOp.cmpi
  rcases lt_trichotomy a.toInt 0 with h | h | h
  · have h1 : a.slt 0#32 = true := by simpa [BitVec.slt_eq_decide] using h
    have h2 : (0#32).slt a = false := by simpa [BitVec.slt_eq_decide] using h.le
    simp [h1, h2]
  · have : a = 0#32 := BitVec.eq_of_toInt_eq (by simpa using h)
    subst this; rfl
  · have h1 : a.slt 0#32 = false := by simpa [BitVec.slt_eq_decide] using h.le
    have h2 : (0#32).slt a = true := by simpa [BitVec.slt_eq_decide] using h
    simp [h1, h2]

/-- The number built from a random word's upper bits is at least one. -/
theorem one_le_frac (w : BitVec 32) : (1 : EReal) ≤ Ideal.ofBits .f32 (w >>> 9 ||| 1065353216#32) := by
  set v : BitVec 32 := w >>> 9 ||| 1065353216#32 with hv
  have hn : v.toNat = 1065353216 + w.toNat / 512 := by
    rw [hv, BitVec.toNat_or, BitVec.toNat_ushiftRight, Nat.shiftRight_eq_div_pow]
    have h := Nat.two_pow_add_eq_or_of_lt (i := 23) (b := w.toNat / 512) (by have := w.isLt; omega) 127
    rw [Nat.or_comm]
    exact h.symm
  have hw := w.isLt
  show (1 : EReal) ≤ Ideal.ieee 8 23 v
  have h1 : (v.extractLsb' (8 + 23) 1 == 1#1) = false := by
    rw [beq_eq_false_iff_ne]
    intro e
    have := congrArg BitVec.toNat e
    rw [BitVec.extractLsb'_toNat, hn, Nat.shiftRight_eq_div_pow] at this
    simp at this
    omega
  have h2 : (v.extractLsb' 23 8).toNat = 127 := by
    rw [BitVec.extractLsb'_toNat, hn, Nat.shiftRight_eq_div_pow]
    omega
  unfold Ideal.ieee
  simp only [h1, h2]
  rw [if_neg (by norm_num), if_neg (by norm_num)]
  rw [← EReal.coe_one, EReal.coe_le_coe_iff]
  norm_num
  have : (0 : ℝ) ≤ ((v.toNat % 8388608 : ℕ) : ℝ) := Nat.cast_nonneg _
  linarith

/-- The reference's uniform number is the kernel's. -/
theorem uniform_eq (v : EReal) (h : 1 ≤ v) : max 0 ((v - 1) * (1 - 0) + 0) = v - 1 := by
  rw [sub_zero, mul_one, add_zero]
  refine max_eq_right ?_
  induction v using EReal.rec with
  | bot => exact absurd h (not_le.mpr (EReal.bot_lt_coe 1))
  | top => exact le_top
  | coe r => exact_mod_cast sub_nonneg.mpr (by exact_mod_cast h)

/-- The logarithm of a cold entry. -/
def cold : EReal := Ideal.ofBits .f32 0xC28A27B5#32

/-- A cold entry is below minus one. -/
theorem cold_lt : cold < Ideal.ofBits .f32 3212836864#32 := by
  have h1 : cold = ((-(9054133 / 131072) : ℝ) : EReal) := by
    simp [cold, Ideal.ofBits, Ideal.ieee]
    rw [← EReal.coe_mul]
    norm_num
  have h2 : Ideal.ofBits .f32 3212836864#32 = ((-1 : ℝ) : EReal) := by
    simp [Ideal.ofBits, Ideal.ieee]
    rw [← EReal.coe_mul, ← EReal.coe_one]
    norm_num
  rw [h1, h2, EReal.coe_lt_coe_iff]
  norm_num

/-- Minus one is below zero. -/
theorem neg_one_lt : Ideal.ofBits .f32 3212836864#32 < (0 : EReal) := by
  have h2 : Ideal.ofBits .f32 3212836864#32 = ((-1 : ℝ) : EReal) := by
    simp [Ideal.ofBits, Ideal.ieee]
    rw [← EReal.coe_mul, ← EReal.coe_one]
    norm_num
  rw [h2]
  exact_mod_cast (by norm_num : (-1 : ℝ) < 0)

/-- The numbers of a pixel's classes are one zero and else the cold entry. -/
def OneHot (f : Fin 256 → EReal) (k : Fin 256) : Prop := f k = 0 ∧ ∀ j, j ≠ k → f j = cold

/-- In a one-hot column the first largest class is the hot one. -/
theorem OneHot.isFirst {f : Fin 256 → EReal} {k : Fin 256} (h : OneHot f k) : IsFirst f (BitVec.ofNat 32 k) := by
  have hc := cold_lt.trans neg_one_lt
  refine ⟨k, rfl, fun j => ?_, fun j hj => ?_⟩
  · rcases eq_or_ne j k with rfl | e
    · exact le_rfl
    · rw [h.1, h.2 j e]; exact hc.le
  · rcases eq_or_ne j k with rfl | e
    · exact le_rfl
    · rw [h.1, h.2 j e] at hj; exact absurd hj hc.ne

/-- Adding the class numbers of the entries above minus one finds the zero's class. -/
theorem OneHot.scan {f : Fin 256 → EReal} {k : Fin 256} (h : OneHot f k) :
    Finset.fold IntOp.addi 0#32 (fun j : Fin 256 => if Ideal.ofBits .f32 3212836864#32 < f j then BitVec.ofNat 32 j.val else 0#32) Finset.univ =
      BitVec.ofNat 32 k := by
  have e : ∀ t : Finset (Fin 256), k ∉ t → Finset.fold IntOp.addi 0#32 (fun j : Fin 256 =>
      if Ideal.ofBits .f32 3212836864#32 < f j then BitVec.ofNat 32 j.val else 0#32) t = 0#32 := by
    intro t
    induction t using Finset.induction_on with
    | empty => intro _; rfl
    | insert a t ha ih =>
      intro hk
      rw [Finset.fold_insert ha, ih fun m => hk (Finset.mem_insert_of_mem m), h.2 a fun e => hk (e ▸ Finset.mem_insert_self _ _),
        if_neg cold_lt.not_gt]
      rfl
  rw [← Finset.insert_erase (Finset.mem_univ k), Finset.fold_insert (Finset.notMem_erase _ _), e _ (Finset.notMem_erase _ _), h.1, if_pos neg_one_lt]
  exact BitVec.add_zero _

/-- Different classes are different words. -/
theorem ofNat_inj {j k : Fin 256} (h : BitVec.ofNat 32 j.val = BitVec.ofNat 32 k.val) : j = k := by
  have := congrArg BitVec.toInt h
  rw [toInt_small (by omega), toInt_small (by omega)] at this
  exact Fin.ext (by exact_mod_cast this)

/-- Entries that are zero or cold, with one zero as the count of the equal ones says. -/
theorem oneHot_of_count {f : Fin 256 → EReal} (h : ∀ j, f j = 0 ∨ f j = cold)
    (n : Finset.fold IntOp.addi 0#32 (fun j : Fin 256 => if f j = 0 then 1#32 else 0#32) Finset.univ = 1#32) : ∃ k, OneHot f k := by
  have e : ∀ t : Finset (Fin 256), Finset.fold IntOp.addi 0#32 (fun j : Fin 256 => if f j = 0 then 1#32 else 0#32) t =
      BitVec.ofNat 32 (t.filter fun j => f j = 0).card := by
    intro t
    induction t using Finset.induction_on with
    | empty => rfl
    | insert a t ha ih =>
      rw [Finset.fold_insert ha, ih, Finset.filter_insert]
      by_cases hz : f a = 0
      · rw [if_pos hz, if_pos hz, Finset.card_insert_of_notMem (by simp [ha]), BitVec.ofNat_add]
        exact BitVec.add_comm _ _
      · rw [if_neg hz, if_neg hz]
        exact BitVec.zero_add _
  rw [e] at n
  have hc : ((Finset.univ : Finset (Fin 256)).filter fun j => f j = 0).card ≤ 256 := (Finset.card_filter_le _ _).trans (by simp)
  have n' := congrArg BitVec.toInt n
  rw [toInt_small hc] at n'
  have n1 : ((Finset.univ : Finset (Fin 256)).filter fun j => f j = 0).card = 1 := by
    have : (1#32).toInt = 1 := rfl
    omega
  obtain ⟨k, hk⟩ := Finset.card_eq_one.mp n1
  have hm : ∀ j, f j = 0 ↔ j = k := fun j => by
    have := Finset.ext_iff.mp hk j
    simpa using this
  exact ⟨k, (hm k).mpr rfl, fun j hj => (h j).resolve_left fun z => hj ((hm j).mp z)⟩

/-- The small number as a fraction. -/
theorem tiny_real : tiny = ((332307 / 332306998946228968225951765070086144 : ℝ) : EReal) := by
  simp [tiny, Ideal.ofBits, Ideal.ieee]
  rw [← EReal.coe_mul]
  norm_num

/-- The logarithm of a clipped one-hot entry. -/
theorem clip_log (p : Prop) [Decidable p] : Ideal.log (min 1 (max tiny (if p then 1 else 0))) =
    if p then 0 else ((Real.log (332307 / 332306998946228968225951765070086144) : ℝ) : EReal) := by
  have h0 : (0 : EReal) < tiny := by rw [tiny_real]; exact_mod_cast (by norm_num : (0 : ℝ) < 332307 / 332306998946228968225951765070086144)
  have h1 : tiny < 1 := by rw [tiny_real]; exact_mod_cast (by norm_num : (332307 / 332306998946228968225951765070086144 : ℝ) < 1)
  split
  · rw [max_eq_right h1.le, min_self]
    show (if (1 : ℝ) ≤ 0 then ⊥ else (Real.log 1 : EReal)) = 0
    rw [if_neg (by norm_num), Real.log_one, EReal.coe_zero]
  · rw [max_eq_left h0.le, min_eq_right h1.le, tiny_real]
    show (if (332307 / 332306998946228968225951765070086144 : ℝ) ≤ 0 then ⊥ else _) = _
    rw [if_neg (by norm_num)]

end Cert.Model

end
-- ==== Proof.KOut.lean ====
module

public import proofs.«01_k».proof.Proof.Gen.KernelIdeal.Frame
public import proofs.«01_k».proof.Proof.KHost
public import proofs.«01_k».proof.Proof.KTake
public import proofs.«01_k».proof.Proof.Facts

@[expose] public section

set_option maxRecDepth 16384

noncomputable section

/-! What the kernel program's last segment leaves in the result, from the arguments. -/

namespace Cert.KernelIdeal.Hand

open Idealize.ShloMosaic.StableHlo Cert.KernelIdeal Cert.KernelIdeal.Gen Cert.Model Idealize.ShloMosaic Idealize.ShloMosaic.TcCoe Idealize.SL.Sem

variable (m : (ℓ : Loc nD τ sig) → Buf (Elt Ideal) ℓ) (ρ : Dev nD → PrngReg) (c : Dev nD)

abbrev inX : FVec Ideal S16x256x1x64x64 .f32 := m ((c : Thread nD τ).loc main_arg0)
abbrev inT : IVec S16 32 := m ((c : Thread nD τ).loc main_arg1)
abbrev inW : FVec Ideal S256x1x3x3 .f32 := m ((c : Thread nD τ).loc main_arg2)
abbrev inB : FVec Ideal S256 .f32 := m ((c : Thread nD τ).loc main_arg3)

/-- The classes' numbers where the entry is above minus one, added. -/
def scanF (f : Fin 256 → EReal) : BitVec 32 :=
  Finset.fold IntOp.addi 0#32 (fun k : Fin 256 => if Ideal.ofBits .f32 3212836864#32 < f k then BitVec.ofNat 32 k.val else 0#32) Finset.univ

/-- The hot class of a pixel. -/
def hotPix (b : Fin 16) (y x : Fin 64) : BitVec 32 := scanF fun k => inX m c (ix5 b k 0 y x)

section
variable (b : Fin 16) (d : Fin 256) (h : Fin 2) (i : Fin 8) (p : Fin 4096) (y x : Fin 64)

/-- After the first region the class array holds every pixel's class. -/
theorem hot2 : W2 m ρ c (Proc.devRef .tc main_v1) (ix3 b 0 p) = hotPix m c b ⟨p.val / 64, by omega⟩ ⟨p.val % 64, by omega⟩ := by
  refine (congrFun (W2_arr m ρ c 1) (ix3 b 0 p)).trans ((congrFun (arr0 (V1 m ρ) c) (ix3 b 0 p)).trans ?_)
  show scanK _ b p = _
  unfold scanK hotPix scanF
  refine congrArg (fun f => Finset.fold IntOp.addi 0#32 f Finset.univ) (funext fun k => ?_)
  exact congrArg (fun z : EReal => if Ideal.ofBits .f32 3212836864#32 < z then BitVec.ofNat 32 k.val else 0#32) (flat_at (W0 m ρ c) b k p)

/-- The same, by row and column. -/
theorem hot3 : W2 m ρ c (Proc.devRef .tc main_v1) (ix3 b 0 ⟨y.val * 64 + x.val, by omega⟩) = hotPix m c b y x := by
  refine (hot2 m ρ c b _).trans ?_
  congr 1 <;> exact Fin.ext (by show _ = _; dsimp only; omega)

/-- The bordered image. -/
theorem border4 (y x : Fin 66) : W4 m ρ c (Proc.devRef .tc main_v6) (ix3 b y x) = edge (fun y x => img (hotPix m c b y x)) 0 y x := by
  refine (border_at (W3 m ρ c) b y x).trans ?_
  unfold edge
  refine dite_congr rfl (fun e => ?_) (fun e => ?_)
  · refine (img_at (W2 m ρ c) b _ _).trans ?_
    rw [hot3]
    rfl
  · exact (congrArg (FloatOps.sitofp (F := Ideal) .f32) (c_at (W2 m ρ c))).trans sitofp_zero

/-- The taps of a pixel. -/
def tap (hot : Fin 64 → Fin 64 → BitVec 32) (y x : Fin 64) (k : Fin 16) : EReal :=
  if k.val < 9 then edge (fun y x => img (hot y x)) 0 (k.val / 3 + y.val) (k.val % 3 + x.val) else 0

/-- The taps from the classes. -/
theorem taps7 (k : Fin 16) : W7 m ρ c (Proc.devRef .tc main_v28) (ix4 h i k p) =
    tap (hotPix m c ⟨h.val * 8 + i.val, by omega⟩) ⟨p.val / 64, by omega⟩ ⟨p.val % 64, by omega⟩ k := by
  refine (taps_at (W6 m ρ c) h i p k).trans ((near16_at (W5 m ρ c) _ p k).trans ?_)
  unfold tap
  by_cases e : k.val < 9
  · rw [dif_pos e, if_pos e]
    exact (near_at (W4 m ρ c) _ p _).trans (border4 m ρ c _ _ _)
  · rw [dif_neg e, if_neg e]
    exact (congrArg (FloatOps.sitofp (F := Ideal) .f32) (c4_at (W4 m ρ c))).trans sitofp_zero

/-- The weights of a class, up to sixteen of them. -/
def pad16 (w : Fin 3 → Fin 3 → EReal) (k : Fin 16) : EReal := if e : k.val < 9 then w ⟨k.val / 3, by omega⟩ ⟨k.val % 3, by omega⟩ else 0

/-- The sixteen padded weights from the argument. -/
theorem weight8 (k : Fin 16) : W8 m ρ c (Proc.devRef .tc main_v30) (ix2 d k) = pad16 (fun i j => inW m c (ix4 d 0 i j)) k := by
  refine (weight16_at (W7 m ρ c) d k).trans ?_
  unfold pad16
  refine dite_congr rfl (fun e => ?_) (fun e => ?_)
  · exact (weight_at (W6 m ρ c) d _).trans (congrFun (W6_args m ρ c main_arg2 (by simp [argRefs])) _)
  · exact (congrArg (FloatOps.sitofp (F := Ideal) .f32) (c5_at (W6 m ρ c))).trans sitofp_zero

/-- The bias and the step's share, from the arguments. -/
theorem bias9 : W9 m ρ c (Proc.devRef .tc main_v39) (ix4 h i d 0) =
    plus (inB m c (ix1 d)) (time (inT m c (ix1 ⟨h.val * 8 + i.val, by omega⟩))) := by
  refine (bias_at (W8 m ρ c) d h i).trans ?_
  refine congrArg₂ plus (congrFun (W8_args m ρ c main_arg3 (by simp [argRefs])) _) ?_
  exact congrArg time (congrFun (W8_args m ρ c main_arg1 (by simp [argRefs])) _)

end

/-- What the host's last eight stretches before the second region leave alone. -/
theorem late (r : Ref sig .tc) (h7 : r ∉ hostOps1_7_W) (h8 : r ∉ hostOps1_8_W) (h9 : r ∉ hostOps1_9_W) (h10 : r ∉ hostOps1_10_W)
    (h11 : r ∉ hostOps1_11_W) (h12 : r ∉ hostOps1_12_W) (h13 : r ∉ hostOps1_13_W) :
    W16 m ρ c (Proc.devRef .tc r) = W9 m ρ c (Proc.devRef .tc r) :=
  (W16_of m ρ c r h13).trans <| (W15_of m ρ c r h12).trans <| (W14_of m ρ c r h11).trans <| (W13_of m ρ c r h10).trans <|
    (W12_of m ρ c r h9).trans <| (W11_of m ρ c r h8).trans (W10_of m ρ c r h7)

/-- What the host's stretches after the first region, up to the step before, leave alone. -/
theorem early (r : Ref sig .tc) (h0 : r ∉ hostOps1_W) (h1 : r ∉ hostOps1_1_W) (h2 : r ∉ hostOps1_2_W) (h3 : r ∉ hostOps1_3_W)
    (h4 : r ∉ hostOps1_4_W) (h5 : r ∉ hostOps1_5_W) (h6 : r ∉ hostOps1_6_W) :
    W9 m ρ c (Proc.devRef .tc r) = W2 m ρ c (Proc.devRef .tc r) :=
  (W9_of m ρ c r h6).trans <| (W8_of m ρ c r h5).trans <| (W7_of m ρ c r h4).trans <| (W6_of m ρ c r h3).trans <|
    (W5_of m ρ c r h2).trans <| (W4_of m ρ c r h1).trans (W3_of m ρ c r h0)

/-- The taps last to the second region. -/
theorem v28_17 : W17 m ρ c (Proc.devRef .tc main_v28) = W7 m ρ c (Proc.devRef .tc main_v28) :=
  (W17_of m ρ c _ (by decide)).trans <| (late m ρ c _ (by decide) (by decide) (by decide) (by decide) (by decide) (by decide) (by decide)).trans <|
    (W9_of m ρ c _ (by decide)).trans (W8_of m ρ c _ (by decide))

/-- The weights last to the second region. -/
theorem v30_17 : W17 m ρ c (Proc.devRef .tc main_v30) = W8 m ρ c (Proc.devRef .tc main_v30) :=
  (W17_of m ρ c _ (by decide)).trans <| (late m ρ c _ (by decide) (by decide) (by decide) (by decide) (by decide) (by decide) (by decide)).trans <|
    (W9_of m ρ c _ (by decide))

/-- The biases last to the second region. -/
theorem v39_17 : W17 m ρ c (Proc.devRef .tc main_v39) = W9 m ρ c (Proc.devRef .tc main_v39) :=
  (W17_of m ρ c _ (by decide)).trans <| (late m ρ c _ (by decide) (by decide) (by decide) (by decide) (by decide) (by decide) (by decide))

/-- The classes last to the second region. -/
theorem v1_16 : W16 m ρ c (Proc.devRef .tc main_v1) = W2 m ρ c (Proc.devRef .tc main_v1) :=
  (late m ρ c _ (by decide) (by decide) (by decide) (by decide) (by decide) (by decide) (by decide)).trans
    (early m ρ c _ (by decide) (by decide) (by decide) (by decide) (by decide) (by decide) (by decide))

/-! The tables, as the first stretch sets them. -/

/-- What the first segments do not write is as it was after the tables. -/
theorem tab9 (r : Ref sig .tc) (h0 : r ∉ hostOps1_W) (h1 : r ∉ hostOps1_1_W) (h2 : r ∉ hostOps1_2_W) (h3 : r ∉ hostOps1_3_W)
    (h4 : r ∉ hostOps1_4_W) (h5 : r ∉ hostOps1_5_W) (h6 : r ∉ hostOps1_6_W) (hr : ∀ w, Pipeline.arrRef spec0 w ≠ r) :
    W9 m ρ c (Proc.devRef .tc r) = W1 m ρ c (Proc.devRef .tc r) :=
  (early m ρ c r h0 h1 h2 h3 h4 h5 h6).trans (W2_of_ne m ρ c r hr)

abbrev tabA : FVec Ideal S4000 .f32 := fun i => Ideal.ofBits .f32 (lit0 (S4000.rowMajor i))
abbrev tabB : FVec Ideal S4000 .f32 := fun i => Ideal.ofBits .f32 (lit1 (S4000.rowMajor i))
abbrev tabC : FVec Ideal S4000 .f32 := fun i => Ideal.ofBits .f32 (lit2 (S4000.rowMajor i))
abbrev tabD : FVec Ideal S4000 .f32 := fun i => Ideal.ofBits .f32 (lit3 (S4000.rowMajor i))

/-- The table of one step's logarithms is written. -/
theorem tabA_1 (V : Vals) : after hostOps0 V (Proc.devRef .tc main_cst) = tabA := by
  simp only [hostOps0]
  after_reads_simp
  rfl

/-- The table of one step's complements is written. -/
theorem tabB_1 (V : Vals) : after hostOps0 V (Proc.devRef .tc main_cst_0) = tabB := by
  simp only [hostOps0]
  after_reads_simp
  rfl

/-- The table of cumulative logarithms is written. -/
theorem tabC_1 (V : Vals) : after hostOps0 V (Proc.devRef .tc main_cst_1) = tabC := by
  simp only [hostOps0]
  after_reads_simp
  rfl

/-- The table of cumulative complements is written. -/
theorem tabD_1 (V : Vals) : after hostOps0 V (Proc.devRef .tc main_cst_2) = tabD := by
  simp only [hostOps0]
  after_reads_simp
  rfl

/-- The table of one step's logarithms lasts. -/
theorem cstA_12 : W12 m ρ c (Proc.devRef .tc main_cst) = tabA :=
  (W12_of m ρ c _ (by decide)).trans <| (W11_of m ρ c _ (by decide)).trans <| (W10_of m ρ c _ (by decide)).trans <|
    (tab9 m ρ c _ (by decide) (by decide) (by decide) (by decide) (by decide) (by decide) (by decide) (by decide)).trans (tabA_1 _)

/-- The table of one step's complements lasts. -/
theorem cstB_13 : W13 m ρ c (Proc.devRef .tc main_cst_0) = tabB :=
  (W13_of m ρ c _ (by decide)).trans <| (W12_of m ρ c _ (by decide)).trans <| (W11_of m ρ c _ (by decide)).trans <| (W10_of m ρ c _ (by decide)).trans <|
    (tab9 m ρ c _ (by decide) (by decide) (by decide) (by decide) (by decide) (by decide) (by decide) (by decide)).trans (tabB_1 _)

/-- The table of cumulative logarithms lasts. -/
theorem cstC_9 : W9 m ρ c (Proc.devRef .tc main_cst_1) = tabC :=
  (tab9 m ρ c _ (by decide) (by decide) (by decide) (by decide) (by decide) (by decide) (by decide) (by decide)).trans (tabC_1 _)

/-- The table of cumulative complements lasts. -/
theorem cstD_10 : W10 m ρ c (Proc.devRef .tc main_cst_2) = tabD :=
  (W10_of m ρ c _ (by decide)).trans <|
    (tab9 m ρ c _ (by decide) (by decide) (by decide) (by decide) (by decide) (by decide) (by decide) (by decide)).trans (tabD_1 _)

/-- The step before every step, at least zero. -/
def prevT : IVec S16 32 := fun i => IntOp.maxsi (IntOp.subi (inT m c i) 1#32) 0#32

/-- The step before, not below zero. -/
theorem prev9 : W9 m ρ c (Proc.devRef .tc main_v43) = prevT m c := by
  funext z
  obtain ⟨b, rfl⟩ : ∃ b : Fin 16, z = (ix1 b : S16.Idx) := ⟨z 0, by funext a; fin_cases a; rfl⟩
  refine (prev_at (W8 m ρ c) b).trans ?_
  exact congrArg (fun t : BitVec 32 => IntOp.maxsi (IntOp.subi t 1#32) 0#32) (congrFun (W8_args m ρ c main_arg1 (by simp [argRefs])) _)

section
variable (b : Fin 16)

/-- The cumulative logarithm read at the step before. -/
theorem lca_15 : W14 m ρ c (Proc.devRef .tc main_v44) (ix1 b) = takeK tabC (prevT m c) b :=
  (congrFun ((W14_of m ρ c _ (by decide)).trans <| (W13_of m ρ c _ (by decide)).trans <| (W12_of m ρ c _ (by decide)).trans (W11_of m ρ c _ (by decide))) _).trans <|
    (take_lca (W9 m ρ c) b).trans (by rw [cstC_9, prev9])

/-- The cumulative complement read at the step before, over the classes. -/
theorem share_15 : W14 m ρ c (Proc.devRef .tc main_v47) (ix1 b) = minus (takeK tabD (prevT m c) b) log256 :=
  (congrFun ((W14_of m ρ c _ (by decide)).trans (W13_of m ρ c _ (by decide))) _).trans <|
    (share_at (W11 m ρ c) b).trans <| congrArg (fun z : EReal => minus z log256) <|
      (take_l1ca (W10 m ρ c) b).trans (by rw [cstD_10, W10_of m ρ c main_v43 (by decide), prev9])

/-- The step's logarithm read. -/
theorem la_15 : W14 m ρ c (Proc.devRef .tc main_v48) (ix1 b) = takeK tabA (inT m c) b :=
  (congrFun (W14_of m ρ c _ (by decide)) _).trans <|
    (take_la (W12 m ρ c) b).trans (by rw [cstA_12, W12_args m ρ c main_arg1 (by simp [argRefs])])

/-- The step's complement read. -/
theorem l1a_15 : W14 m ρ c (Proc.devRef .tc main_v49) (ix1 b) = takeK tabB (inT m c) b :=
  (take_l1a (W13 m ρ c) b).trans (by rw [cstB_13, W13_args m ρ c main_arg1 (by simp [argRefs])])

/-- The steps are as launched. -/
theorem arg1_14 : W14 m ρ c (Proc.devRef .tc main_arg1) = inT m c := W14_args m ρ c main_arg1 (by simp [argRefs])

end

end Cert.KernelIdeal.Hand

end
-- ==== Proof.KEnd.lean ====
module

public import proofs.«01_k».proof.Proof.KOut

@[expose] public section

set_option maxRecDepth 16384

noncomputable section

/-! The kernel program's result at a pixel, in the same words as the reference's. -/

namespace Cert.KernelIdeal.Hand

open Idealize.ShloMosaic.StableHlo Cert.KernelIdeal Cert.KernelIdeal.Gen Cert.Model Idealize.ShloMosaic Idealize.ShloMosaic.TcCoe Idealize.SL.Sem

/-- The sixteen products are the convolution's nine and zeros. -/
theorem conv16 (w : Fin 3 → Fin 3 → EReal) (hot : Fin 64 → Fin 64 → BitVec 32) (y x : Fin 64) :
    ∑ k : Fin 16, pad16 w k * tap hot y x k = conv9 w (edge (fun y x => img (hot y x)) 0) y x := by
  unfold conv9 tap
  generalize edge (fun y x => img (hot y x)) 0 = f
  simp only [Fin.sum_univ_castSucc, Fin.sum_univ_zero]
  simp [pad16]

variable (m : (ℓ : Loc nD τ sig) → Buf (Elt Ideal) ℓ) (ρ : Dev nD → PrngReg) (c : Dev nD)
variable (b : Fin 16) (d : Fin 256) (h : Fin 2) (i : Fin 8) (p : Fin 4096) (y x : Fin 64)

/-- The scalars the second region finds are the stacked ones. -/
theorem row17 (n : Fin 5) : W17 m ρ c (Proc.devRef .tc main_v80) (ix4 h i 0 ⟨n.val, by omega⟩) =
    W15 m ρ c (Proc.devRef .tc main_v78) (ix2 ⟨h.val * 8 + i.val, by omega⟩ n) :=
  (row_at (W16 m ρ c) h i _).trans (row5_at (W15 m ρ c) _ n)

/-- The classes the second region finds. -/
theorem hot17 : W17 m ρ c (Proc.devRef .tc main_v81) (ix4 h i 0 p) =
    hotPix m c ⟨h.val * 8 + i.val, by omega⟩ ⟨p.val / 64, by omega⟩ ⟨p.val % 64, by omega⟩ :=
  (hot_at (W16 m ρ c) h i p).trans ((congrFun (v1_16 m ρ c) _).trans (hot2 m ρ c _ p))

/-- A pixel's logits. -/
def logitsM (b : Fin 16) (y x : Fin 64) (d : Fin 256) : EReal :=
  logit (fun i j => inW m c (ix4 d 0 i j)) (inB m c (ix1 d)) (inT m c (ix1 b)) (hotPix m c b) y x d

/-- The logits over the arrays the second region finds are the model's. -/
theorem logits17 : logitsA (W17 m ρ c (Proc.devRef .tc main_v28)) (W17 m ρ c (Proc.devRef .tc main_v81)) (W17 m ρ c (Proc.devRef .tc main_v39))
      (W17 m ρ c (Proc.devRef .tc main_v30)) h i p =
    logitsM m c ⟨h.val * 8 + i.val, by omega⟩ ⟨p.val / 64, by omega⟩ ⟨p.val % 64, by omega⟩ := by
  funext d
  have e1 : ∀ k, W17 m ρ c (Proc.devRef .tc main_v28) (ix4 h i k p) =
    tap (hotPix m c ⟨h.val * 8 + i.val, by omega⟩) ⟨p.val / 64, by omega⟩ ⟨p.val % 64, by omega⟩ k := fun k => (congrFun (v28_17 m ρ c) _).trans (taps7 m ρ c h i p k)
  have e2 : ∀ k, W17 m ρ c (Proc.devRef .tc main_v30) (ix2 d k) = pad16 (fun i j => inW m c (ix4 d 0 i j)) k :=
    fun k => (congrFun (v30_17 m ρ c) _).trans (weight8 m ρ c d k)
  have e3 : W17 m ρ c (Proc.devRef .tc main_v39) (ix4 h i d 0) = plus (inB m c (ix1 d)) (time (inT m c (ix1 ⟨h.val * 8 + i.val, by omega⟩))) :=
    (congrFun (v39_17 m ρ c) _).trans (bias9 m ρ c d h i)
  unfold logitsA
  rw [hot17 m ρ c h i p, e3, funext e1, funext e2]
  unfold logitK logitsM logit
  rw [conv16]

/-- The scalars of an image. -/
abbrev lcaK : EReal := takeK tabC (prevT m c) b
abbrev l1caK : EReal := takeK tabD (prevT m c) b
abbrev laK : EReal := takeK tabA (inT m c) b
abbrev l1aK : EReal := takeK tabB (inT m c) b

section
variable (n0 : b.val = h.val * 8 + i.val)
include n0

/-- The first scalar: the cumulative logarithm. -/
theorem s0 : W17 m ρ c (Proc.devRef .tc main_v80) (ix4 h i 0 0) = lcaK m c b := by
  have e : (⟨h.val * 8 + i.val, by omega⟩ : Fin 16) = b := Fin.ext n0.symm
  refine (row17 m ρ c h i 0).trans ?_
  rw [e]
  exact ((row_0 (W14 m ρ c) _).trans (lca_15 m ρ c _))

/-- The second scalar: the cumulative complement over the classes. -/
theorem s1 : W17 m ρ c (Proc.devRef .tc main_v80) (ix4 h i 0 1) = minus (l1caK m c b) log256 := by
  have e : (⟨h.val * 8 + i.val, by omega⟩ : Fin 16) = b := Fin.ext n0.symm
  refine (row17 m ρ c h i 1).trans ?_
  rw [e]
  exact ((row_1 (W14 m ρ c) _).trans (share_15 m ρ c _))

/-- The third scalar: the flag of step zero. -/
theorem s2 : W17 m ρ c (Proc.devRef .tc main_v80) (ix4 h i 0 2) = FloatOps.uitofp (F := Ideal) .f32 (IntOp.cmpi .eq (inT m c (ix1 b)) 0#32) := by
  have e : (⟨h.val * 8 + i.val, by omega⟩ : Fin 16) = b := Fin.ext n0.symm
  refine (row17 m ρ c h i 2).trans ?_
  rw [e]
  exact ((row_2 (W14 m ρ c) _).trans
    (congrArg (fun t : BitVec 32 => FloatOps.uitofp (F := Ideal) .f32 (IntOp.cmpi .eq t 0#32)) (congrFun (arg1_14 m ρ c) _)))

/-- The fourth scalar: the step's part at the hot class. -/
theorem s3 : W17 m ρ c (Proc.devRef .tc main_v80) (ix4 h i 0 3) = logAdd (laK m c b) (minus (l1aK m c b) log256) := by
  have e : (⟨h.val * 8 + i.val, by omega⟩ : Fin 16) = b := Fin.ext n0.symm
  refine (row17 m ρ c h i 3).trans ?_
  rw [e]
  exact ((row_3 (W14 m ρ c) _).trans
    (congrArg₂ (fun u v : EReal => logAdd u (minus v log256)) (la_15 m ρ c _) (l1a_15 m ρ c _)))

/-- The fifth scalar: the step's part at a cold class. -/
theorem s4 : W17 m ρ c (Proc.devRef .tc main_v80) (ix4 h i 0 4) = logAdd (plus cold (laK m c b)) (minus (l1aK m c b) log256) := by
  have e : (⟨h.val * 8 + i.val, by omega⟩ : Fin 16) = b := Fin.ext n0.symm
  refine (row17 m ρ c h i 4).trans ?_
  rw [e]
  exact ((row_4 (W14 m ρ c) _).trans
    (congrArg₂ (fun u v : EReal => logAdd (plus cold u) (minus v log256)) (la_15 m ρ c _) (l1a_15 m ρ c _)))

end

/-- The posterior of a class at a pixel. -/
def postM (k : Fin 256) : EReal :=
  Model.post (inT m c (ix1 b)) (logSoft (logitsM m c b y x) k) (lcaK m c b) (l1caK m c b) (inX m c (ix5 b k 0 y x)) (laK m c b) (l1aK m c b)

/-- The noise of a class at a pixel. -/
def noise (k : Fin 256) : EReal := gum (frac (BitVec.ofNat 32 (b.val * 1048576 + k.val * 4096 + y.val * 64 + x.val)) - 1)

/-- A candidate is the posterior and the noise, where the input is one-hot. -/
theorem cand17 (j : Fin 256) (hj : OneHot (fun k => inX m c (ix5 b k 0 y x)) j) (hh : h.val = b.val / 8) (hi : i.val = b.val % 8)
    (hp : p.val = y.val * 64 + x.val) (k : Fin 256) :
    candA (W17 m ρ c (Proc.devRef .tc main_v28)) (W17 m ρ c (Proc.devRef .tc main_v81)) (W17 m ρ c (Proc.devRef .tc main_v39))
      (W17 m ρ c (Proc.devRef .tc main_v80)) (W17 m ρ c (Proc.devRef .tc main_v30)) h i p k = postM m c b y x k + noise b y x k := by
  have n0 : b.val = h.val * 8 + i.val := by omega
  have eb : (⟨h.val * 8 + i.val, by omega⟩ : Fin 16) = b := Fin.ext n0.symm
  have ey : (⟨p.val / 64, by omega⟩ : Fin 64) = y := Fin.ext (by show p.val / 64 = _; omega)
  have ex : (⟨p.val % 64, by omega⟩ : Fin 64) = x := Fin.ext (by show p.val % 64 = _; omega)
  have ec : cellNo h i k p = b.val * 1048576 + k.val * 4096 + y.val * 64 + x.val := by unfold cellNo; omega
  have eh : hotPix m c b y x = BitVec.ofNat 32 j := hj.scan
  unfold candA cellK
  simp only [logits17 m ρ c h i p, hot17 m ρ c h i p, s0 m ρ c b h i n0, s1 m ρ c b h i n0, s2 m ρ c b h i n0, s3 m ρ c b h i n0,
    s4 m ρ c b h i n0, eb, ey, ex, ec, eh]
  unfold postM noise Model.post
  congr 2
  · exact if_congr (flag _) rfl rfl
  · by_cases e : k = j
    · subst e
      have z : inX m c (ix5 b k 0 y x) = 0 := hj.1
      rw [if_pos rfl, z, zero_add]
    · have z : inX m c (ix5 b k 0 y x) = cold := hj.2 k e
      rw [if_neg fun o => e (ofNat_inj o), z]

/-- The result of the kernel program at a pixel's class. -/
theorem out_pix (j : Fin 256) (hj : OneHot (fun k => inX m c (ix5 b k 0 y x)) j) :
    W19 m ρ c (Proc.devRef .tc main_v83) (ix5 b d 0 y x) = hotK d (fun k => postM m c b y x k + noise b y x k) := by
  refine (out_flat (W18 m ρ c) b d y x).trans ((congrFun (W18_arr m ρ c 5) _).trans ((congrFun (arr1 (V17 m ρ) c) _).trans ?_))
  exact congrArg (hotK d) (funext fun k => cand17 m ρ c b ⟨b.val / 8, by omega⟩ ⟨b.val % 8, by omega⟩ ⟨y.val * 64 + x.val, by omega⟩ y x j hj rfl rfl rfl k)

end Cert.KernelIdeal.Hand

end
-- ==== Proof.RHost.lean ====
module

public import proofs.«01_k».proof.Proof.RefOpsB
public import proofs.«01_k».proof.Proof.Pix
public import Idealize.ShloMosaic.Lib.StableHlo.RunRead
public import Idealize.ShloMosaic.Lib.Pointwise

@[expose] public section

set_option maxRecDepth 16384

noncomputable section

namespace Cert.ReferenceIdeal.Hand

open Cert.Model Cert.ReferenceIdeal Cert.ReferenceIdeal.Gen Idealize.ShloMosaic Idealize.ShloMosaic.TcCoe Idealize.SL.Sem Idealize.ShloMosaic.StableHlo

/-- What every buffer holds. -/
abbrev Vals := Valuation τ sig (Elt Ideal)

/-! What the reference's @main computes, one value of each stage's array at a time. -/

/-- The sum of two array entries. -/
abbrev plus (p q : EReal) : EReal := p + q

/-- The difference of two array entries. -/
abbrev minus (p q : EReal) : EReal := p - q

section
variable (V : Vals) (b : Fin 16) (c : Fin 256) (y x : Fin 64)

/-- The padded picture's values are the classes over 255. -/
theorem pad_img : after opsPad V (Proc.devRef .tc main_v3) (ix4 b 0 y x) = img (V (Proc.devRef .tc main_v0) (ix4 b 0 y x)) := by
  simp only [opsPad, TRef.binary, TRef.unary, TRef.nullary, TRef.quaternary, TRef.ternary, TRef.reshape, TRef.toBuf, TRef.ofBuf, cast_eq]
  after_reads_simp
  pointwise
  rfl

/-- The border's word is zero, as a number. -/
theorem pad_zero : after opsPad V (Proc.devRef .tc main_call1_v0) (Shape.Idx.first h_S_) = FloatOps.sitofp (F := Ideal) .f32 0#32 := by
  simp only [opsPad, TRef.binary, TRef.unary, TRef.nullary, TRef.quaternary, TRef.ternary, TRef.reshape, TRef.toBuf, TRef.ofBuf, cast_eq]
  after_reads_simp
  rfl

/-- The convolution, as the nine products in order. -/
theorem conv_at : after (opsConv ++ opsConv') V (Proc.devRef .tc main_v77) (ix4 b c y x) =
    conv9 (fun i j => V (Proc.devRef .tc main_arg2) (ix4 c 0 i j))
      (edge (fun y x => V (Proc.devRef .tc main_v3) (ix4 b 0 y x)) (V (Proc.devRef .tc main_call1_v0) (Shape.Idx.first h_S_))) y x := by
  simp only [opsConv, opsConv', TRef.binary, TRef.unary, TRef.nullary, TRef.quaternary, TRef.ternary, TRef.reshape, TRef.toBuf, TRef.ofBuf, cast_eq]
  after_reads_simp
  simp only [conv9, edge]
  pointwise

/-- The logits from the convolution, the bias, the step and the class. -/
theorem logits_at : after opsLogits V (Proc.devRef .tc main_v90) (ix5 b c 0 y x) =
    plus (plus (plus (V (Proc.devRef .tc main_v77) (ix4 b c y x)) (V (Proc.devRef .tc main_arg3) (ix1 c)))
      (Ideal.div (FloatOps.sitofp (F := Ideal) .f32 (V (Proc.devRef .tc main_arg1) (ix1 b))) (Ideal.ofBits .f32 1165623296#32)))
      (FloatOps.uitofp (F := Ideal) .f32 (IntOp.cmpi .eq (V (Proc.devRef .tc main_v0) (ix4 b 0 y x)) (BitVec.ofNat 32 c))) := by
  simp only [opsLogits, TRef.binary, TRef.unary, TRef.nullary, TRef.quaternary, TRef.ternary, TRef.reshape, TRef.toBuf, TRef.ofBuf, cast_eq]
  after_reads_simp
  pointwise

/-- The larger of minus infinity and the largest is the largest. -/
theorem max_bot (f : Fin 256 → EReal) : max (Ideal.ofBits .f32 4286578688#32) (colMax f) = colMax f :=
  max_eq_right ((Finset.le_fold_max _).mpr (Or.inl le_rfl))

/-- The run of a list is the run of its first part, then of the rest. -/
theorem after_app (l l' : List (HloOp τ sig (Elt Ideal))) : after (l ++ l') V = after l' (after l V) := by
  induction l generalizing V with
  | nil => rfl
  | cons o l ih => exact ih _

/-- A list of operations run in two pieces. -/
theorem after_cut (n : Nat) (l : List (HloOp τ sig (Elt Ideal))) : after l V = after (l.drop n) (after (l.take n) V) := by
  rw [← after_app, List.take_append_drop]

/-- Part 1 of `opsSoftmax`. -/
def softA : List (HloOp τ sig (Elt Ideal)) := (opsSoftmax).take 2

/-- Part 2 of `opsSoftmax`. -/
def softB : List (HloOp τ sig (Elt Ideal)) := ((opsSoftmax).drop 2).take 3

/-- Part 3 of `opsSoftmax`. -/
def softC : List (HloOp τ sig (Elt Ideal)) := (((opsSoftmax).drop 2).drop 3).take 3

/-- Part 4 of `opsSoftmax`. -/
def softD : List (HloOp τ sig (Elt Ideal)) := (((opsSoftmax).drop 2).drop 3).drop 3

/-- The log-softmax's maximum. -/
theorem soft_max : after softA V (Proc.devRef .tc main_call3_v0) (ix4 b 0 y x) =
    colMax (fun k => V (Proc.devRef .tc main_v90) (ix5 b k 0 y x)) := by
  simp only [softA, opsSoftmax, List.take, List.drop, TRef.binary, TRef.unary, TRef.nullary, TRef.quaternary, TRef.ternary, TRef.reshape, TRef.toBuf, TRef.ofBuf, cast_eq]
  after_reads_simp
  pointwise
  rfl

/-- The maximum's operations keep the logits. -/
theorem soft_keepA : after softA V (Proc.devRef .tc main_v90) = V (Proc.devRef .tc main_v90) := by
  simp only [softA, opsSoftmax, List.take, List.drop]
  after_reads_simp

/-- The maximum is bounded below by minus infinity. -/
theorem soft_cap : after softB V (Proc.devRef .tc main_call3_v2) (ix4 b 0 y x) =
    max (Ideal.ofBits .f32 4286578688#32) (V (Proc.devRef .tc main_call3_v0) (ix4 b 0 y x)) := by
  simp only [softB, opsSoftmax, List.take, List.drop, TRef.binary, TRef.unary, TRef.nullary, TRef.quaternary, TRef.ternary, TRef.reshape, TRef.toBuf, TRef.ofBuf, cast_eq]
  after_reads_simp
  pointwise

/-- The bound's operations keep the logits. -/
theorem soft_keepB : after softB V (Proc.devRef .tc main_v90) = V (Proc.devRef .tc main_v90) := by
  simp only [softB, opsSoftmax, List.take, List.drop]
  after_reads_simp

/-- The logits less the maximum. -/
theorem soft_sub : after softC V (Proc.devRef .tc main_call3_v5) (ix5 b c 0 y x) =
    minus (V (Proc.devRef .tc main_v90) (ix5 b c 0 y x)) (V (Proc.devRef .tc main_call3_v2) (ix4 b 0 y x)) := by
  simp only [softC, opsSoftmax, List.take, List.drop, TRef.binary, TRef.unary, TRef.nullary, TRef.quaternary, TRef.ternary, TRef.reshape, TRef.toBuf, TRef.ofBuf, cast_eq]
  after_reads_simp
  pointwise

/-- Less the logarithm of the sum of their exponentials. -/
theorem soft_end : after softD V (Proc.devRef .tc main_v91) (ix5 b c 0 y x) =
    minus (V (Proc.devRef .tc main_call3_v5) (ix5 b c 0 y x))
      (Ideal.log (∑ k : Fin 256, Ideal.exp (V (Proc.devRef .tc main_call3_v5) (ix5 b k 0 y x)))) := by
  simp only [softD, opsSoftmax, List.take, List.drop, TRef.binary, TRef.unary, TRef.nullary, TRef.quaternary, TRef.ternary, TRef.reshape, TRef.toBuf, TRef.ofBuf, cast_eq]
  after_reads_simp
  pointwise

/-- The log-softmax's operations in four pieces. -/
theorem soft_cut : after opsSoftmax V = after softD (after softC (after softB (after softA V))) := by
  rw [after_cut V 2 opsSoftmax, after_cut _ 3 (opsSoftmax.drop 2), after_cut _ 3 ((opsSoftmax.drop 2).drop 3)]
  rfl

/-- The log-softmax over the classes. -/
theorem soft_at : after opsSoftmax V (Proc.devRef .tc main_v91) (ix5 b c 0 y x) =
    logSoft (fun k => V (Proc.devRef .tc main_v90) (ix5 b k 0 y x)) c := by
  have e : ∀ k, after softC (after softB (after softA V)) (Proc.devRef .tc main_call3_v5) (ix5 b k 0 y x) =
      minus (V (Proc.devRef .tc main_v90) (ix5 b k 0 y x)) (colMax (fun k => V (Proc.devRef .tc main_v90) (ix5 b k 0 y x))) := fun k =>
    (soft_sub _ b k y x).trans (congrArg₂ minus (congrFun ((soft_keepB _).trans (soft_keepA V)) _)
      ((soft_cap _ b y x).trans ((congrArg (fun m : EReal => max (Ideal.ofBits .f32 4286578688#32) m) (soft_max V b y x)).trans (max_bot _))))
  rw [soft_cut, soft_end]
  exact congrArg₂ minus (e c) (congrArg Ideal.log (Finset.sum_congr (M := EReal) rfl fun k _ => congrArg Ideal.exp (e k)))

/-- The step before. -/
theorem prev_at : after opsPrev V (Proc.devRef .tc main_v99) (ix1 b) =
    Scalar.select (IntOp.cmpi .slt (IntOp.subi (V (Proc.devRef .tc main_arg1) (ix1 b)) 1#32) 0#32) 0#32
      (IntOp.subi (V (Proc.devRef .tc main_arg1) (ix1 b)) 1#32) := by
  simp only [opsPrev, TRef.binary, TRef.unary, TRef.nullary, TRef.quaternary, TRef.ternary, TRef.reshape, TRef.toBuf, TRef.ofBuf, cast_eq]
  after_reads_simp
  pointwise

/-- The predicted start, one diffusion back. -/
theorem prior_at : after (opsPrior ++ opsPrior') V (Proc.devRef .tc main_v117) (ix5 b c 0 y x) =
    logAdd (plus (V (Proc.devRef .tc main_v91) (ix5 b c 0 y x)) (V (Proc.devRef .tc main_v101) (ix5 b 0 0 0 0)))
      (minus (V (Proc.devRef .tc main_v103) (ix5 b 0 0 0 0)) log256) := by
  simp only [opsPrior, opsPrior', TRef.binary, TRef.unary, TRef.nullary, TRef.quaternary, TRef.ternary, TRef.reshape, TRef.toBuf, TRef.ofBuf, cast_eq]
  after_reads_simp
  pointwise
  rfl

/-- At step zero the recovered start itself, else the prior's part. -/
theorem first_at : after opsFirst V (Proc.devRef .tc main_v125) (ix5 b c 0 y x) =
    if FloatOps.sitofp (F := Ideal) .f32 (V (Proc.devRef .tc main_arg1) (ix1 b)) = (0 : EReal) then V (Proc.devRef .tc main_v91) (ix5 b c 0 y x)
    else V (Proc.devRef .tc main_v117) (ix5 b c 0 y x) := by
  simp only [opsFirst, TRef.binary, TRef.unary, TRef.nullary, TRef.quaternary, TRef.ternary, TRef.reshape, TRef.toBuf, TRef.ofBuf, cast_eq]
  after_reads_simp
  pointwise

/-- The prior's part and the step's part, added. -/
theorem step_at : after opsStep V (Proc.devRef .tc main_v144) (ix5 b c 0 y x) =
    plus (V (Proc.devRef .tc main_v125) (ix5 b c 0 y x))
      (logAdd (plus (V (Proc.devRef .tc main_arg0) (ix5 b c 0 y x)) (V (Proc.devRef .tc main_v127) (ix5 b 0 0 0 0)))
        (minus (V (Proc.devRef .tc main_v128) (ix1 b)) log256)) := by
  simp only [opsStep, TRef.binary, TRef.unary, TRef.nullary, TRef.quaternary, TRef.ternary, TRef.reshape, TRef.toBuf, TRef.ofBuf, cast_eq]
  after_reads_simp
  pointwise
  rfl

/-- Part 1 of `opsNorm`. -/
def normA : List (HloOp τ sig (Elt Ideal)) := (opsNorm).take 3

/-- Part 2 of `opsNorm`. -/
def normB : List (HloOp τ sig (Elt Ideal)) := ((opsNorm).drop 3).take 8

/-- Part 3 of `opsNorm`. -/
def normC : List (HloOp τ sig (Elt Ideal)) := (((opsNorm).drop 3).drop 8).take 5

/-- Part 4 of `opsNorm`. -/
def normD : List (HloOp τ sig (Elt Ideal)) := (((opsNorm).drop 3).drop 8).drop 5

/-- The posterior's maximum. -/
theorem norm_max : after normA V (Proc.devRef .tc main_v146) (ix5 b 0 0 y x) =
    colMax (fun k => V (Proc.devRef .tc main_v144) (ix5 b k 0 y x)) := by
  simp only [normA, opsNorm, List.take, List.drop, TRef.binary, TRef.unary, TRef.nullary, TRef.quaternary, TRef.ternary, TRef.reshape, TRef.toBuf, TRef.ofBuf, cast_eq]
  after_reads_simp
  pointwise
  rfl

/-- The maximum's operations keep the posterior. -/
theorem norm_keepA : after normA V (Proc.devRef .tc main_v144) = V (Proc.devRef .tc main_v144) := by
  simp only [normA, opsNorm, List.take, List.drop]
  after_reads_simp

/-- The finiteness test's operations keep the posterior. -/
theorem norm_keepB : after normB V (Proc.devRef .tc main_v144) = V (Proc.devRef .tc main_v144) := by
  simp only [normB, opsNorm, List.take, List.drop]
  after_reads_simp

/-- The sum's operations keep the posterior. -/
theorem norm_keepC : after normC V (Proc.devRef .tc main_v144) = V (Proc.devRef .tc main_v144) := by
  simp only [normC, opsNorm, List.take, List.drop]
  after_reads_simp

/-- The sum's operations keep the stable maximum. -/
theorem norm_keepD : after normC V (Proc.devRef .tc main_v150) = V (Proc.devRef .tc main_v150) := by
  simp only [normC, opsNorm, List.take, List.drop]
  after_reads_simp

/-- The maximum where it is a real, else zero. -/
theorem norm_top : after normB V (Proc.devRef .tc main_v150) (ix5 b 0 0 y x) =
    stable (V (Proc.devRef .tc main_v146) (ix5 b 0 0 y x)) := by
  simp only [normB, opsNorm, List.take, List.drop, TRef.binary, TRef.unary, TRef.nullary, TRef.quaternary, TRef.ternary, TRef.reshape, TRef.toBuf, TRef.ofBuf, cast_eq]
  after_reads_simp
  pointwise
  rw [stable, ← Ideal.ofBits_zero_f32]
  rfl

/-- The sum of the exponentials. -/
theorem norm_sum : after normC V (Proc.devRef .tc main_v154) (ix4 b 0 y x) =
    ∑ k : Fin 256, Ideal.exp (minus (V (Proc.devRef .tc main_v144) (ix5 b k 0 y x)) (V (Proc.devRef .tc main_v150) (ix5 b 0 0 y x))) := by
  simp only [normC, opsNorm, List.take, List.drop, TRef.binary, TRef.unary, TRef.nullary, TRef.quaternary, TRef.ternary, TRef.reshape, TRef.toBuf, TRef.ofBuf, cast_eq]
  after_reads_simp
  pointwise

/-- The posterior less its log-sum-exp. -/
theorem norm_end : after normD V (Proc.devRef .tc main_v159) (ix5 b c 0 y x) =
    minus (V (Proc.devRef .tc main_v144) (ix5 b c 0 y x))
      (plus (Ideal.log (V (Proc.devRef .tc main_v154) (ix4 b 0 y x))) (V (Proc.devRef .tc main_v150) (ix5 b 0 0 y x))) := by
  simp only [normD, opsNorm, List.take, List.drop, TRef.binary, TRef.unary, TRef.nullary, TRef.quaternary, TRef.ternary, TRef.reshape, TRef.toBuf, TRef.ofBuf, cast_eq]
  after_reads_simp
  pointwise

/-- The normalisation's operations in four pieces. -/
theorem norm_cut : after opsNorm V = after normD (after normC (after normB (after normA V))) := by
  rw [after_cut V 3 opsNorm, after_cut _ 8 (opsNorm.drop 3), after_cut _ 5 ((opsNorm.drop 3).drop 8)]
  rfl

/-- The posterior, normalised. -/
theorem norm_at : after opsNorm V (Proc.devRef .tc main_v159) (ix5 b c 0 y x) =
    normed (fun k => V (Proc.devRef .tc main_v144) (ix5 b k 0 y x)) c := by
  have hv := (norm_keepB (after normA V)).trans (norm_keepA V)
  have hm := (norm_top (after normA V) b y x).trans (congrArg stable (norm_max V b y x))
  rw [norm_cut, norm_end]
  refine congrArg₂ minus (congrFun ((norm_keepC _).trans hv) _) (congrArg₂ plus (congrArg Ideal.log
    ((norm_sum _ b y x).trans (Finset.sum_congr (M := EReal) rfl fun k _ => congrArg Ideal.exp (congrArg₂ minus (congrFun hv _) hm)))) ?_)
  exact (congrFun (norm_keepD _) _).trans hm

end

end Cert.ReferenceIdeal.Hand
end
-- ==== Proof.RNoise.lean ====
module

public import proofs.«01_k».proof.Proof.RHost
public import proofs.«01_k».proof.Proof.WordEqs
public import Idealize.ShloMosaic.Lib.StableHlo.RunRead
public import Idealize.ShloMosaic.Lib.Pointwise

@[expose] public section

set_option maxRecDepth 16384

noncomputable section

namespace Cert.ReferenceIdeal.Hand

open Cert.Model Cert.ReferenceIdeal Cert.ReferenceIdeal.Gen Idealize.ShloMosaic Idealize.ShloMosaic.TcCoe Idealize.SL.Sem Idealize.ShloMosaic.StableHlo

/-! What the reference's random numbers are: the counter hash, the uniform number, the noise. -/

section
variable (V : Vals) (b : Fin 16) (c : Fin 256) (y x : Fin 64)

/-- The key. -/
theorem key_0 : after opsKey V (Proc.devRef .tc main_v166) (ix1 0) =
    0#32 := by
  simp only [opsKey, TRef.binary, TRef.unary, TRef.nullary, TRef.quaternary, TRef.ternary, TRef.reshape, TRef.toBuf, TRef.ofBuf, cast_eq]
  after_reads_simp
  pointwise
  rfl

/-- The key's second word. -/
theorem key_1 : after opsKey V (Proc.devRef .tc main_v166) (ix1 1) =
    42#32 := by
  simp only [opsKey, TRef.binary, TRef.unary, TRef.nullary, TRef.quaternary, TRef.ternary, TRef.reshape, TRef.toBuf, TRef.ofBuf, cast_eq]
  after_reads_simp
  pointwise
  rfl

/-- The key's first word, taken out. -/
theorem word_0 : after opsCount V (Proc.devRef .tc main_call11_v5) (ix0) =
    V (Proc.devRef .tc main_v166) (ix1 0) := by
  simp only [opsCount, TRef.binary, TRef.unary, TRef.nullary, TRef.quaternary, TRef.ternary, TRef.reshape, TRef.toBuf, TRef.ofBuf, cast_eq]
  after_reads_simp
  pointwise

/-- The key's second word, taken out. -/
theorem word_1 : after opsCount V (Proc.devRef .tc main_call11_v7) (ix0) =
    V (Proc.devRef .tc main_v166) (ix1 1) := by
  simp only [opsCount, TRef.binary, TRef.unary, TRef.nullary, TRef.quaternary, TRef.ternary, TRef.reshape, TRef.toBuf, TRef.ofBuf, cast_eq]
  after_reads_simp
  pointwise

/-- The uniform number's lower end. -/
theorem low_0 : after opsCount V (Proc.devRef .tc main_call11_v2) (ix5 0 0 0 0 0) =
    (0 : EReal) := by
  simp only [opsCount, TRef.binary, TRef.unary, TRef.nullary, TRef.quaternary, TRef.ternary, TRef.reshape, TRef.toBuf, TRef.ofBuf, cast_eq]
  after_reads_simp
  pointwise
  exact Ideal.ofBits_zero_f32

/-- The uniform number's upper end. -/
theorem high_1 : after opsCount V (Proc.devRef .tc main_call11_v3) (ix5 0 0 0 0 0) =
    (1 : EReal) := by
  simp only [opsCount, TRef.binary, TRef.unary, TRef.nullary, TRef.quaternary, TRef.ternary, TRef.reshape, TRef.toBuf, TRef.ofBuf, cast_eq]
  after_reads_simp
  pointwise
  exact Ideal.ofBits_one_f32

/-- The cell's number, in 64 bits. -/
theorem flat64 : IntOp.addi (IntOp.addi (IntOp.addi (IntOp.addi (IntOp.muli (1048576#64) (BitVec.ofNat 64 b)) (IntOp.muli (4096#64) (BitVec.ofNat 64 c)))
      (IntOp.muli 4096#64 0#64)) (IntOp.muli (64#64) (BitVec.ofNat 64 y))) (IntOp.muli (1#64) (BitVec.ofNat 64 x)) =
    BitVec.ofNat 64 (b.val * 1048576 + c.val * 4096 + y.val * 64 + x.val) := by
  apply BitVec.eq_of_toNat_eq
  simp only [IntOp.addi, IntOp.muli, BitVec.toNat_add, BitVec.toNat_mul, BitVec.toNat_ofNat]
  omega

/-- The cell's number. -/
theorem count_low : after opsCount V (Proc.devRef .tc main_call11_v29) (ix5 b c 0 y x) =
    BitVec.ofNat 32 (b.val * 1048576 + c.val * 4096 + y.val * 64 + x.val) := by
  simp only [opsCount, TRef.binary, TRef.unary, TRef.nullary, TRef.quaternary, TRef.ternary, TRef.reshape, TRef.toBuf, TRef.ofBuf, cast_eq]
  after_reads_simp
  pointwise
  rw [flat64]
  apply BitVec.eq_of_toNat_eq
  simp only [BitVec.toNat_setWidth, BitVec.toNat_ofNat]
  omega

/-- The counter's upper word is zero. -/
theorem count_high : after opsCount V (Proc.devRef .tc main_call11_v30) (ix5 b c 0 y x) =
    0#32 := by
  simp only [opsCount, TRef.binary, TRef.unary, TRef.nullary, TRef.quaternary, TRef.ternary, TRef.reshape, TRef.toBuf, TRef.ofBuf, cast_eq]
  after_reads_simp
  pointwise
  rw [flat64]
  apply BitVec.eq_of_toNat_eq
  simp [IntOp.shrui]
  omega

/-- The first word at the start. -/
theorem start_0 : after opsStart V (Proc.devRef .tc main_call11_call0_v3) (ix5 b c 0 y x) =
    IntOp.addi (V (Proc.devRef .tc main_call11_v30) (ix5 b c 0 y x)) (V (Proc.devRef .tc main_call11_v5) (ix0)) := by
  simp only [opsStart, TRef.binary, TRef.unary, TRef.nullary, TRef.quaternary, TRef.ternary, TRef.reshape, TRef.toBuf, TRef.ofBuf, cast_eq]
  after_reads_simp
  pointwise

/-- The second word at the start. -/
theorem start_1 : after opsStart V (Proc.devRef .tc main_call11_call0_v5) (ix5 b c 0 y x) =
    IntOp.addi (V (Proc.devRef .tc main_call11_v29) (ix5 b c 0 y x)) (V (Proc.devRef .tc main_call11_v7) (ix0)) := by
  simp only [opsStart, TRef.binary, TRef.unary, TRef.nullary, TRef.quaternary, TRef.ternary, TRef.reshape, TRef.toBuf, TRef.ofBuf, cast_eq]
  after_reads_simp
  pointwise

/-- The third key word. -/
theorem start_k : after opsStart V (Proc.devRef .tc main_call11_call0_v1) (ix0) =
    IntOp.xori (IntOp.xori (V (Proc.devRef .tc main_call11_v5) (ix0)) (V (Proc.devRef .tc main_call11_v7) (ix0))) 466688986#32 := by
  simp only [opsStart, TRef.binary, TRef.unary, TRef.nullary, TRef.quaternary, TRef.ternary, TRef.reshape, TRef.toBuf, TRef.ofBuf, cast_eq]
  after_reads_simp
  pointwise

/-- The mixing step's words in the other order. -/
theorem xor_sum (p q r s : BitVec 32) : IntOp.xori (IntOp.addi p q) (IntOp.ori r s) = (r ||| s) ^^^ (p + q) := BitVec.xor_comm _ _

/-- Group 0 of the hash. -/
theorem mix0_0 : after opsMix0 V (Proc.devRef .tc main_call11_call0_v35) (ix5 b c 0 y x) =
    (key (V (Proc.devRef .tc main_call11_v7) (ix0)) (V (Proc.devRef .tc main_call11_call0_v1) (ix0)) 1#32 (mixA (V (Proc.devRef .tc main_call11_call0_v3) (ix5 b c 0 y x), V (Proc.devRef .tc main_call11_call0_v5) (ix5 b c 0 y x)))).1 := by
  simp only [opsMix0, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- The second word after the first group. -/
theorem mix0_1 : after opsMix0 V (Proc.devRef .tc main_call11_call0_v39) (ix5 b c 0 y x) =
    (key (V (Proc.devRef .tc main_call11_v7) (ix0)) (V (Proc.devRef .tc main_call11_call0_v1) (ix0)) 1#32 (mixA (V (Proc.devRef .tc main_call11_call0_v3) (ix5 b c 0 y x), V (Proc.devRef .tc main_call11_call0_v5) (ix5 b c 0 y x)))).2 := by
  simp only [opsMix0, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- Group 1 of the hash. -/
theorem mix1_0 : after opsMix1 V (Proc.devRef .tc main_call11_call0_v69) (ix5 b c 0 y x) =
    (key (V (Proc.devRef .tc main_call11_call0_v1) (ix0)) (V (Proc.devRef .tc main_call11_v5) (ix0)) 2#32 (mixB (V (Proc.devRef .tc main_call11_call0_v35) (ix5 b c 0 y x), V (Proc.devRef .tc main_call11_call0_v39) (ix5 b c 0 y x)))).1 := by
  simp only [opsMix1, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- The second word after the second group. -/
theorem mix1_1 : after opsMix1 V (Proc.devRef .tc main_call11_call0_v73) (ix5 b c 0 y x) =
    (key (V (Proc.devRef .tc main_call11_call0_v1) (ix0)) (V (Proc.devRef .tc main_call11_v5) (ix0)) 2#32 (mixB (V (Proc.devRef .tc main_call11_call0_v35) (ix5 b c 0 y x), V (Proc.devRef .tc main_call11_call0_v39) (ix5 b c 0 y x)))).2 := by
  simp only [opsMix1, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- Group 2 of the hash. -/
theorem mix2_0 : after opsMix2 V (Proc.devRef .tc main_call11_call0_v103) (ix5 b c 0 y x) =
    (key (V (Proc.devRef .tc main_call11_v5) (ix0)) (V (Proc.devRef .tc main_call11_v7) (ix0)) 3#32 (mixA (V (Proc.devRef .tc main_call11_call0_v69) (ix5 b c 0 y x), V (Proc.devRef .tc main_call11_call0_v73) (ix5 b c 0 y x)))).1 := by
  simp only [opsMix2, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- The second word after the third group. -/
theorem mix2_1 : after opsMix2 V (Proc.devRef .tc main_call11_call0_v107) (ix5 b c 0 y x) =
    (key (V (Proc.devRef .tc main_call11_v5) (ix0)) (V (Proc.devRef .tc main_call11_v7) (ix0)) 3#32 (mixA (V (Proc.devRef .tc main_call11_call0_v69) (ix5 b c 0 y x), V (Proc.devRef .tc main_call11_call0_v73) (ix5 b c 0 y x)))).2 := by
  simp only [opsMix2, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- Group 3 of the hash. -/
theorem mix3_0 : after opsMix3 V (Proc.devRef .tc main_call11_call0_v137) (ix5 b c 0 y x) =
    (key (V (Proc.devRef .tc main_call11_v7) (ix0)) (V (Proc.devRef .tc main_call11_call0_v1) (ix0)) 4#32 (mixB (V (Proc.devRef .tc main_call11_call0_v103) (ix5 b c 0 y x), V (Proc.devRef .tc main_call11_call0_v107) (ix5 b c 0 y x)))).1 := by
  simp only [opsMix3, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- The second word after the fourth group. -/
theorem mix3_1 : after opsMix3 V (Proc.devRef .tc main_call11_call0_v141) (ix5 b c 0 y x) =
    (key (V (Proc.devRef .tc main_call11_v7) (ix0)) (V (Proc.devRef .tc main_call11_call0_v1) (ix0)) 4#32 (mixB (V (Proc.devRef .tc main_call11_call0_v103) (ix5 b c 0 y x), V (Proc.devRef .tc main_call11_call0_v107) (ix5 b c 0 y x)))).2 := by
  simp only [opsMix3, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- Group 4 of the hash. -/
theorem mix4_0 : after opsMix4 V (Proc.devRef .tc main_call11_v31_0) (ix5 b c 0 y x) =
    (key (V (Proc.devRef .tc main_call11_call0_v1) (ix0)) (V (Proc.devRef .tc main_call11_v5) (ix0)) 5#32 (mixA (V (Proc.devRef .tc main_call11_call0_v137) (ix5 b c 0 y x), V (Proc.devRef .tc main_call11_call0_v141) (ix5 b c 0 y x)))).1 := by
  simp only [opsMix4, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- The second word after the fifth group. -/
theorem mix4_1 : after opsMix4 V (Proc.devRef .tc main_call11_v31_1) (ix5 b c 0 y x) =
    (key (V (Proc.devRef .tc main_call11_call0_v1) (ix0)) (V (Proc.devRef .tc main_call11_v5) (ix0)) 5#32 (mixA (V (Proc.devRef .tc main_call11_call0_v137) (ix5 b c 0 y x), V (Proc.devRef .tc main_call11_call0_v141) (ix5 b c 0 y x)))).2 := by
  simp only [opsMix4, TRef.binary, TRef.unary, TRef.nullary, TRef.quaternary, TRef.ternary, TRef.reshape, TRef.toBuf, TRef.ofBuf, cast_eq]
  after_reads_simp
  pointwise
  simp (disch := decide) only [shl_word, shr_word, xor_sum]
  rfl

/-- The uniform number, from the random word's two halves. -/
def unif (p q : BitVec 32) (lo hi : EReal) : EReal :=
  max lo ((Ideal.ofBits .f32 ((p ^^^ q) >>> 9 ||| 1065353216#32) - 1) * (hi - lo) + lo)

/-- The uniform number from the two words. -/
theorem unif_at : after opsUnif V (Proc.devRef .tc main_v167) (ix5 b c 0 y x) =
    unif (V (Proc.devRef .tc main_call11_v31_0) (ix5 b c 0 y x)) (V (Proc.devRef .tc main_call11_v31_1) (ix5 b c 0 y x))
      (V (Proc.devRef .tc main_call11_v2) (ix5 0 0 0 0 0)) (V (Proc.devRef .tc main_call11_v3) (ix5 0 0 0 0 0)) := by
  simp only [opsUnif, TRef.binary, TRef.unary, TRef.nullary, TRef.quaternary, TRef.ternary, TRef.reshape, TRef.toBuf, TRef.ofBuf, cast_eq]
  after_reads_simp
  pointwise
  simp (disch := decide) only [shl_word, shr_word]
  rfl

/-- The noise added. -/
theorem gumbel_at : after opsGumbel V (Proc.devRef .tc main_v176) (ix5 b c 0 y x) =
    plus (gum (V (Proc.devRef .tc main_v167) (ix5 b c 0 y x))) (V (Proc.devRef .tc main_v159) (ix5 b c 0 y x)) := by
  simp only [opsGumbel, TRef.binary, TRef.unary, TRef.nullary, TRef.quaternary, TRef.ternary, TRef.reshape, TRef.toBuf, TRef.ofBuf, cast_eq]
  after_reads_simp
  pointwise
  rfl

/-- The result. -/
theorem out_at : after opsOut V (Proc.devRef .tc main_v181) (ix5 b c 0 y x) =
    Ideal.log (min 1 (max tiny (FloatOps.uitofp (F := Ideal) .f32 (IntOp.cmpi .eq (V (Proc.devRef .tc main_v177) (ix4 b 0 y x)) (BitVec.ofNat 32 c))))) := by
  simp only [opsOut, TRef.binary, TRef.unary, TRef.nullary, TRef.quaternary, TRef.ternary, TRef.reshape, TRef.toBuf, TRef.ofBuf, cast_eq]
  after_reads_simp
  pointwise
  rw [← Ideal.ofBits_one_f32]
  rfl

end

end Cert.ReferenceIdeal.Hand
end
-- ==== Proof.RUnif.lean ====
module

public import proofs.«01_k».proof.Proof.RNoise
public import proofs.«01_k».proof.Proof.Facts

@[expose] public section

set_option maxRecDepth 16384

noncomputable section

/-! The reference's noise: the five groups of the hash run on the cell's number, and the uniform number is the kernel's. -/

namespace Cert.ReferenceIdeal.Hand

open Cert.Model Cert.ReferenceIdeal Cert.ReferenceIdeal.Gen Idealize.ShloMosaic Idealize.ShloMosaic.TcCoe Idealize.SL.Sem Idealize.ShloMosaic.StableHlo

/-- The key words and the range of the uniform number. -/
def Keyed (V : Vals) : Prop :=
  V (Proc.devRef .tc main_call11_v5) ix0 = 0#32 ∧ V (Proc.devRef .tc main_call11_v7) ix0 = 42#32 ∧
    V (Proc.devRef .tc main_call11_call0_v1) ix0 = 466689008#32 ∧
    V (Proc.devRef .tc main_call11_v2) (ix5 0 0 0 0 0) = (0 : EReal) ∧ V (Proc.devRef .tc main_call11_v3) (ix5 0 0 0 0 0) = (1 : EReal)

/-- Two words of a cell. -/
def two (p q : BitVec 32) : BitVec 32 × BitVec 32 := (p, q)

variable {V : Vals}

/-- The first group keeps the key words. -/
theorem Keyed.mix0 (h : Keyed V) : Keyed (after opsMix0 V) := by
  unfold Keyed
  after_reads_simp
  exact h

/-- The second group keeps the key words. -/
theorem Keyed.mix1 (h : Keyed V) : Keyed (after opsMix1 V) := by
  unfold Keyed
  after_reads_simp
  exact h

/-- The third group keeps the key words. -/
theorem Keyed.mix2 (h : Keyed V) : Keyed (after opsMix2 V) := by
  unfold Keyed
  after_reads_simp
  exact h

/-- The fourth group keeps the key words. -/
theorem Keyed.mix3 (h : Keyed V) : Keyed (after opsMix3 V) := by
  unfold Keyed
  after_reads_simp
  exact h

/-- The fifth group keeps the key words. -/
theorem Keyed.mix4 (h : Keyed V) : Keyed (after opsMix4 V) := by
  unfold Keyed
  after_reads_simp
  exact h

/-- The key words at the start. -/
theorem keyed_start (V : Vals) : Keyed (after opsStart (after opsCount (after opsKey V))) := by
  have e0 := (word_0 (after opsKey V)).trans (key_0 V)
  have e1 := (word_1 (after opsKey V)).trans (key_1 V)
  have l0 := low_0 (after opsKey V)
  have l1 := high_1 (after opsKey V)
  have k := start_k (after opsCount (after opsKey V))
  rw [e0, e1] at k
  generalize after opsCount (after opsKey V) = U at e0 e1 l0 l1 k ⊢
  refine ⟨?_, ?_, k.trans rfl, ?_, ?_⟩
  · after_reads_simp; exact e0
  · after_reads_simp; exact e1
  · after_reads_simp; exact l0
  · after_reads_simp; exact l1

section
variable (b : Fin 16) (c : Fin 256) (y x : Fin 64) (p : BitVec 32 × BitVec 32)

/-- The first group on the pair of words. -/
theorem pair0 (h : Keyed V) (e : two (V (Proc.devRef .tc main_call11_call0_v3) (ix5 b c 0 y x)) (V (Proc.devRef .tc main_call11_call0_v5) (ix5 b c 0 y x)) = p) :
    two (after opsMix0 V (Proc.devRef .tc main_call11_call0_v35) (ix5 b c 0 y x)) (after opsMix0 V (Proc.devRef .tc main_call11_call0_v39) (ix5 b c 0 y x)) =
      key 42#32 466689008#32 1#32 (mixA p) := by
  subst e
  have a := mix0_0 V b c y x
  have d := mix0_1 V b c y x
  rw [h.2.1, h.2.2.1] at a d
  exact Prod.ext a d

/-- The second group on the pair of words. -/
theorem pair1 (h : Keyed V) (e : two (V (Proc.devRef .tc main_call11_call0_v35) (ix5 b c 0 y x)) (V (Proc.devRef .tc main_call11_call0_v39) (ix5 b c 0 y x)) = p) :
    two (after opsMix1 V (Proc.devRef .tc main_call11_call0_v69) (ix5 b c 0 y x)) (after opsMix1 V (Proc.devRef .tc main_call11_call0_v73) (ix5 b c 0 y x)) =
      key 466689008#32 0#32 2#32 (mixB p) := by
  subst e
  have a := mix1_0 V b c y x
  have d := mix1_1 V b c y x
  rw [h.2.2.1, h.1] at a d
  exact Prod.ext a d

/-- The third group on the pair of words. -/
theorem pair2 (h : Keyed V) (e : two (V (Proc.devRef .tc main_call11_call0_v69) (ix5 b c 0 y x)) (V (Proc.devRef .tc main_call11_call0_v73) (ix5 b c 0 y x)) = p) :
    two (after opsMix2 V (Proc.devRef .tc main_call11_call0_v103) (ix5 b c 0 y x)) (after opsMix2 V (Proc.devRef .tc main_call11_call0_v107) (ix5 b c 0 y x)) =
      key 0#32 42#32 3#32 (mixA p) := by
  subst e
  have a := mix2_0 V b c y x
  have d := mix2_1 V b c y x
  rw [h.1, h.2.1] at a d
  exact Prod.ext a d

/-- The fourth group on the pair of words. -/
theorem pair3 (h : Keyed V) (e : two (V (Proc.devRef .tc main_call11_call0_v103) (ix5 b c 0 y x)) (V (Proc.devRef .tc main_call11_call0_v107) (ix5 b c 0 y x)) = p) :
    two (after opsMix3 V (Proc.devRef .tc main_call11_call0_v137) (ix5 b c 0 y x)) (after opsMix3 V (Proc.devRef .tc main_call11_call0_v141) (ix5 b c 0 y x)) =
      key 42#32 466689008#32 4#32 (mixB p) := by
  subst e
  have a := mix3_0 V b c y x
  have d := mix3_1 V b c y x
  rw [h.2.1, h.2.2.1] at a d
  exact Prod.ext a d

/-- The fifth group on the pair of words. -/
theorem pair4 (h : Keyed V) (e : two (V (Proc.devRef .tc main_call11_call0_v137) (ix5 b c 0 y x)) (V (Proc.devRef .tc main_call11_call0_v141) (ix5 b c 0 y x)) = p) :
    two (after opsMix4 V (Proc.devRef .tc main_call11_v31_0) (ix5 b c 0 y x)) (after opsMix4 V (Proc.devRef .tc main_call11_v31_1) (ix5 b c 0 y x)) =
      key 466689008#32 0#32 5#32 (mixA p) := by
  subst e
  have a := mix4_0 V b c y x
  have d := mix4_1 V b c y x
  rw [h.2.2.1, h.1] at a d
  exact Prod.ext a d

/-- The two halves of the random word. -/
theorem hash_at (V : Vals) : two
    (after opsMix4 (after opsMix3 (after opsMix2 (after opsMix1 (after opsMix0 (after opsStart (after opsCount (after opsKey V))))))) (Proc.devRef .tc main_call11_v31_0) (ix5 b c 0 y x))
    (after opsMix4 (after opsMix3 (after opsMix2 (after opsMix1 (after opsMix0 (after opsStart (after opsCount (after opsKey V))))))) (Proc.devRef .tc main_call11_v31_1) (ix5 b c 0 y x)) =
    Model.hash (BitVec.ofNat 32 (b.val * 1048576 + c.val * 4096 + y.val * 64 + x.val)) := by
  have k := keyed_start V
  have e : two (after opsStart (after opsCount (after opsKey V)) (Proc.devRef .tc main_call11_call0_v3) (ix5 b c 0 y x))
      (after opsStart (after opsCount (after opsKey V)) (Proc.devRef .tc main_call11_call0_v5) (ix5 b c 0 y x)) =
      (0#32, BitVec.ofNat 32 (b.val * 1048576 + c.val * 4096 + y.val * 64 + x.val) + 42#32) :=
    Prod.ext ((start_0 _ b c y x).trans (congrArg₂ IntOp.addi (count_high (after opsKey V) b c y x) ((word_0 (after opsKey V)).trans (key_0 V))))
      ((start_1 _ b c y x).trans (congrArg₂ IntOp.addi (count_low (after opsKey V) b c y x) ((word_1 (after opsKey V)).trans (key_1 V))))
  have r := pair4 b c y x _ k.mix0.mix1.mix2.mix3 (pair3 b c y x _ k.mix0.mix1.mix2 (pair2 b c y x _ k.mix0.mix1 (pair1 b c y x _ k.mix0 (pair0 b c y x _ k e))))
  rw [r]
  rfl

/-- The uniform number of a cell. -/
theorem uniform_at (V : Vals) :
    after opsUnif (after opsMix4 (after opsMix3 (after opsMix2 (after opsMix1 (after opsMix0 (after opsStart (after opsCount (after opsKey V))))))))
      (Proc.devRef .tc main_v167) (ix5 b c 0 y x) = frac (BitVec.ofNat 32 (b.val * 1048576 + c.val * 4096 + y.val * 64 + x.val)) - 1 := by
  have k := (keyed_start V).mix0.mix1.mix2.mix3.mix4
  have e := hash_at b c y x V
  have u := unif_at (after opsMix4 (after opsMix3 (after opsMix2 (after opsMix1 (after opsMix0 (after opsStart (after opsCount (after opsKey V)))))))) b c y x
  have e0 := congrArg Prod.fst e
  have e1 := congrArg Prod.snd e
  dsimp only [two] at e0 e1
  rw [e0, e1, k.2.2.2.1, k.2.2.2.2] at u
  exact u.trans (uniform_eq _ (one_le_frac _))

end

end Cert.ReferenceIdeal.Hand

end
-- ==== Proof.RArg.lean ====
module

public import proofs.«01_k».proof.Proof.RefOpsB
public import proofs.«01_k».proof.Proof.RHost
public import Idealize.ShloMosaic.Lib.StableHlo.RunRead
public import Idealize.ShloMosaic.Lib.Pointwise
public import proofs.«01_k».proof.Proof.Facts

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-! The reference's two argmaxes over a pixel's classes: the smallest class of largest value. -/

open Cert.Model

/-- The comparator keeps one of its two pairs, and that one is the better. -/
theorem better (p q : EReal × BitVec 32) :
    (reducer_argmax_f32_i32 (F := Ideal) p q = p ∨ reducer_argmax_f32_i32 (F := Ideal) p q = q) ∧
      Below p (reducer_argmax_f32_i32 (F := Ideal) p q) ∧ Below q (reducer_argmax_f32_i32 (F := Ideal) p q) := by
  obtain ⟨a, i⟩ := p
  obtain ⟨b, j⟩ := q
  have e : reducer_argmax_f32_i32 (F := Ideal) (a, i) (b, j) =
      (if b < a then a else b, if b < a ∨ a = b ∧ i.toInt < j.toInt then i else j) := by
    have s : i.slt j = decide (i.toInt < j.toInt) := BitVec.slt_eq_decide
    by_cases h : b < a <;> by_cases h' : a = b <;> by_cases h'' : i.toInt < j.toInt <;>
      simp [reducer_argmax_f32_i32, Ideal.cmpf_def, Ideal.cmp, IntOp.ori, IntOp.andi, IntOp.cmpi, Scalar.select, h, h', h'', s]
  rw [e]
  rcases lt_trichotomy b a with h | h | h
  · simp only [if_pos h, if_pos (Or.inl h : b < a ∨ a = b ∧ i.toInt < j.toInt)]
    exact ⟨by simp, Below.refl _, Or.inl h⟩
  · subst h
    by_cases h'' : i.toInt < j.toInt
    · simp [h'', Below, h''.le]
    · simp [h'', Below, not_lt.mp h'']
  · have n : ¬ (b < a ∨ a = b ∧ i.toInt < j.toInt) := fun o => o.elim h.not_gt fun x => h.ne x.1
    simp only [if_neg h.not_gt, if_neg n]
    exact ⟨by simp, Or.inl h, Below.refl _⟩

/-- An argmax over the classes at a pixel. -/
theorem argmax_first (x : FVec Ideal S16x256x1x64x64 .f32) (b : Fin 16) (y z : Fin 64) :
    IsFirst (fun k => x (ix5 b k 0 y z)) (Host.argReduce reducer_argmax_f32_i32 x (iotaInDim S16x256x1x64x64 32 1)
      (constant (F := Ideal) S_ .f32 4286578688#32) (constantI S_ 32 0#32) reducesTo_S16x256x1x64x64_S16x1x64x64_d1 h_S_ (ix4 b 0 y z)).2 := by
  have e := congrFun (Ideal.argReduce_eq_reduce2 (φ := .f32) reducer_argmax_f32_i32 x (iotaInDim S16x256x1x64x64 32 1)
    (constant (F := Ideal) S_ .f32 4286578688#32) (constantI S_ 32 0#32) reducesTo_S16x256x1x64x64_S16x1x64x64_d1 h_S_) (ix4 b 0 y z)
  rw [e, Host.reduce2_eq_foldl_fiber]
  have i : (constant (F := Ideal) S_ .f32 4286578688#32 (Shape.Idx.first h_S_), constantI S_ 32 0#32 (Shape.Idx.first h_S_)) = ((⊥ : EReal), 0#32) :=
    Prod.ext neg_inf rfl
  rw [i]
  refine foldl_isFirst _ better _ fun p => ?_
  unfold Host.argReduceFiber
  rw [List.mem_map]
  constructor
  · rintro ⟨n, hn, rfl⟩
    obtain ⟨k, hk⟩ := (Shape.ReducesTo.fiber_r5_a1 _ _ _).mp (of_decide_eq_true (List.mem_filter.mp hn).2)
    refine ⟨k, ?_⟩
    rw [← hk]
    rfl
  · rintro ⟨k, rfl⟩
    refine ⟨S16x256x1x64x64.rowMajor (ix5 b k 0 y z), List.mem_filter.mpr ⟨List.mem_finRange _, decide_eq_true ?_⟩, ?_⟩
    · rw [Equiv.symm_apply_apply]
      exact (Shape.ReducesTo.fiber_r5_a1 _ _ _).mpr ⟨k, rfl⟩
    · rw [Equiv.symm_apply_apply]
      rfl

variable (V : Vals) (b : Fin 16) (y x : Fin 64)

/-- The class the input's logarithms name. -/
theorem hot_first : IsFirst (fun k => V (Proc.devRef .tc main_arg0) (ix5 b k 0 y x)) (after opsArgmax V (Proc.devRef .tc main_v0) (ix4 b 0 y x)) := by
  simp only [opsArgmax, TRef.binary, TRef.unary, TRef.nullary, TRef.quaternary, TRef.ternary, TRef.reshape, TRef.toBuf, TRef.ofBuf, cast_eq]
  after_reads_simp
  exact argmax_first _ b y x

/-- The sampled class. -/
theorem sample_first : IsFirst (fun k => V (Proc.devRef .tc main_v176) (ix5 b k 0 y x)) (after opsSample V (Proc.devRef .tc main_v177) (ix4 b 0 y x)) := by
  simp only [opsSample, TRef.binary, TRef.unary, TRef.nullary, TRef.quaternary, TRef.ternary, TRef.reshape, TRef.toBuf, TRef.ofBuf, cast_eq]
  after_reads_simp
  exact argmax_first _ b y x

end Cert.ReferenceIdeal.Hand

end
-- ==== Proof.RTake.lean ====
module

public import proofs.«01_k».proof.Proof.RHost
public import proofs.«01_k».proof.Proof.WordEqs
public import Idealize.ShloMosaic.Lib.StableHlo.RunRead
public import Idealize.ShloMosaic.Lib.Pointwise

@[expose] public section

set_option maxRecDepth 16384

noncomputable section

namespace Cert.ReferenceIdeal.Hand

open Cert.Model Cert.ReferenceIdeal Cert.ReferenceIdeal.Gen Idealize.ShloMosaic Idealize.ShloMosaic.TcCoe Idealize.SL.Sem Idealize.ShloMosaic.StableHlo

/-! The reference's reads of the schedule tables. -/

/-- An entry of a table of 4000, at an index that may run out: from the end when negative, not a number outside. -/
def takeR (tab : FVec Ideal S4000 .f32) (j : IVec S16 32) (b : Fin 16) : EReal :=
  Scalar.select (Finset.fold IntOp.andi 1#1 (fun _ : Fin 1 => IntOp.andi
      (IntOp.cmpi .sge (Scalar.select (IntOp.cmpi .slt (j (ix1 b)) 0#32) (IntOp.addi (j (ix1 b)) 4000#32) (j (ix1 b))) 0#32)
      (IntOp.cmpi .sle (Scalar.select (IntOp.cmpi .slt (j (ix1 b)) 0#32) (IntOp.addi (j (ix1 b)) 4000#32) (j (ix1 b))) 3999#32))
      Finset.univ)
    (Host.gather gather_S4000_S16x1_S16_n_0_n_n_0_1_1 tab (broadcastInDim S16x1 ![0] bcast_S16_S16x1_0
      (select (cmpi .slt j (broadcastInDim S16 ![] bcast_S_S16 (constantI S_ 32 0#32)))
        (addi j (broadcastInDim S16 ![] bcast_S_S16 (constantI S_ 32 4000#32))) j)) (ix1 b))
    (Ideal.ofBits .f32 2143289344#32)

section
variable (V : Vals) (b : Fin 16)

/-- The reference's read of the cumulative logarithm. -/
theorem take_c : after opsTakeC V (Proc.devRef .tc main_v101) (ix5 b 0 0 0 0) =
    takeR (V (Proc.devRef .tc main_cst)) (V (Proc.devRef .tc main_v99)) b := by
  simp only [opsTakeC, TRef.binary, TRef.unary, TRef.nullary, TRef.quaternary, TRef.ternary, TRef.reshape, TRef.toBuf, TRef.ofBuf, cast_eq]
  after_reads_simp
  pointwise
  rfl

/-- The reference's read of the cumulative complement. -/
theorem take_d : after opsTakeD V (Proc.devRef .tc main_v103) (ix5 b 0 0 0 0) =
    takeR (V (Proc.devRef .tc main_cst_0)) (V (Proc.devRef .tc main_v99)) b := by
  simp only [opsTakeD, TRef.binary, TRef.unary, TRef.nullary, TRef.quaternary, TRef.ternary, TRef.reshape, TRef.toBuf, TRef.ofBuf, cast_eq]
  after_reads_simp
  pointwise
  rfl

/-- The reference's read of the step's logarithm. -/
theorem take_a : after opsTakeA V (Proc.devRef .tc main_v127) (ix5 b 0 0 0 0) =
    takeR (V (Proc.devRef .tc main_cst_1)) (V (Proc.devRef .tc main_arg1)) b := by
  simp only [opsTakeA, TRef.binary, TRef.unary, TRef.nullary, TRef.quaternary, TRef.ternary, TRef.reshape, TRef.toBuf, TRef.ofBuf, cast_eq]
  after_reads_simp
  pointwise
  rfl

/-- The reference's read of the step's complement. -/
theorem take_b : after opsTakeB V (Proc.devRef .tc main_v128) (ix1 b) =
    takeR (V (Proc.devRef .tc main_cst_2)) (V (Proc.devRef .tc main_arg1)) b := by
  simp only [opsTakeB, TRef.binary, TRef.unary, TRef.nullary, TRef.quaternary, TRef.ternary, TRef.reshape, TRef.toBuf, TRef.ofBuf, cast_eq]
  after_reads_simp
  pointwise
  rfl

end

end Cert.ReferenceIdeal.Hand
end
-- ==== Proof.RChain.lean ====
module

public import proofs.«01_k».proof.Proof.RUnif
public import proofs.«01_k».proof.Proof.RArg
public import proofs.«01_k».proof.Proof.RHost
public import proofs.«01_k».proof.Proof.RTake
public import proofs.«01_k».proof.Proof.RefRun

@[expose] public section

set_option maxRecDepth 16384

noncomputable section

/-! The reference's stages put together: its result at a pixel's class, from the arguments. -/

namespace Cert.ReferenceIdeal.Hand

open Cert.Model Cert.ReferenceIdeal Cert.ReferenceIdeal.Gen Idealize.ShloMosaic Idealize.ShloMosaic.TcCoe Idealize.SL.Sem Idealize.ShloMosaic.StableHlo

variable (V : Vals)

/-! What every buffer holds after each stage. -/

def u1 : Vals := after opsTables V
def u2 : Vals := after opsArgmax (u1 V)
def u3 : Vals := after opsPad (u2 V)
def u4 : Vals := after (opsConv ++ opsConv') (u3 V)
def u5 : Vals := after opsLogits (u4 V)
def u6 : Vals := after opsSoftmax (u5 V)
def u7 : Vals := after opsPrev (u6 V)
def u8 : Vals := after opsTakeC (u7 V)
def u9 : Vals := after opsTakeD (u8 V)
def u10 : Vals := after (opsPrior ++ opsPrior') (u9 V)
def u11 : Vals := after opsFirst (u10 V)
def u12 : Vals := after opsTakeA (u11 V)
def u13 : Vals := after opsTakeB (u12 V)
def u14 : Vals := after opsStep (u13 V)
def u15 : Vals := after opsNorm (u14 V)
def u16 : Vals := after opsMix4 (after opsMix3 (after opsMix2 (after opsMix1 (after opsMix0 (after opsStart (after opsCount (after opsKey (u15 V))))))))
def u17 : Vals := after opsUnif (u16 V)
def u18 : Vals := after opsGumbel (u17 V)
def u19 : Vals := after opsSample (u18 V)
def u20 : Vals := after opsOut (u19 V)

/-- The whole list is its stages, one after the other. -/
theorem all_stages : after allOps V = u20 V := by
  simp only [allOps, part0, part1, part2, part3, after_app, u20, u19, u18, u17, u16, u15, u14, u13, u12, u11, u10, u9, u8, u7, u6, u5, u4, u3, u2, u1]

/-! What a run of stages leaves alone. -/

/-- The stages so far keep this argument. -/
theorem x1 : u1 V (Proc.devRef .tc main_arg0) = V (Proc.devRef .tc main_arg0) := by
  simp only [u1]
  after_reads_simp

/-- The stages so far keep this argument. -/
theorem w3 : u3 V (Proc.devRef .tc main_arg2) = V (Proc.devRef .tc main_arg2) := by
  simp only [u3, u2, u1]
  after_reads_simp

/-- The stages so far keep this argument. -/
theorem b4 : u4 V (Proc.devRef .tc main_arg3) = V (Proc.devRef .tc main_arg3) := by
  simp only [u4, u3, u2, u1]
  after_reads_simp

/-- The stages so far keep this argument. -/
theorem t4 : u4 V (Proc.devRef .tc main_arg1) = V (Proc.devRef .tc main_arg1) := by
  simp only [u4, u3, u2, u1]
  after_reads_simp

/-- The stages between keep this array. -/
theorem hot4 : u4 V (Proc.devRef .tc main_v0) = u2 V (Proc.devRef .tc main_v0) := by
  simp only [u4, u3]
  after_reads_simp

/-- The stages between keep this array. -/
theorem t6 : u6 V (Proc.devRef .tc main_arg1) = u4 V (Proc.devRef .tc main_arg1) := by
  simp only [u6, u5]
  after_reads_simp

/-- The stages between keep this array. -/
theorem cst7 : u7 V (Proc.devRef .tc main_cst) = u1 V (Proc.devRef .tc main_cst) := by
  simp only [u7, u6, u5, u4, u3, u2]
  after_reads_simp

/-- The stages between keep this array. -/
theorem cst8 : u8 V (Proc.devRef .tc main_cst_0) = u1 V (Proc.devRef .tc main_cst_0) := by
  simp only [u8, u7, u6, u5, u4, u3, u2]
  after_reads_simp

/-- The stages between keep this array. -/
theorem prev8 : u8 V (Proc.devRef .tc main_v99) = u7 V (Proc.devRef .tc main_v99) := by
  simp only [u8]
  after_reads_simp

/-- The stages between keep this array. -/
theorem soft9 : u9 V (Proc.devRef .tc main_v91) = u6 V (Proc.devRef .tc main_v91) := by
  simp only [u9, u8, u7]
  after_reads_simp

/-- The stages between keep this array. -/
theorem c9 : u9 V (Proc.devRef .tc main_v101) = u8 V (Proc.devRef .tc main_v101) := by
  simp only [u9]
  after_reads_simp

/-- The stages between keep this array. -/
theorem soft10 : u10 V (Proc.devRef .tc main_v91) = u9 V (Proc.devRef .tc main_v91) := by
  simp only [u10]
  after_reads_simp

/-- The stages between keep this array. -/
theorem t10 : u10 V (Proc.devRef .tc main_arg1) = u6 V (Proc.devRef .tc main_arg1) := by
  simp only [u10, u9, u8, u7]
  after_reads_simp

/-- The stages between keep this array. -/
theorem t11 : u11 V (Proc.devRef .tc main_arg1) = u10 V (Proc.devRef .tc main_arg1) := by
  simp only [u11]
  after_reads_simp

/-- The stages between keep this array. -/
theorem t12 : u12 V (Proc.devRef .tc main_arg1) = u11 V (Proc.devRef .tc main_arg1) := by
  simp only [u12]
  after_reads_simp

/-- The stages between keep this array. -/
theorem cst11 : u11 V (Proc.devRef .tc main_cst_1) = u1 V (Proc.devRef .tc main_cst_1) := by
  simp only [u11, u10, u9, u8, u7, u6, u5, u4, u3, u2]
  after_reads_simp

/-- The stages between keep this array. -/
theorem cst12 : u12 V (Proc.devRef .tc main_cst_2) = u1 V (Proc.devRef .tc main_cst_2) := by
  simp only [u12, u11, u10, u9, u8, u7, u6, u5, u4, u3, u2]
  after_reads_simp

/-- The stages between keep this array. -/
theorem first13 : u13 V (Proc.devRef .tc main_v125) = u11 V (Proc.devRef .tc main_v125) := by
  simp only [u13, u12]
  after_reads_simp

/-- The stages so far keep this argument. -/
theorem x13 : u13 V (Proc.devRef .tc main_arg0) = V (Proc.devRef .tc main_arg0) := by
  simp only [u13, u12, u11, u10, u9, u8, u7, u6, u5, u4, u3, u2, u1]
  after_reads_simp

/-- The stages between keep this array. -/
theorem a13 : u13 V (Proc.devRef .tc main_v127) = u12 V (Proc.devRef .tc main_v127) := by
  simp only [u13]
  after_reads_simp

/-- The stages between keep this array. -/
theorem norm17 : u17 V (Proc.devRef .tc main_v159) = u15 V (Proc.devRef .tc main_v159) := by
  simp only [u17, u16]
  after_reads_simp

section
variable (b : Fin 16) (c : Fin 256) (y x : Fin 64)

/-- The hot class of a pixel. -/
def hotR (b : Fin 16) (y x : Fin 64) : BitVec 32 := u2 V (Proc.devRef .tc main_v0) (ix4 b 0 y x)

/-- The class read off a column is its first largest. -/
theorem hotR_first : IsFirst (fun k => V (Proc.devRef .tc main_arg0) (ix5 b k 0 y x)) (hotR V b y x) := by
  have e := hot_first (u1 V) b y x
  rw [x1] at e
  exact e

/-- A pixel's logits. -/
def logitsR (b : Fin 16) (y x : Fin 64) (c : Fin 256) : EReal :=
  logit (fun i j => V (Proc.devRef .tc main_arg2) (ix4 c 0 i j)) (V (Proc.devRef .tc main_arg3) (ix1 c)) (V (Proc.devRef .tc main_arg1) (ix1 b))
    (hotR V b) y x c

/-- The border's number is zero. -/
theorem zero3 : u3 V (Proc.devRef .tc main_call1_v0) (Shape.Idx.first h_S_) = (0 : EReal) :=
  (pad_zero (u2 V)).trans ((sitofp_eq_zero 0#32).mpr rfl)

/-- The picture of the classes. -/
theorem img3 : (fun (y x : Fin 64) => u3 V (Proc.devRef .tc main_v3) (ix4 b 0 y x)) = fun y x => img (hotR V b y x) :=
  funext fun y => funext fun x => pad_img (u2 V) b y x

/-- The convolution at a class and pixel. -/
theorem conv4 : u4 V (Proc.devRef .tc main_v77) (ix4 b c y x) =
    conv9 (fun i j => V (Proc.devRef .tc main_arg2) (ix4 c 0 i j)) (edge (fun y x => img (hotR V b y x)) 0) y x := by
  have e := conv_at (u3 V) b c y x
  rw [zero3, img3, w3] at e
  exact e

/-- The logit, with the bias and the step's share added one after the other. -/
theorem logit_assoc (w : Fin 3 → Fin 3 → EReal) (bias : EReal) (t : BitVec 32) (hot : Fin 64 → Fin 64 → BitVec 32) :
    plus (plus (plus (conv9 w (edge (fun y x => img (hot y x)) 0) y x) bias) (Ideal.div (FloatOps.sitofp (F := Ideal) .f32 t) (Ideal.ofBits .f32 1165623296#32)))
      (FloatOps.uitofp (F := Ideal) .f32 (IntOp.cmpi .eq (hot y x) (BitVec.ofNat 32 c))) = logit w bias t hot y x c := by
  unfold logit time plus
  rw [cmpi_eq_word, add_assoc (conv9 _ _ _ _)]
  by_cases h : hot y x = BitVec.ofNat 32 c
  · rw [if_pos h, if_pos h.symm]
  · rw [if_neg h, if_neg fun e => h e.symm]

/-- The logits. -/
theorem logits5 : u5 V (Proc.devRef .tc main_v90) (ix5 b c 0 y x) = logitsR V b y x c := by
  have e := logits_at (u4 V) b c y x
  rw [conv4, b4, t4, hot4] at e
  have h : u2 V (Proc.devRef .tc main_v0) (ix4 b 0 y x) = hotR V b y x := rfl
  rw [h, logit_assoc] at e
  unfold logitsR
  exact e

/-- Their log-softmax. -/
theorem soft6 : u6 V (Proc.devRef .tc main_v91) (ix5 b c 0 y x) = logSoft (logitsR V b y x) c :=
  (soft_at (u5 V) b c y x).trans (congrArg (fun f => logSoft f c) (funext fun k => logits5 V b k y x))

/-- The step before every step, at least zero. -/
def prevR : IVec S16 32 := fun i => IntOp.maxsi (IntOp.subi (V (Proc.devRef .tc main_arg1) i) 1#32) 0#32

/-- The step before, not below zero. -/
theorem prev7 : u7 V (Proc.devRef .tc main_v99) = prevR V := by
  funext z
  obtain ⟨b, rfl⟩ : ∃ b : Fin 16, z = (ix1 b : S16.Idx) := ⟨z 0, by funext a; fin_cases a; rfl⟩
  have e := prev_at (u6 V) b
  rw [t6, t4] at e
  refine e.trans ?_
  rw [clamp]
  rfl

/-- The scalars of an image. -/
abbrev lcaR : EReal := takeR (tab0 (F := Ideal)) (prevR V) b
abbrev l1caR : EReal := takeR (tab1 (F := Ideal)) (prevR V) b
abbrev laR : EReal := takeR (tab2 (F := Ideal)) (V (Proc.devRef .tc main_arg1)) b
abbrev l1aR : EReal := takeR (tab3 (F := Ideal)) (V (Proc.devRef .tc main_arg1)) b

/-- The table of cumulative logarithms is written. -/
theorem tab_0 : u1 V (Proc.devRef .tc main_cst) = tab0 (F := Ideal) := by
  simp only [u1, opsTables]; after_reads_simp
/-- The table of cumulative complements is written. -/
theorem tab_1 : u1 V (Proc.devRef .tc main_cst_0) = tab1 (F := Ideal) := by
  simp only [u1, opsTables]; after_reads_simp
/-- The table of one step's logarithms is written. -/
theorem tab_2 : u1 V (Proc.devRef .tc main_cst_1) = tab2 (F := Ideal) := by
  simp only [u1, opsTables]; after_reads_simp
/-- The table of one step's complements is written. -/
theorem tab_3 : u1 V (Proc.devRef .tc main_cst_2) = tab3 (F := Ideal) := by
  simp only [u1, opsTables]; after_reads_simp

/-- The cumulative logarithm read at the step before. -/
theorem c8 : u8 V (Proc.devRef .tc main_v101) (ix5 b 0 0 0 0) = lcaR V b :=
  (take_c (u7 V) b).trans (by rw [cst7, tab_0, prev7])

/-- The cumulative complement read at the step before. -/
theorem d9 : u9 V (Proc.devRef .tc main_v103) (ix5 b 0 0 0 0) = l1caR V b :=
  (take_d (u8 V) b).trans (by rw [cst8, tab_1, prev8, prev7])

/-- The prior's part, as at a later step. -/
theorem prior10 : u10 V (Proc.devRef .tc main_v117) (ix5 b c 0 y x) =
    logAdd (plus (logSoft (logitsR V b y x) c) (lcaR V b)) (minus (l1caR V b) log256) := by
  have e := prior_at (u9 V) b c y x
  rw [soft9, soft6, c9, c8, d9] at e
  exact e

/-- The prior's part, step zero apart. -/
theorem first11 : u11 V (Proc.devRef .tc main_v125) (ix5 b c 0 y x) =
    if V (Proc.devRef .tc main_arg1) (ix1 b) = 0#32 then logSoft (logitsR V b y x) c
    else logAdd (plus (logSoft (logitsR V b y x) c) (lcaR V b)) (minus (l1caR V b) log256) := by
  have e := first_at (u10 V) b c y x
  rw [prior10, soft10, soft9, soft6, t10, t6, t4] at e
  exact e.trans (if_congr (sitofp_eq_zero _) rfl rfl)

/-- The step's logarithm read. -/
theorem a12 : u12 V (Proc.devRef .tc main_v127) (ix5 b 0 0 0 0) = laR V b :=
  (take_a (u11 V) b).trans (by rw [cst11, tab_2, t11, t10, t6, t4])

/-- The step's complement read. -/
theorem b13 : u13 V (Proc.devRef .tc main_v128) (ix1 b) = l1aR V b :=
  (take_b (u12 V) b).trans (by rw [cst12, tab_3, t12, t11, t10, t6, t4])

/-- The posterior of a class at a pixel. -/
def postR (k : Fin 256) : EReal :=
  Model.post (V (Proc.devRef .tc main_arg1) (ix1 b)) (logSoft (logitsR V b y x) k) (lcaR V b) (l1caR V b)
    (V (Proc.devRef .tc main_arg0) (ix5 b k 0 y x)) (laR V b) (l1aR V b)

/-- The unnormalised log posterior. -/
theorem step14 : u14 V (Proc.devRef .tc main_v144) (ix5 b c 0 y x) = postR V b y x c := by
  have e := step_at (u13 V) b c y x
  rw [first13, first11, x13, a13, a12, b13] at e
  exact e

/-- The log posterior. -/
theorem norm15 : u15 V (Proc.devRef .tc main_v159) (ix5 b c 0 y x) = normed (postR V b y x) c :=
  (norm_at (u14 V) b c y x).trans (congrArg (fun f => normed f c) (funext fun k => step14 V b k y x))

/-- A candidate: the noise and the normalised posterior. -/
theorem cand18 : u18 V (Proc.devRef .tc main_v176) (ix5 b c 0 y x) =
    plus (gum (frac (BitVec.ofNat 32 (b.val * 1048576 + c.val * 4096 + y.val * 64 + x.val)) - 1)) (normed (postR V b y x) c) := by
  have e := gumbel_at (u17 V) b c y x
  have n : u17 V (Proc.devRef .tc main_v167) (ix5 b c 0 y x) = frac (BitVec.ofNat 32 (b.val * 1048576 + c.val * 4096 + y.val * 64 + x.val)) - 1 :=
    uniform_at b c y x (u15 V)
  rw [norm17, norm15, n] at e
  exact e

/-- The reference's result at a pixel's class. -/
theorem out_pix : ∃ r, IsFirst (fun k => plus (gum (frac (BitVec.ofNat 32 (b.val * 1048576 + k.val * 4096 + y.val * 64 + x.val)) - 1)) (normed (postR V b y x) k)) r ∧
    after allOps V (Proc.devRef .tc main_v181) (ix5 b c 0 y x) = Ideal.log (min 1 (max tiny (if r = BitVec.ofNat 32 c then 1 else 0))) := by
  refine ⟨u19 V (Proc.devRef .tc main_v177) (ix4 b 0 y x), ?_, ?_⟩
  · have e := sample_first (u18 V) b y x
    rw [funext fun k => cand18 V b k y x] at e
    exact e
  · rw [all_stages]
    refine (out_at (u19 V) b c y x).trans ?_
    rw [cmpi_eq_word]

end

end Cert.ReferenceIdeal.Hand

end
-- ==== Proof.Tables.lean ====
module

public import proofs.«01_k».proof.KernelIdeal
public import proofs.«01_k».proof.ReferenceIdeal

@[expose] public section

set_option maxRecDepth 16384

noncomputable section

/-! The two programs hold the same four schedule tables, in another order. -/

namespace Cert.Model

/-- The tables of cumulative logarithms. -/
theorem table_lca : ∀ i : Fin 4000, Cert.KernelIdeal.lit2 i = Cert.ReferenceIdeal.lit0 i := by decide +kernel

/-- The tables of cumulative complements. -/
theorem table_l1ca : ∀ i : Fin 4000, Cert.KernelIdeal.lit3 i = Cert.ReferenceIdeal.lit1 i := by decide +kernel

/-- The tables of one step's logarithms. -/
theorem table_la : ∀ i : Fin 4000, Cert.KernelIdeal.lit0 i = Cert.ReferenceIdeal.lit2 i := by decide +kernel

/-- The tables of one step's complements. -/
theorem table_l1a : ∀ i : Fin 4000, Cert.KernelIdeal.lit1 i = Cert.ReferenceIdeal.lit3 i := by decide +kernel

end Cert.Model

end
-- ==== Proof.Pre.lean ====
module

public import proofs.«01_k».proof.Pre_log_one_hot
public import proofs.«01_k».proof.Proof.Facts
public import Idealize.ShloMosaic.Lib.ReduceAll
public import Idealize.ShloMosaic.Lib.Pointwise

@[expose] public section

set_option maxRecDepth 16384

noncomputable section

/-! The precondition, read: every pixel's column is a zero among cold entries. -/

namespace Cert.Pre_log_one_hot

open Cert.Model Idealize.ShloMosaic

/-- The shape relations of the precondition's operations. -/
theorem facts : Facts where
  bcast_S_S16x256x1x64x64 := by decide
  natLt_1_32 := by decide
  reducesTo_S16x256x1x64x64_S16x1x64x64_d1 := by decide
  h_S_ := by decide
  bcast_S_S16x1x64x64 := by decide
  reducesTo_S16x256x1x64x64_S_d0_1_2_3_4 := by decide
  reducesTo_S16x1x64x64_S_d0_1_2_3 := by decide

attribute [local instance] facts

/-- Words that compare equal are equal. -/
theorem word_of_eq {p q : BitVec 32} (h : IntOp.cmpi .eq p q = 1#1) : p = q := by
  by_contra e
  have hb : (p == q) = false := by simpa using e
  simp [IntOp.cmpi, hb] at h

/-- Where the precondition holds, every pixel's column is one-hot. -/
theorem oneHot (X : FVec Ideal S16x256x1x64x64 .f32) (T : IVec S16 32) (W : FVec Ideal S256x1x3x3 .f32) (B : FVec Ideal S256 .f32)
    (h : fn X T W B = fun _ => 1#1) (b : Fin 16) (y x : Fin 64) : ∃ k, OneHot (fun k => X (ix5 b k 0 y x)) k := by
  have h0 := congrFun h ix0
  simp only [fn] at h0
  obtain ⟨h1, h2⟩ := IntOp.andi_eq_one.mp h0
  have a := fun k => Host.reduce_andi_all _ _ _ _ _ h1 (ix5 b k 0 y x : S16x256x1x64x64.Idx)
  have n := Host.reduce_andi_all _ _ _ _ _ h2 (ix4 b 0 y x : S16x1x64x64.Idx)
  clear h0 h1 h2
  refine oneHot_of_count (fun k => ?_) ?_
  · have e := a k
    pointwise at e
    by_cases z : X (ix5 b k 0 y x) = 0
    · exact Or.inl z
    · by_cases z' : X (ix5 b k 0 y x) = cold
      · exact Or.inr z'
      · rw [decide_eq_false z, decide_eq_false (p := X (ix5 b k 0 y x) = Ideal.ofBits .f32 3263834037#32) z'] at e
        exact absurd e (by decide)
  · pointwise at n
    refine .trans (congrArg (fun f => Finset.fold IntOp.addi 0#32 f Finset.univ) (funext fun k => ?_)) (word_of_eq n)
    by_cases z : X (ix5 b k 0 y x) = 0
    · rw [if_pos z, decide_eq_true z]; rfl
    · rw [if_neg z, decide_eq_false z]; rfl

end Cert.Pre_log_one_hot

end
-- ==== Proof.Equal.lean ====
module

public import proofs.«01_k».proof.Proof.KEnd
public import proofs.«01_k».proof.Proof.RChain
public import proofs.«01_k».proof.Proof.Tables
public import proofs.«01_k».proof.Proof.Pre

@[expose] public section

set_option maxRecDepth 16384

noncomputable section

/-! The two programs' results are the same: the same posterior, whose normalisation keeps the order of the candidates, so the
same class is drawn. -/

namespace Cert.Equal

open Cert.Model Idealize.ShloMosaic Idealize.ShloMosaic.TcCoe Idealize.SL.Sem Idealize.ShloMosaic.StableHlo

/-- Reading a table's entry is the same in both programs. -/
theorem take_eq (t : FVec Ideal Cert.KernelIdeal.S4000 .f32) (j : IVec Cert.KernelIdeal.S16 32) (b : Fin 16) :
    Cert.KernelIdeal.Hand.takeK t j b = Cert.ReferenceIdeal.Hand.takeR t j b := rfl

/-- The kernel's table of cumulative logarithms is the reference's. -/
theorem tabC_eq : Cert.KernelIdeal.Hand.tabC = Cert.ReferenceIdeal.Hand.tab0 (F := Ideal) :=
  funext fun i => congrArg (Ideal.ofBits .f32) (table_lca _)
/-- The kernel's table of the cumulative complements is the reference's. -/
theorem tabD_eq : Cert.KernelIdeal.Hand.tabD = Cert.ReferenceIdeal.Hand.tab1 (F := Ideal) :=
  funext fun i => congrArg (Ideal.ofBits .f32) (table_l1ca _)
/-- The kernel's table of one step's logarithms is the reference's. -/
theorem tabA_eq : Cert.KernelIdeal.Hand.tabA = Cert.ReferenceIdeal.Hand.tab2 (F := Ideal) :=
  funext fun i => congrArg (Ideal.ofBits .f32) (table_la _)
/-- The kernel's table of one step's complements is the reference's. -/
theorem tabB_eq : Cert.KernelIdeal.Hand.tabB = Cert.ReferenceIdeal.Hand.tab3 (F := Ideal) :=
  funext fun i => congrArg (Ideal.ofBits .f32) (table_l1a _)

/-- A class's log posterior is below infinity. -/
theorem post_lt_top (t : BitVec 32) (f : Fin 256 → EReal) (k : Fin 256) (lca l1ca x la l1a : EReal) :
    Model.post t (logSoft f k) lca l1ca x la l1a < ⊤ := by
  unfold Model.post
  refine EReal.add_lt_top (ne_of_lt ?_) (logAdd_lt_top _ _).ne
  split
  · exact logSoft_lt_top _ _
  · exact logAdd_lt_top _ _

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V : Cert.ReferenceIdeal.Hand.Vals)

open Cert.KernelIdeal.Hand Cert.ReferenceIdeal.Hand

section
variable (hX : (V (Proc.devRef .tc Cert.ReferenceIdeal.main_arg0) : FVec Ideal Cert.ReferenceIdeal.S16x256x1x64x64 .f32) = inX m c)
  (hT : (V (Proc.devRef .tc Cert.ReferenceIdeal.main_arg1) : IVec Cert.ReferenceIdeal.S16 32) = inT m c)
  (hW : (V (Proc.devRef .tc Cert.ReferenceIdeal.main_arg2) : FVec Ideal Cert.ReferenceIdeal.S256x1x3x3 .f32) = inW m c)
  (hB : (V (Proc.devRef .tc Cert.ReferenceIdeal.main_arg3) : FVec Ideal Cert.ReferenceIdeal.S256 .f32) = inB m c)
  (hot : ∀ b y x, ∃ k, OneHot (fun k => inX m c (ix5 b k 0 y x)) k)
include hX hot

/-- Both programs read the same class off a pixel's column. -/
theorem hot_eq (b : Fin 16) : hotR V b = hotPix m c b := by
  funext y x
  obtain ⟨k, hk⟩ := hot b y x
  have e := hotR_first V b y x
  rw [hX] at e
  exact (e.unique hk.isFirst).trans hk.scan.symm

include hT hW hB

/-- The programs' logits agree. -/
theorem logits_eq (b : Fin 16) (y x : Fin 64) : logitsR V b y x = logitsM m c b y x := by
  funext d
  unfold logitsR logitsM
  rw [hot_eq m c V hX hot, hT, hW, hB]

/-- The programs' unnormalised log posteriors agree. -/
theorem post_eq (b : Fin 16) (y x : Fin 64) : postR V b y x = postM m c b y x := by
  funext k
  unfold postR postM lcaR l1caR laR l1aR lcaK l1caK laK l1aK prevR prevT
  rw [logits_eq m c V hX hT hW hB hot, hT, hX, tabA_eq, tabB_eq, tabC_eq, tabD_eq]
  simp only [take_eq]

/-- The results agree at a pixel's class. -/
theorem pixel (b : Fin 16) (d : Fin 256) (y x : Fin 64) :
    after allOps V (Proc.devRef .tc Cert.ReferenceIdeal.main_v181) (ix5 b d 0 y x) =
      Cert.KernelIdeal.Gen.W19 m ρ c (Proc.devRef .tc Cert.KernelIdeal.main_v83) (ix5 b d 0 y x) := by
  obtain ⟨r, hr, e⟩ := Cert.ReferenceIdeal.Hand.out_pix V b d y x
  obtain ⟨j, hj⟩ := hot b y x
  refine e.trans (.trans ?_ (Cert.KernelIdeal.Hand.out_pix m ρ c b d y x j hj).symm)
  rw [post_eq m c V hX hT hW hB hot] at hr
  have o : r = firstMax (fun k => postM m c b y x k + noise b y x k) :=
    (hr.of_order fun j k => normed_order (postM m c b y x) (noise b y x) (fun k => post_lt_top _ _ _ _ _ _ _ _) j k).unique (firstMax_isFirst _)
  rw [o, clip_log]
  unfold hotK
  exact if_congr eq_comm rfl rfl

end

end Cert.Equal

end
-- ==== Proof.lean ====
/- The certificate: the frames of the three programs, the renaming of the kernel's constant, and the equality of the kernel's
   results and the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefFrame
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem

/-- The constant's new name has the value the certificate's table gives it. -/
theorem preserves : Cert.preserves_Kernel_KernelIdeal :=
  IdealRules.named_const.statement Cert.KernelIdeal.κ "log_eps" .f32 0xC28A27B5#32
    ((Real.log (332307 / 332306998946228968225951765070086144) : ℝ) : EReal) rfl

/-- Where the input is one-hot in logarithms, both programs end with the same results and unchanged arguments. -/
theorem algebraic : Cert.algebraic_KernelIdeal_ReferenceIdeal_pre_log_one_hot (hKernelIdeal := Cert.KernelIdeal.Gen.facts)
    (hReferenceIdeal := Cert.ReferenceIdeal.Gen.facts) (hPre_log_one_hot := Cert.Pre_log_one_hot.facts) := by
  intro m g m' g' pre args
  refine ⟨fun c => Cert.KernelIdeal.Gen.W19 m g c (Proc.devRef .tc Cert.KernelIdeal.main_v83), Cert.KernelIdeal.Hand.run m g, ?_⟩
  refine (θ_run Cert.ReferenceIdeal.defs _ _).mono (fun r h c => ⟨(h c).1.trans ?_, (h c).2⟩) (Cert.ReferenceIdeal.Hand.run_args m' g')
  obtain ⟨e0, e1, e2, e3⟩ := args c
  funext z
  obtain ⟨b, d, y, x, rfl⟩ : ∃ (b : Fin 16) (d : Fin 256) (y x : Fin 64), z = (ix5 b d 0 y x : Cert.ReferenceIdeal.S16x256x1x64x64.Idx) :=
    ⟨z 0, z 1, z 3, z 4, by funext a; fin_cases a <;> first | rfl | exact Subsingleton.elim (α := Fin 1) _ _⟩
  exact Cert.Equal.pixel m g c (StableHlo.launchContents m' c) e0 e1 e2 e3 (Cert.Pre_log_one_hot.oneHot _ _ _ _ (pre c)) b d y x

theorem claim : Cert.Claim :=
  ⟨Cert.Kernel.Gen.facts, Cert.KernelIdeal.Gen.facts, Cert.ReferenceIdeal.Gen.facts, Cert.Pre_log_one_hot.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Hand.frame m ρ,
    fun m ρ _ => Cert.ReferenceIdeal.Hand.frame m ρ,
    preserves, algebraic⟩

end Cert.Proof

end
